-- ==== Defs.lean ====
def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_scores [hPre_finite_scores : Cert.Pre_finite_scores.Facts] (m : (ℓ : Loc Cert.MobaIdeal.nD Cert.MobaIdeal.τ Cert.MobaIdeal.sig) → Buf (Elt Ideal) ℓ) : Prop :=
  ∀ c : Dev Cert.MobaIdeal.nD,
    (Cert.Pre_finite_scores.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_scores [hPre_finite_scores : Cert.Pre_finite_scores.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_scores.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnLastS (m : (ℓ : Loc Cert.FfnLastS.nD Cert.FfnLastS.τ Cert.FfnLastS.sig) → Buf (Elt Bits) ℓ) : Prop :=
  True

def Pre_FfnLastSIdeal (m : (ℓ : Loc Cert.FfnLastSIdeal.nD Cert.FfnLastSIdeal.τ Cert.FfnLastSIdeal.sig) → Buf (Elt Ideal) ℓ) : Prop :=
  True

def Pre_FfnLastSRefIdeal (m : (ℓ : Loc Cert.FfnLastSRefIdeal.nD Cert.FfnLastSRefIdeal.τ Cert.FfnLastSRefIdeal.sig) → Buf (Elt Ideal) ℓ) : Prop :=
  True

def Pre_SconvS (m : (ℓ : Loc Cert.SconvS.nD Cert.SconvS.τ Cert.SconvS.sig) → Buf (Elt Bits) ℓ) : Prop :=
  True

def Pre_SconvSIdeal (m : (ℓ : Loc Cert.SconvSIdeal.nD Cert.SconvSIdeal.τ Cert.SconvSIdeal.sig) → Buf (Elt Ideal) ℓ) : Prop :=
  True

def Pre_SconvSRefIdeal (m : (ℓ : Loc Cert.SconvSRefIdeal.nD Cert.SconvSRefIdeal.τ Cert.SconvSRefIdeal.sig) → Buf (Elt Ideal) ℓ) : Prop :=
  True

def Pre_ConfS (m : (ℓ : Loc Cert.ConfS.nD Cert.ConfS.τ Cert.ConfS.sig) → Buf (Elt Bits) ℓ) : Prop :=
  True

def Pre_ConfSIdeal (m : (ℓ : Loc Cert.ConfSIdeal.nD Cert.ConfSIdeal.τ Cert.ConfSIdeal.sig) → Buf (Elt Ideal) ℓ) : Prop :=
  True

def Pre_ConfSRefIdeal (m : (ℓ : Loc Cert.ConfSRefIdeal.nD Cert.ConfSRefIdeal.τ Cert.ConfSRefIdeal.sig) → Buf (Elt Ideal) ℓ) : Prop :=
  True

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3)
      ∧ r.2.mem ((c.tc : Thread Cert.Sconv.nD Cert.Sconv.τ).loc Cert.Sconv.main_arg4) = m ((c.tc : Thread Cert.Sconv.nD Cert.Sconv.τ).loc Cert.Sconv.main_arg4))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
      ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)
      ∧ r.2.mem ((c.tc : Thread Cert.SconvRefIdeal.nD Cert.SconvRefIdeal.τ).loc Cert.SconvRefIdeal.main_arg4) = m ((c.tc : Thread Cert.SconvRefIdeal.nD Cert.SconvRefIdeal.τ).loc Cert.SconvRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5)
      ∧ r.2.mem ((c.tc : Thread Cert.Conf.nD Cert.Conf.τ).loc Cert.Conf.main_arg6) = m ((c.tc : Thread Cert.Conf.nD Cert.Conf.τ).loc Cert.Conf.main_arg6)
      ∧ r.2.mem ((c.tc : Thread Cert.Conf.nD Cert.Conf.τ).loc Cert.Conf.main_arg7) = m ((c.tc : Thread Cert.Conf.nD Cert.Conf.τ).loc Cert.Conf.main_arg7))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
      ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
      ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5)
      ∧ r.2.mem ((c.tc : Thread Cert.ConfRefIdeal.nD Cert.ConfRefIdeal.τ).loc Cert.ConfRefIdeal.main_arg6) = m ((c.tc : Thread Cert.ConfRefIdeal.nD Cert.ConfRefIdeal.τ).loc Cert.ConfRefIdeal.main_arg6)
      ∧ r.2.mem ((c.tc : Thread Cert.ConfRefIdeal.nD Cert.ConfRefIdeal.τ).loc Cert.ConfRefIdeal.main_arg7) = m ((c.tc : Thread Cert.ConfRefIdeal.nD Cert.ConfRefIdeal.τ).loc Cert.ConfRefIdeal.main_arg7))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaIdeal_pre_finite_scores [hMobaIdeal : Cert.MobaIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_scores m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRefIdeal_pre_finite_scores [hMobaRefIdeal : Cert.MobaRefIdeal.Facts] [hPre_finite_scores : Cert.Pre_finite_scores.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_scores m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnLastS [hFfnLastS : Cert.FfnLastS.Facts] : Prop :=
  ∀ (m : (ℓ : Loc Cert.FfnLastS.nD Cert.FfnLastS.τ Cert.FfnLastS.sig) → Buf (Elt Bits) ℓ) (g : Dev Cert.FfnLastS.nD → PrngReg), Pre_FfnLastS m →
    θ_run (Cert.FfnLastS.defs (F := Bits)) (onTc (τ := Cert.FfnLastS.τ) (Cert.FfnLastS.main (F := Bits))) ⟨m, fun _ => 0, g⟩ (fun r => (∀ c : Dev Cert.FfnLastS.nD,
      r.2.mem ((c.tc : Thread Cert.FfnLastS.nD Cert.FfnLastS.τ).loc Cert.FfnLastS.main_arg0) = m ((c.tc : Thread Cert.FfnLastS.nD Cert.FfnLastS.τ).loc Cert.FfnLastS.main_arg0)
      ∧ r.2.mem ((c.tc : Thread Cert.FfnLastS.nD Cert.FfnLastS.τ).loc Cert.FfnLastS.main_arg1) = m ((c.tc : Thread Cert.FfnLastS.nD Cert.FfnLastS.τ).loc Cert.FfnLastS.main_arg1)
      ∧ r.2.mem ((c.tc : Thread Cert.FfnLastS.nD Cert.FfnLastS.τ).loc Cert.FfnLastS.main_arg2) = m ((c.tc : Thread Cert.FfnLastS.nD Cert.FfnLastS.τ).loc Cert.FfnLastS.main_arg2)
      ∧ r.2.mem ((c.tc : Thread Cert.FfnLastS.nD Cert.FfnLastS.τ).loc Cert.FfnLastS.main_arg3) = m ((c.tc : Thread Cert.FfnLastS.nD Cert.FfnLastS.τ).loc Cert.FfnLastS.main_arg3)
      ∧ r.2.mem ((c.tc : Thread Cert.FfnLastS.nD Cert.FfnLastS.τ).loc Cert.FfnLastS.main_arg4) = m ((c.tc : Thread Cert.FfnLastS.nD Cert.FfnLastS.τ).loc Cert.FfnLastS.main_arg4))
      ∧ r.2.sem = fun _ => 0)

def quiescent_FfnLastSIdeal [hFfnLastSIdeal : Cert.FfnLastSIdeal.Facts] : Prop :=
  ∀ (m : (ℓ : Loc Cert.FfnLastSIdeal.nD Cert.FfnLastSIdeal.τ Cert.FfnLastSIdeal.sig) → Buf (Elt Ideal) ℓ) (g : Dev Cert.FfnLastSIdeal.nD → PrngReg), Pre_FfnLastSIdeal m →
    θ_run (Cert.FfnLastSIdeal.defs (F := Ideal)) (onTc (τ := Cert.FfnLastSIdeal.τ) (Cert.FfnLastSIdeal.main (F := Ideal))) ⟨m, fun _ => 0, g⟩ (fun r => (∀ c : Dev Cert.FfnLastSIdeal.nD,
      r.2.mem ((c.tc : Thread Cert.FfnLastSIdeal.nD Cert.FfnLastSIdeal.τ).loc Cert.FfnLastSIdeal.main_arg0) = m ((c.tc : Thread Cert.FfnLastSIdeal.nD Cert.FfnLastSIdeal.τ).loc Cert.FfnLastSIdeal.main_arg0)
      ∧ r.2.mem ((c.tc : Thread Cert.FfnLastSIdeal.nD Cert.FfnLastSIdeal.τ).loc Cert.FfnLastSIdeal.main_arg1) = m ((c.tc : Thread Cert.FfnLastSIdeal.nD Cert.FfnLastSIdeal.τ).loc Cert.FfnLastSIdeal.main_arg1)
      ∧ r.2.mem ((c.tc : Thread Cert.FfnLastSIdeal.nD Cert.FfnLastSIdeal.τ).loc Cert.FfnLastSIdeal.main_arg2) = m ((c.tc : Thread Cert.FfnLastSIdeal.nD Cert.FfnLastSIdeal.τ).loc Cert.FfnLastSIdeal.main_arg2)
      ∧ r.2.mem ((c.tc : Thread Cert.FfnLastSIdeal.nD Cert.FfnLastSIdeal.τ).loc Cert.FfnLastSIdeal.main_arg3) = m ((c.tc : Thread Cert.FfnLastSIdeal.nD Cert.FfnLastSIdeal.τ).loc Cert.FfnLastSIdeal.main_arg3)
      ∧ r.2.mem ((c.tc : Thread Cert.FfnLastSIdeal.nD Cert.FfnLastSIdeal.τ).loc Cert.FfnLastSIdeal.main_arg4) = m ((c.tc : Thread Cert.FfnLastSIdeal.nD Cert.FfnLastSIdeal.τ).loc Cert.FfnLastSIdeal.main_arg4))
      ∧ r.2.sem = fun _ => 0)

def quiescent_FfnLastSRefIdeal [hFfnLastSRefIdeal : Cert.FfnLastSRefIdeal.Facts] : Prop :=
  ∀ (m : (ℓ : Loc Cert.FfnLastSRefIdeal.nD Cert.FfnLastSRefIdeal.τ Cert.FfnLastSRefIdeal.sig) → Buf (Elt Ideal) ℓ) (g : Dev Cert.FfnLastSRefIdeal.nD → PrngReg), Pre_FfnLastSRefIdeal m →
    θ_run (Cert.FfnLastSRefIdeal.defs (F := Ideal)) (onTc (τ := Cert.FfnLastSRefIdeal.τ) (Cert.FfnLastSRefIdeal.main (F := Ideal))) ⟨m, fun _ => 0, g⟩ (fun r => (∀ c : Dev Cert.FfnLastSRefIdeal.nD,
      r.2.mem ((c.tc : Thread Cert.FfnLastSRefIdeal.nD Cert.FfnLastSRefIdeal.τ).loc Cert.FfnLastSRefIdeal.main_arg0) = m ((c.tc : Thread Cert.FfnLastSRefIdeal.nD Cert.FfnLastSRefIdeal.τ).loc Cert.FfnLastSRefIdeal.main_arg0)
      ∧ r.2.mem ((c.tc : Thread Cert.FfnLastSRefIdeal.nD Cert.FfnLastSRefIdeal.τ).loc Cert.FfnLastSRefIdeal.main_arg1) = m ((c.tc : Thread Cert.FfnLastSRefIdeal.nD Cert.FfnLastSRefIdeal.τ).loc Cert.FfnLastSRefIdeal.main_arg1)
      ∧ r.2.mem ((c.tc : Thread Cert.FfnLastSRefIdeal.nD Cert.FfnLastSRefIdeal.τ).loc Cert.FfnLastSRefIdeal.main_arg2) = m ((c.tc : Thread Cert.FfnLastSRefIdeal.nD Cert.FfnLastSRefIdeal.τ).loc Cert.FfnLastSRefIdeal.main_arg2)
      ∧ r.2.mem ((c.tc : Thread Cert.FfnLastSRefIdeal.nD Cert.FfnLastSRefIdeal.τ).loc Cert.FfnLastSRefIdeal.main_arg3) = m ((c.tc : Thread Cert.FfnLastSRefIdeal.nD Cert.FfnLastSRefIdeal.τ).loc Cert.FfnLastSRefIdeal.main_arg3)
      ∧ r.2.mem ((c.tc : Thread Cert.FfnLastSRefIdeal.nD Cert.FfnLastSRefIdeal.τ).loc Cert.FfnLastSRefIdeal.main_arg4) = m ((c.tc : Thread Cert.FfnLastSRefIdeal.nD Cert.FfnLastSRefIdeal.τ).loc Cert.FfnLastSRefIdeal.main_arg4))
      ∧ r.2.sem = fun _ => 0)

def quiescent_SconvS [hSconvS : Cert.SconvS.Facts] : Prop :=
  ∀ (m : (ℓ : Loc Cert.SconvS.nD Cert.SconvS.τ Cert.SconvS.sig) → Buf (Elt Bits) ℓ) (g : Dev Cert.SconvS.nD → PrngReg), Pre_SconvS m →
    θ_run (Cert.SconvS.defs (F := Bits)) (onTc (τ := Cert.SconvS.τ) (Cert.SconvS.main (F := Bits))) ⟨m, fun _ => 0, g⟩ (fun r => (∀ c : Dev Cert.SconvS.nD,
      r.2.mem ((c.tc : Thread Cert.SconvS.nD Cert.SconvS.τ).loc Cert.SconvS.main_arg0) = m ((c.tc : Thread Cert.SconvS.nD Cert.SconvS.τ).loc Cert.SconvS.main_arg0)
      ∧ r.2.mem ((c.tc : Thread Cert.SconvS.nD Cert.SconvS.τ).loc Cert.SconvS.main_arg1) = m ((c.tc : Thread Cert.SconvS.nD Cert.SconvS.τ).loc Cert.SconvS.main_arg1)
      ∧ r.2.mem ((c.tc : Thread Cert.SconvS.nD Cert.SconvS.τ).loc Cert.SconvS.main_arg2) = m ((c.tc : Thread Cert.SconvS.nD Cert.SconvS.τ).loc Cert.SconvS.main_arg2)
      ∧ r.2.mem ((c.tc : Thread Cert.SconvS.nD Cert.SconvS.τ).loc Cert.SconvS.main_arg3) = m ((c.tc : Thread Cert.SconvS.nD Cert.SconvS.τ).loc Cert.SconvS.main_arg3)
      ∧ r.2.mem ((c.tc : Thread Cert.SconvS.nD Cert.SconvS.τ).loc Cert.SconvS.main_arg4) = m ((c.tc : Thread Cert.SconvS.nD Cert.SconvS.τ).loc Cert.SconvS.main_arg4)
      ∧ r.2.mem ((c.tc : Thread Cert.SconvS.nD Cert.SconvS.τ).loc Cert.SconvS.main_arg5) = m ((c.tc : Thread Cert.SconvS.nD Cert.SconvS.τ).loc Cert.SconvS.main_arg5))
      ∧ r.2.sem = fun _ => 0)

def quiescent_SconvSIdeal [hSconvSIdeal : Cert.SconvSIdeal.Facts] : Prop :=
  ∀ (m : (ℓ : Loc Cert.SconvSIdeal.nD Cert.SconvSIdeal.τ Cert.SconvSIdeal.sig) → Buf (Elt Ideal) ℓ) (g : Dev Cert.SconvSIdeal.nD → PrngReg), Pre_SconvSIdeal m →
    θ_run (Cert.SconvSIdeal.defs (F := Ideal)) (onTc (τ := Cert.SconvSIdeal.τ) (Cert.SconvSIdeal.main (F := Ideal))) ⟨m, fun _ => 0, g⟩ (fun r => (∀ c : Dev Cert.SconvSIdeal.nD,
      r.2.mem ((c.tc : Thread Cert.SconvSIdeal.nD Cert.SconvSIdeal.τ).loc Cert.SconvSIdeal.main_arg0) = m ((c.tc : Thread Cert.SconvSIdeal.nD Cert.SconvSIdeal.τ).loc Cert.SconvSIdeal.main_arg0)
      ∧ r.2.mem ((c.tc : Thread Cert.SconvSIdeal.nD Cert.SconvSIdeal.τ).loc Cert.SconvSIdeal.main_arg1) = m ((c.tc : Thread Cert.SconvSIdeal.nD Cert.SconvSIdeal.τ).loc Cert.SconvSIdeal.main_arg1)
      ∧ r.2.mem ((c.tc : Thread Cert.SconvSIdeal.nD Cert.SconvSIdeal.τ).loc Cert.SconvSIdeal.main_arg2) = m ((c.tc : Thread Cert.SconvSIdeal.nD Cert.SconvSIdeal.τ).loc Cert.SconvSIdeal.main_arg2)
      ∧ r.2.mem ((c.tc : Thread Cert.SconvSIdeal.nD Cert.SconvSIdeal.τ).loc Cert.SconvSIdeal.main_arg3) = m ((c.tc : Thread Cert.SconvSIdeal.nD Cert.SconvSIdeal.τ).loc Cert.SconvSIdeal.main_arg3)
      ∧ r.2.mem ((c.tc : Thread Cert.SconvSIdeal.nD Cert.SconvSIdeal.τ).loc Cert.SconvSIdeal.main_arg4) = m ((c.tc : Thread Cert.SconvSIdeal.nD Cert.SconvSIdeal.τ).loc Cert.SconvSIdeal.main_arg4)
      ∧ r.2.mem ((c.tc : Thread Cert.SconvSIdeal.nD Cert.SconvSIdeal.τ).loc Cert.SconvSIdeal.main_arg5) = m ((c.tc : Thread Cert.SconvSIdeal.nD Cert.SconvSIdeal.τ).loc Cert.SconvSIdeal.main_arg5))
      ∧ r.2.sem = fun _ => 0)

def quiescent_SconvSRefIdeal [hSconvSRefIdeal : Cert.SconvSRefIdeal.Facts] : Prop :=
  ∀ (m : (ℓ : Loc Cert.SconvSRefIdeal.nD Cert.SconvSRefIdeal.τ Cert.SconvSRefIdeal.sig) → Buf (Elt Ideal) ℓ) (g : Dev Cert.SconvSRefIdeal.nD → PrngReg), Pre_SconvSRefIdeal m →
    θ_run (Cert.SconvSRefIdeal.defs (F := Ideal)) (onTc (τ := Cert.SconvSRefIdeal.τ) (Cert.SconvSRefIdeal.main (F := Ideal))) ⟨m, fun _ => 0, g⟩ (fun r => (∀ c : Dev Cert.SconvSRefIdeal.nD,
      r.2.mem ((c.tc : Thread Cert.SconvSRefIdeal.nD Cert.SconvSRefIdeal.τ).loc Cert.SconvSRefIdeal.main_arg0) = m ((c.tc : Thread Cert.SconvSRefIdeal.nD Cert.SconvSRefIdeal.τ).loc Cert.SconvSRefIdeal.main_arg0)
      ∧ r.2.mem ((c.tc : Thread Cert.SconvSRefIdeal.nD Cert.SconvSRefIdeal.τ).loc Cert.SconvSRefIdeal.main_arg1) = m ((c.tc : Thread Cert.SconvSRefIdeal.nD Cert.SconvSRefIdeal.τ).loc Cert.SconvSRefIdeal.main_arg1)
      ∧ r.2.mem ((c.tc : Thread Cert.SconvSRefIdeal.nD Cert.SconvSRefIdeal.τ).loc Cert.SconvSRefIdeal.main_arg2) = m ((c.tc : Thread Cert.SconvSRefIdeal.nD Cert.SconvSRefIdeal.τ).loc Cert.SconvSRefIdeal.main_arg2)
      ∧ r.2.mem ((c.tc : Thread Cert.SconvSRefIdeal.nD Cert.SconvSRefIdeal.τ).loc Cert.SconvSRefIdeal.main_arg3) = m ((c.tc : Thread Cert.SconvSRefIdeal.nD Cert.SconvSRefIdeal.τ).loc Cert.SconvSRefIdeal.main_arg3)
      ∧ r.2.mem ((c.tc : Thread Cert.SconvSRefIdeal.nD Cert.SconvSRefIdeal.τ).loc Cert.SconvSRefIdeal.main_arg4) = m ((c.tc : Thread Cert.SconvSRefIdeal.nD Cert.SconvSRefIdeal.τ).loc Cert.SconvSRefIdeal.main_arg4)
      ∧ r.2.mem ((c.tc : Thread Cert.SconvSRefIdeal.nD Cert.SconvSRefIdeal.τ).loc Cert.SconvSRefIdeal.main_arg5) = m ((c.tc : Thread Cert.SconvSRefIdeal.nD Cert.SconvSRefIdeal.τ).loc Cert.SconvSRefIdeal.main_arg5))
      ∧ r.2.sem = fun _ => 0)

def quiescent_ConfS [hConfS : Cert.ConfS.Facts] : Prop :=
  ∀ (m : (ℓ : Loc Cert.ConfS.nD Cert.ConfS.τ Cert.ConfS.sig) → Buf (Elt Bits) ℓ) (g : Dev Cert.ConfS.nD → PrngReg), Pre_ConfS m →
    θ_run (Cert.ConfS.defs (F := Bits)) (onTc (τ := Cert.ConfS.τ) (Cert.ConfS.main (F := Bits))) ⟨m, fun _ => 0, g⟩ (fun r => (∀ c : Dev Cert.ConfS.nD,
      r.2.mem ((c.tc : Thread Cert.ConfS.nD Cert.ConfS.τ).loc Cert.ConfS.main_arg0) = m ((c.tc : Thread Cert.ConfS.nD Cert.ConfS.τ).loc Cert.ConfS.main_arg0)
      ∧ r.2.mem ((c.tc : Thread Cert.ConfS.nD Cert.ConfS.τ).loc Cert.ConfS.main_arg1) = m ((c.tc : Thread Cert.ConfS.nD Cert.ConfS.τ).loc Cert.ConfS.main_arg1)
      ∧ r.2.mem ((c.tc : Thread Cert.ConfS.nD Cert.ConfS.τ).loc Cert.ConfS.main_arg2) = m ((c.tc : Thread Cert.ConfS.nD Cert.ConfS.τ).loc Cert.ConfS.main_arg2)
      ∧ r.2.mem ((c.tc : Thread Cert.ConfS.nD Cert.ConfS.τ).loc Cert.ConfS.main_arg3) = m ((c.tc : Thread Cert.ConfS.nD Cert.ConfS.τ).loc Cert.ConfS.main_arg3)
      ∧ r.2.mem ((c.tc : Thread Cert.ConfS.nD Cert.ConfS.τ).loc Cert.ConfS.main_arg4) = m ((c.tc : Thread Cert.ConfS.nD Cert.ConfS.τ).loc Cert.ConfS.main_arg4)
      ∧ r.2.mem ((c.tc : Thread Cert.ConfS.nD Cert.ConfS.τ).loc Cert.ConfS.main_arg5) = m ((c.tc : Thread Cert.ConfS.nD Cert.ConfS.τ).loc Cert.ConfS.main_arg5)
      ∧ r.2.mem ((c.tc : Thread Cert.ConfS.nD Cert.ConfS.τ).loc Cert.ConfS.main_arg6) = m ((c.tc : Thread Cert.ConfS.nD Cert.ConfS.τ).loc Cert.ConfS.main_arg6)
      ∧ r.2.mem ((c.tc : Thread Cert.ConfS.nD Cert.ConfS.τ).loc Cert.ConfS.main_arg7) = m ((c.tc : Thread Cert.ConfS.nD Cert.ConfS.τ).loc Cert.ConfS.main_arg7)
      ∧ r.2.mem ((c.tc : Thread Cert.ConfS.nD Cert.ConfS.τ).loc Cert.ConfS.main_arg8) = m ((c.tc : Thread Cert.ConfS.nD Cert.ConfS.τ).loc Cert.ConfS.main_arg8))
      ∧ r.2.sem = fun _ => 0)

def quiescent_ConfSIdeal [hConfSIdeal : Cert.ConfSIdeal.Facts] : Prop :=
  ∀ (m : (ℓ : Loc Cert.ConfSIdeal.nD Cert.ConfSIdeal.τ Cert.ConfSIdeal.sig) → Buf (Elt Ideal) ℓ) (g : Dev Cert.ConfSIdeal.nD → PrngReg), Pre_ConfSIdeal m →
    θ_run (Cert.ConfSIdeal.defs (F := Ideal)) (onTc (τ := Cert.ConfSIdeal.τ) (Cert.ConfSIdeal.main (F := Ideal))) ⟨m, fun _ => 0, g⟩ (fun r => (∀ c : Dev Cert.ConfSIdeal.nD,
      r.2.mem ((c.tc : Thread Cert.ConfSIdeal.nD Cert.ConfSIdeal.τ).loc Cert.ConfSIdeal.main_arg0) = m ((c.tc : Thread Cert.ConfSIdeal.nD Cert.ConfSIdeal.τ).loc Cert.ConfSIdeal.main_arg0)
      ∧ r.2.mem ((c.tc : Thread Cert.ConfSIdeal.nD Cert.ConfSIdeal.τ).loc Cert.ConfSIdeal.main_arg1) = m ((c.tc : Thread Cert.ConfSIdeal.nD Cert.ConfSIdeal.τ).loc Cert.ConfSIdeal.main_arg1)
      ∧ r.2.mem ((c.tc : Thread Cert.ConfSIdeal.nD Cert.ConfSIdeal.τ).loc Cert.ConfSIdeal.main_arg2) = m ((c.tc : Thread Cert.ConfSIdeal.nD Cert.ConfSIdeal.τ).loc Cert.ConfSIdeal.main_arg2)
      ∧ r.2.mem ((c.tc : Thread Cert.ConfSIdeal.nD Cert.ConfSIdeal.τ).loc Cert.ConfSIdeal.main_arg3) = m ((c.tc : Thread Cert.ConfSIdeal.nD Cert.ConfSIdeal.τ).loc Cert.ConfSIdeal.main_arg3)
      ∧ r.2.mem ((c.tc : Thread Cert.ConfSIdeal.nD Cert.ConfSIdeal.τ).loc Cert.ConfSIdeal.main_arg4) = m ((c.tc : Thread Cert.ConfSIdeal.nD Cert.ConfSIdeal.τ).loc Cert.ConfSIdeal.main_arg4)
      ∧ r.2.mem ((c.tc : Thread Cert.ConfSIdeal.nD Cert.ConfSIdeal.τ).loc Cert.ConfSIdeal.main_arg5) = m ((c.tc : Thread Cert.ConfSIdeal.nD Cert.ConfSIdeal.τ).loc Cert.ConfSIdeal.main_arg5)
      ∧ r.2.mem ((c.tc : Thread Cert.ConfSIdeal.nD Cert.ConfSIdeal.τ).loc Cert.ConfSIdeal.main_arg6) = m ((c.tc : Thread Cert.ConfSIdeal.nD Cert.ConfSIdeal.τ).loc Cert.ConfSIdeal.main_arg6)
      ∧ r.2.mem ((c.tc : Thread Cert.ConfSIdeal.nD Cert.ConfSIdeal.τ).loc Cert.ConfSIdeal.main_arg7) = m ((c.tc : Thread Cert.ConfSIdeal.nD Cert.ConfSIdeal.τ).loc Cert.ConfSIdeal.main_arg7)
      ∧ r.2.mem ((c.tc : Thread Cert.ConfSIdeal.nD Cert.ConfSIdeal.τ).loc Cert.ConfSIdeal.main_arg8) = m ((c.tc : Thread Cert.ConfSIdeal.nD Cert.ConfSIdeal.τ).loc Cert.ConfSIdeal.main_arg8))
      ∧ r.2.sem = fun _ => 0)

def quiescent_ConfSRefIdeal [hConfSRefIdeal : Cert.ConfSRefIdeal.Facts] : Prop :=
  ∀ (m : (ℓ : Loc Cert.ConfSRefIdeal.nD Cert.ConfSRefIdeal.τ Cert.ConfSRefIdeal.sig) → Buf (Elt Ideal) ℓ) (g : Dev Cert.ConfSRefIdeal.nD → PrngReg), Pre_ConfSRefIdeal m →
    θ_run (Cert.ConfSRefIdeal.defs (F := Ideal)) (onTc (τ := Cert.ConfSRefIdeal.τ) (Cert.ConfSRefIdeal.main (F := Ideal))) ⟨m, fun _ => 0, g⟩ (fun r => (∀ c : Dev Cert.ConfSRefIdeal.nD,
      r.2.mem ((c.tc : Thread Cert.ConfSRefIdeal.nD Cert.ConfSRefIdeal.τ).loc Cert.ConfSRefIdeal.main_arg0) = m ((c.tc : Thread Cert.ConfSRefIdeal.nD Cert.ConfSRefIdeal.τ).loc Cert.ConfSRefIdeal.main_arg0)
      ∧ r.2.mem ((c.tc : Thread Cert.ConfSRefIdeal.nD Cert.ConfSRefIdeal.τ).loc Cert.ConfSRefIdeal.main_arg1) = m ((c.tc : Thread Cert.ConfSRefIdeal.nD Cert.ConfSRefIdeal.τ).loc Cert.ConfSRefIdeal.main_arg1)
      ∧ r.2.mem ((c.tc : Thread Cert.ConfSRefIdeal.nD Cert.ConfSRefIdeal.τ).loc Cert.ConfSRefIdeal.main_arg2) = m ((c.tc : Thread Cert.ConfSRefIdeal.nD Cert.ConfSRefIdeal.τ).loc Cert.ConfSRefIdeal.main_arg2)
      ∧ r.2.mem ((c.tc : Thread Cert.ConfSRefIdeal.nD Cert.ConfSRefIdeal.τ).loc Cert.ConfSRefIdeal.main_arg3) = m ((c.tc : Thread Cert.ConfSRefIdeal.nD Cert.ConfSRefIdeal.τ).loc Cert.ConfSRefIdeal.main_arg3)
      ∧ r.2.mem ((c.tc : Thread Cert.ConfSRefIdeal.nD Cert.ConfSRefIdeal.τ).loc Cert.ConfSRefIdeal.main_arg4) = m ((c.tc : Thread Cert.ConfSRefIdeal.nD Cert.ConfSRefIdeal.τ).loc Cert.ConfSRefIdeal.main_arg4)
      ∧ r.2.mem ((c.tc : Thread Cert.ConfSRefIdeal.nD Cert.ConfSRefIdeal.τ).loc Cert.ConfSRefIdeal.main_arg5) = m ((c.tc : Thread Cert.ConfSRefIdeal.nD Cert.ConfSRefIdeal.τ).loc Cert.ConfSRefIdeal.main_arg5)
      ∧ r.2.mem ((c.tc : Thread Cert.ConfSRefIdeal.nD Cert.ConfSRefIdeal.τ).loc Cert.ConfSRefIdeal.main_arg6) = m ((c.tc : Thread Cert.ConfSRefIdeal.nD Cert.ConfSRefIdeal.τ).loc Cert.ConfSRefIdeal.main_arg6)
      ∧ r.2.mem ((c.tc : Thread Cert.ConfSRefIdeal.nD Cert.ConfSRefIdeal.τ).loc Cert.ConfSRefIdeal.main_arg7) = m ((c.tc : Thread Cert.ConfSRefIdeal.nD Cert.ConfSRefIdeal.τ).loc Cert.ConfSRefIdeal.main_arg7)
      ∧ r.2.mem ((c.tc : Thread Cert.ConfSRefIdeal.nD Cert.ConfSRefIdeal.τ).loc Cert.ConfSRefIdeal.main_arg8) = m ((c.tc : Thread Cert.ConfSRefIdeal.nD Cert.ConfSRefIdeal.τ).loc Cert.ConfSRefIdeal.main_arg8))
      ∧ r.2.sem = fun _ => 0)

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)
      ∧ m' ((c.tc : Thread Cert.SconvRefIdeal.nD Cert.SconvRefIdeal.τ).loc Cert.SconvRefIdeal.main_arg4) = m ((c.tc : Thread Cert.SconvIdeal.nD Cert.SconvIdeal.τ).loc Cert.SconvIdeal.main_arg4)) →
    ∃ (v0 : (c : Dev Cert.SconvIdeal.nD) → Buf (Elt Ideal) ((c.tc : Thread Cert.SconvIdeal.nD Cert.SconvIdeal.τ).loc Cert.SconvIdeal.main_v2_0)) (v1 : (c : Dev Cert.SconvIdeal.nD) → Buf (Elt Ideal) ((c.tc : Thread Cert.SconvIdeal.nD Cert.SconvIdeal.τ).loc Cert.SconvIdeal.main_v2_1)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v2_0) = v0 c
          ∧ r.2.mem ((c.tc : Thread Cert.SconvIdeal.nD Cert.SconvIdeal.τ).loc Cert.SconvIdeal.main_v2_1) = v1 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
          ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v45) = v0 c
          ∧ r.2.mem ((c.tc : Thread Cert.SconvRefIdeal.nD Cert.SconvRefIdeal.τ).loc Cert.SconvRefIdeal.main_v46) = v1 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3)
          ∧ r.2.mem ((c.tc : Thread Cert.SconvRefIdeal.nD Cert.SconvRefIdeal.τ).loc Cert.SconvRefIdeal.main_arg4) = m' ((c.tc : Thread Cert.SconvRefIdeal.nD Cert.SconvRefIdeal.τ).loc Cert.SconvRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v2)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v2) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v32) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)
      ∧ m' ((c.tc : Thread Cert.ConfRefIdeal.nD Cert.ConfRefIdeal.τ).loc Cert.ConfRefIdeal.main_arg7) = m ((c.tc : Thread Cert.ConfIdeal.nD Cert.ConfIdeal.τ).loc Cert.ConfIdeal.main_arg7)) →
    ∃ (v0 : (c : Dev Cert.ConfIdeal.nD) → Buf (Elt Ideal) ((c.tc : Thread Cert.ConfIdeal.nD Cert.ConfIdeal.τ).loc Cert.ConfIdeal.main_v2_0)) (v1 : (c : Dev Cert.ConfIdeal.nD) → Buf (Elt Ideal) ((c.tc : Thread Cert.ConfIdeal.nD Cert.ConfIdeal.τ).loc Cert.ConfIdeal.main_v2_1)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v2_0) = v0 c
          ∧ r.2.mem ((c.tc : Thread Cert.ConfIdeal.nD Cert.ConfIdeal.τ).loc Cert.ConfIdeal.main_v2_1) = v1 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
          ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
          ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v274) = v0 c
          ∧ r.2.mem ((c.tc : Thread Cert.ConfRefIdeal.nD Cert.ConfRefIdeal.τ).loc Cert.ConfRefIdeal.main_v275) = v1 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5)
          ∧ r.2.mem ((c.tc : Thread Cert.ConfRefIdeal.nD Cert.ConfRefIdeal.τ).loc Cert.ConfRefIdeal.main_arg6) = m' ((c.tc : Thread Cert.ConfRefIdeal.nD Cert.ConfRefIdeal.τ).loc Cert.ConfRefIdeal.main_arg6)
          ∧ r.2.mem ((c.tc : Thread Cert.ConfRefIdeal.nD Cert.ConfRefIdeal.τ).loc Cert.ConfRefIdeal.main_arg7) = m' ((c.tc : Thread Cert.ConfRefIdeal.nD Cert.ConfRefIdeal.τ).loc Cert.ConfRefIdeal.main_arg7))

def preserves_Moba_MobaIdeal : Prop :=
  IdealRules.named_const.Statement Cert.MobaIdeal.κ "mask" .f32 0xF149F2CA#32 ⊥

def algebraic_MobaIdeal_MobaRefIdeal_pre_finite_scores [hMobaIdeal : Cert.MobaIdeal.Facts] [hMobaRefIdeal : Cert.MobaRefIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_scores m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v1) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v69) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnLastS_FfnLastSIdeal : Prop :=
  True

def algebraic_FfnLastSIdeal_FfnLastSRefIdeal [hFfnLastSIdeal : Cert.FfnLastSIdeal.Facts] [hFfnLastSRefIdeal : Cert.FfnLastSRefIdeal.Facts] : Prop :=
  ∀ (m : (ℓ : Loc Cert.FfnLastSIdeal.nD Cert.FfnLastSIdeal.τ Cert.FfnLastSIdeal.sig) → Buf (Elt Ideal) ℓ) (g : Dev Cert.FfnLastSIdeal.nD → PrngReg)
    (m' : (ℓ : Loc Cert.FfnLastSRefIdeal.nD Cert.FfnLastSRefIdeal.τ Cert.FfnLastSRefIdeal.sig) → Buf (Elt Ideal) ℓ) (g' : Dev Cert.FfnLastSRefIdeal.nD → PrngReg), Pre_FfnLastSIdeal m →
    (∀ c : Dev Cert.FfnLastSIdeal.nD,
      m' ((c.tc : Thread Cert.FfnLastSRefIdeal.nD Cert.FfnLastSRefIdeal.τ).loc Cert.FfnLastSRefIdeal.main_arg0) = m ((c.tc : Thread Cert.FfnLastSIdeal.nD Cert.FfnLastSIdeal.τ).loc Cert.FfnLastSIdeal.main_arg0)
      ∧ m' ((c.tc : Thread Cert.FfnLastSRefIdeal.nD Cert.FfnLastSRefIdeal.τ).loc Cert.FfnLastSRefIdeal.main_arg1) = m ((c.tc : Thread Cert.FfnLastSIdeal.nD Cert.FfnLastSIdeal.τ).loc Cert.FfnLastSIdeal.main_arg1)
      ∧ m' ((c.tc : Thread Cert.FfnLastSRefIdeal.nD Cert.FfnLastSRefIdeal.τ).loc Cert.FfnLastSRefIdeal.main_arg2) = m ((c.tc : Thread Cert.FfnLastSIdeal.nD Cert.FfnLastSIdeal.τ).loc Cert.FfnLastSIdeal.main_arg2)
      ∧ m' ((c.tc : Thread Cert.FfnLastSRefIdeal.nD Cert.FfnLastSRefIdeal.τ).loc Cert.FfnLastSRefIdeal.main_arg3) = m ((c.tc : Thread Cert.FfnLastSIdeal.nD Cert.FfnLastSIdeal.τ).loc Cert.FfnLastSIdeal.main_arg3)
      ∧ m' ((c.tc : Thread Cert.FfnLastSRefIdeal.nD Cert.FfnLastSRefIdeal.τ).loc Cert.FfnLastSRefIdeal.main_arg4) = m ((c.tc : Thread Cert.FfnLastSIdeal.nD Cert.FfnLastSIdeal.τ).loc Cert.FfnLastSIdeal.main_arg4)) →
    ∃ (v0 : (c : Dev Cert.FfnLastSIdeal.nD) → Buf (Elt Ideal) ((c.tc : Thread Cert.FfnLastSIdeal.nD Cert.FfnLastSIdeal.τ).loc Cert.FfnLastSIdeal.main_v2)),
      θ_run (Cert.FfnLastSIdeal.defs (F := Ideal)) (onTc (τ := Cert.FfnLastSIdeal.τ) (Cert.FfnLastSIdeal.main (F := Ideal))) ⟨m, fun _ => 0, g⟩ (fun r => ∀ c : Dev Cert.FfnLastSIdeal.nD,
          r.2.mem ((c.tc : Thread Cert.FfnLastSIdeal.nD Cert.FfnLastSIdeal.τ).loc Cert.FfnLastSIdeal.main_v2) = v0 c
          ∧ r.2.mem ((c.tc : Thread Cert.FfnLastSIdeal.nD Cert.FfnLastSIdeal.τ).loc Cert.FfnLastSIdeal.main_arg0) = m ((c.tc : Thread Cert.FfnLastSIdeal.nD Cert.FfnLastSIdeal.τ).loc Cert.FfnLastSIdeal.main_arg0)
          ∧ r.2.mem ((c.tc : Thread Cert.FfnLastSIdeal.nD Cert.FfnLastSIdeal.τ).loc Cert.FfnLastSIdeal.main_arg1) = m ((c.tc : Thread Cert.FfnLastSIdeal.nD Cert.FfnLastSIdeal.τ).loc Cert.FfnLastSIdeal.main_arg1)
          ∧ r.2.mem ((c.tc : Thread Cert.FfnLastSIdeal.nD Cert.FfnLastSIdeal.τ).loc Cert.FfnLastSIdeal.main_arg2) = m ((c.tc : Thread Cert.FfnLastSIdeal.nD Cert.FfnLastSIdeal.τ).loc Cert.FfnLastSIdeal.main_arg2)
          ∧ r.2.mem ((c.tc : Thread Cert.FfnLastSIdeal.nD Cert.FfnLastSIdeal.τ).loc Cert.FfnLastSIdeal.main_arg3) = m ((c.tc : Thread Cert.FfnLastSIdeal.nD Cert.FfnLastSIdeal.τ).loc Cert.FfnLastSIdeal.main_arg3)
          ∧ r.2.mem ((c.tc : Thread Cert.FfnLastSIdeal.nD Cert.FfnLastSIdeal.τ).loc Cert.FfnLastSIdeal.main_arg4) = m ((c.tc : Thread Cert.FfnLastSIdeal.nD Cert.FfnLastSIdeal.τ).loc Cert.FfnLastSIdeal.main_arg4))
      ∧ θ_run (Cert.FfnLastSRefIdeal.defs (F := Ideal)) (onTc (τ := Cert.FfnLastSRefIdeal.τ) (Cert.FfnLastSRefIdeal.main (F := Ideal))) ⟨m', fun _ => 0, g'⟩ (fun r => ∀ c : Dev Cert.FfnLastSRefIdeal.nD,
          r.2.mem ((c.tc : Thread Cert.FfnLastSRefIdeal.nD Cert.FfnLastSRefIdeal.τ).loc Cert.FfnLastSRefIdeal.main_v32) = v0 c
          ∧ r.2.mem ((c.tc : Thread Cert.FfnLastSRefIdeal.nD Cert.FfnLastSRefIdeal.τ).loc Cert.FfnLastSRefIdeal.main_arg0) = m' ((c.tc : Thread Cert.FfnLastSRefIdeal.nD Cert.FfnLastSRefIdeal.τ).loc Cert.FfnLastSRefIdeal.main_arg0)
          ∧ r.2.mem ((c.tc : Thread Cert.FfnLastSRefIdeal.nD Cert.FfnLastSRefIdeal.τ).loc Cert.FfnLastSRefIdeal.main_arg1) = m' ((c.tc : Thread Cert.FfnLastSRefIdeal.nD Cert.FfnLastSRefIdeal.τ).loc Cert.FfnLastSRefIdeal.main_arg1)
          ∧ r.2.mem ((c.tc : Thread Cert.FfnLastSRefIdeal.nD Cert.FfnLastSRefIdeal.τ).loc Cert.FfnLastSRefIdeal.main_arg2) = m' ((c.tc : Thread Cert.FfnLastSRefIdeal.nD Cert.FfnLastSRefIdeal.τ).loc Cert.FfnLastSRefIdeal.main_arg2)
          ∧ r.2.mem ((c.tc : Thread Cert.FfnLastSRefIdeal.nD Cert.FfnLastSRefIdeal.τ).loc Cert.FfnLastSRefIdeal.main_arg3) = m' ((c.tc : Thread Cert.FfnLastSRefIdeal.nD Cert.FfnLastSRefIdeal.τ).loc Cert.FfnLastSRefIdeal.main_arg3)
          ∧ r.2.mem ((c.tc : Thread Cert.FfnLastSRefIdeal.nD Cert.FfnLastSRefIdeal.τ).loc Cert.FfnLastSRefIdeal.main_arg4) = m' ((c.tc : Thread Cert.FfnLastSRefIdeal.nD Cert.FfnLastSRefIdeal.τ).loc Cert.FfnLastSRefIdeal.main_arg4))

def preserves_SconvS_SconvSIdeal : Prop :=
  True

def algebraic_SconvSIdeal_SconvSRefIdeal [hSconvSIdeal : Cert.SconvSIdeal.Facts] [hSconvSRefIdeal : Cert.SconvSRefIdeal.Facts] : Prop :=
  ∀ (m : (ℓ : Loc Cert.SconvSIdeal.nD Cert.SconvSIdeal.τ Cert.SconvSIdeal.sig) → Buf (Elt Ideal) ℓ) (g : Dev Cert.SconvSIdeal.nD → PrngReg)
    (m' : (ℓ : Loc Cert.SconvSRefIdeal.nD Cert.SconvSRefIdeal.τ Cert.SconvSRefIdeal.sig) → Buf (Elt Ideal) ℓ) (g' : Dev Cert.SconvSRefIdeal.nD → PrngReg), Pre_SconvSIdeal m →
    (∀ c : Dev Cert.SconvSIdeal.nD,
      m' ((c.tc : Thread Cert.SconvSRefIdeal.nD Cert.SconvSRefIdeal.τ).loc Cert.SconvSRefIdeal.main_arg0) = m ((c.tc : Thread Cert.SconvSIdeal.nD Cert.SconvSIdeal.τ).loc Cert.SconvSIdeal.main_arg0)
      ∧ m' ((c.tc : Thread Cert.SconvSRefIdeal.nD Cert.SconvSRefIdeal.τ).loc Cert.SconvSRefIdeal.main_arg1) = m ((c.tc : Thread Cert.SconvSIdeal.nD Cert.SconvSIdeal.τ).loc Cert.SconvSIdeal.main_arg1)
      ∧ m' ((c.tc : Thread Cert.SconvSRefIdeal.nD Cert.SconvSRefIdeal.τ).loc Cert.SconvSRefIdeal.main_arg2) = m ((c.tc : Thread Cert.SconvSIdeal.nD Cert.SconvSIdeal.τ).loc Cert.SconvSIdeal.main_arg2)
      ∧ m' ((c.tc : Thread Cert.SconvSRefIdeal.nD Cert.SconvSRefIdeal.τ).loc Cert.SconvSRefIdeal.main_arg3) = m ((c.tc : Thread Cert.SconvSIdeal.nD Cert.SconvSIdeal.τ).loc Cert.SconvSIdeal.main_arg3)
      ∧ m' ((c.tc : Thread Cert.SconvSRefIdeal.nD Cert.SconvSRefIdeal.τ).loc Cert.SconvSRefIdeal.main_arg4) = m ((c.tc : Thread Cert.SconvSIdeal.nD Cert.SconvSIdeal.τ).loc Cert.SconvSIdeal.main_arg4)
      ∧ m' ((c.tc : Thread Cert.SconvSRefIdeal.nD Cert.SconvSRefIdeal.τ).loc Cert.SconvSRefIdeal.main_arg5) = m ((c.tc : Thread Cert.SconvSIdeal.nD Cert.SconvSIdeal.τ).loc Cert.SconvSIdeal.main_arg5)) →
    ∃ (v0 : (c : Dev Cert.SconvSIdeal.nD) → Buf (Elt Ideal) ((c.tc : Thread Cert.SconvSIdeal.nD Cert.SconvSIdeal.τ).loc Cert.SconvSIdeal.main_v6_0)) (v1 : (c : Dev Cert.SconvSIdeal.nD) → Buf (Elt Ideal) ((c.tc : Thread Cert.SconvSIdeal.nD Cert.SconvSIdeal.τ).loc Cert.SconvSIdeal.main_v6_1)),
      θ_run (Cert.SconvSIdeal.defs (F := Ideal)) (onTc (τ := Cert.SconvSIdeal.τ) (Cert.SconvSIdeal.main (F := Ideal))) ⟨m, fun _ => 0, g⟩ (fun r => ∀ c : Dev Cert.SconvSIdeal.nD,
          r.2.mem ((c.tc : Thread Cert.SconvSIdeal.nD Cert.SconvSIdeal.τ).loc Cert.SconvSIdeal.main_v6_0) = v0 c
          ∧ r.2.mem ((c.tc : Thread Cert.SconvSIdeal.nD Cert.SconvSIdeal.τ).loc Cert.SconvSIdeal.main_v6_1) = v1 c
          ∧ r.2.mem ((c.tc : Thread Cert.SconvSIdeal.nD Cert.SconvSIdeal.τ).loc Cert.SconvSIdeal.main_arg0) = m ((c.tc : Thread Cert.SconvSIdeal.nD Cert.SconvSIdeal.τ).loc Cert.SconvSIdeal.main_arg0)
          ∧ r.2.mem ((c.tc : Thread Cert.SconvSIdeal.nD Cert.SconvSIdeal.τ).loc Cert.SconvSIdeal.main_arg1) = m ((c.tc : Thread Cert.SconvSIdeal.nD Cert.SconvSIdeal.τ).loc Cert.SconvSIdeal.main_arg1)
          ∧ r.2.mem ((c.tc : Thread Cert.SconvSIdeal.nD Cert.SconvSIdeal.τ).loc Cert.SconvSIdeal.main_arg2) = m ((c.tc : Thread Cert.SconvSIdeal.nD Cert.SconvSIdeal.τ).loc Cert.SconvSIdeal.main_arg2)
          ∧ r.2.mem ((c.tc : Thread Cert.SconvSIdeal.nD Cert.SconvSIdeal.τ).loc Cert.SconvSIdeal.main_arg3) = m ((c.tc : Thread Cert.SconvSIdeal.nD Cert.SconvSIdeal.τ).loc Cert.SconvSIdeal.main_arg3)
          ∧ r.2.mem ((c.tc : Thread Cert.SconvSIdeal.nD Cert.SconvSIdeal.τ).loc Cert.SconvSIdeal.main_arg4) = m ((c.tc : Thread Cert.SconvSIdeal.nD Cert.SconvSIdeal.τ).loc Cert.SconvSIdeal.main_arg4)
          ∧ r.2.mem ((c.tc : Thread Cert.SconvSIdeal.nD Cert.SconvSIdeal.τ).loc Cert.SconvSIdeal.main_arg5) = m ((c.tc : Thread Cert.SconvSIdeal.nD Cert.SconvSIdeal.τ).loc Cert.SconvSIdeal.main_arg5))
      ∧ θ_run (Cert.SconvSRefIdeal.defs (F := Ideal)) (onTc (τ := Cert.SconvSRefIdeal.τ) (Cert.SconvSRefIdeal.main (F := Ideal))) ⟨m', fun _ => 0, g'⟩ (fun r => ∀ c : Dev Cert.SconvSRefIdeal.nD,
          r.2.mem ((c.tc : Thread Cert.SconvSRefIdeal.nD Cert.SconvSRefIdeal.τ).loc Cert.SconvSRefIdeal.main_v27) = v0 c
          ∧ r.2.mem ((c.tc : Thread Cert.SconvSRefIdeal.nD Cert.SconvSRefIdeal.τ).loc Cert.SconvSRefIdeal.main_v18) = v1 c
          ∧ r.2.mem ((c.tc : Thread Cert.SconvSRefIdeal.nD Cert.SconvSRefIdeal.τ).loc Cert.SconvSRefIdeal.main_arg0) = m' ((c.tc : Thread Cert.SconvSRefIdeal.nD Cert.SconvSRefIdeal.τ).loc Cert.SconvSRefIdeal.main_arg0)
          ∧ r.2.mem ((c.tc : Thread Cert.SconvSRefIdeal.nD Cert.SconvSRefIdeal.τ).loc Cert.SconvSRefIdeal.main_arg1) = m' ((c.tc : Thread Cert.SconvSRefIdeal.nD Cert.SconvSRefIdeal.τ).loc Cert.SconvSRefIdeal.main_arg1)
          ∧ r.2.mem ((c.tc : Thread Cert.SconvSRefIdeal.nD Cert.SconvSRefIdeal.τ).loc Cert.SconvSRefIdeal.main_arg2) = m' ((c.tc : Thread Cert.SconvSRefIdeal.nD Cert.SconvSRefIdeal.τ).loc Cert.SconvSRefIdeal.main_arg2)
          ∧ r.2.mem ((c.tc : Thread Cert.SconvSRefIdeal.nD Cert.SconvSRefIdeal.τ).loc Cert.SconvSRefIdeal.main_arg3) = m' ((c.tc : Thread Cert.SconvSRefIdeal.nD Cert.SconvSRefIdeal.τ).loc Cert.SconvSRefIdeal.main_arg3)
          ∧ r.2.mem ((c.tc : Thread Cert.SconvSRefIdeal.nD Cert.SconvSRefIdeal.τ).loc Cert.SconvSRefIdeal.main_arg4) = m' ((c.tc : Thread Cert.SconvSRefIdeal.nD Cert.SconvSRefIdeal.τ).loc Cert.SconvSRefIdeal.main_arg4)
          ∧ r.2.mem ((c.tc : Thread Cert.SconvSRefIdeal.nD Cert.SconvSRefIdeal.τ).loc Cert.SconvSRefIdeal.main_arg5) = m' ((c.tc : Thread Cert.SconvSRefIdeal.nD Cert.SconvSRefIdeal.τ).loc Cert.SconvSRefIdeal.main_arg5))

def preserves_ConfS_ConfSIdeal : Prop :=
  True

def algebraic_ConfSIdeal_ConfSRefIdeal [hConfSIdeal : Cert.ConfSIdeal.Facts] [hConfSRefIdeal : Cert.ConfSRefIdeal.Facts] : Prop :=
  ∀ (m : (ℓ : Loc Cert.ConfSIdeal.nD Cert.ConfSIdeal.τ Cert.ConfSIdeal.sig) → Buf (Elt Ideal) ℓ) (g : Dev Cert.ConfSIdeal.nD → PrngReg)
    (m' : (ℓ : Loc Cert.ConfSRefIdeal.nD Cert.ConfSRefIdeal.τ Cert.ConfSRefIdeal.sig) → Buf (Elt Ideal) ℓ) (g' : Dev Cert.ConfSRefIdeal.nD → PrngReg), Pre_ConfSIdeal m →
    (∀ c : Dev Cert.ConfSIdeal.nD,
      m' ((c.tc : Thread Cert.ConfSRefIdeal.nD Cert.ConfSRefIdeal.τ).loc Cert.ConfSRefIdeal.main_arg0) = m ((c.tc : Thread Cert.ConfSIdeal.nD Cert.ConfSIdeal.τ).loc Cert.ConfSIdeal.main_arg0)
      ∧ m' ((c.tc : Thread Cert.ConfSRefIdeal.nD Cert.ConfSRefIdeal.τ).loc Cert.ConfSRefIdeal.main_arg1) = m ((c.tc : Thread Cert.ConfSIdeal.nD Cert.ConfSIdeal.τ).loc Cert.ConfSIdeal.main_arg1)
      ∧ m' ((c.tc : Thread Cert.ConfSRefIdeal.nD Cert.ConfSRefIdeal.τ).loc Cert.ConfSRefIdeal.main_arg2) = m ((c.tc : Thread Cert.ConfSIdeal.nD Cert.ConfSIdeal.τ).loc Cert.ConfSIdeal.main_arg2)
      ∧ m' ((c.tc : Thread Cert.ConfSRefIdeal.nD Cert.ConfSRefIdeal.τ).loc Cert.ConfSRefIdeal.main_arg3) = m ((c.tc : Thread Cert.ConfSIdeal.nD Cert.ConfSIdeal.τ).loc Cert.ConfSIdeal.main_arg3)
      ∧ m' ((c.tc : Thread Cert.ConfSRefIdeal.nD Cert.ConfSRefIdeal.τ).loc Cert.ConfSRefIdeal.main_arg4) = m ((c.tc : Thread Cert.ConfSIdeal.nD Cert.ConfSIdeal.τ).loc Cert.ConfSIdeal.main_arg4)
      ∧ m' ((c.tc : Thread Cert.ConfSRefIdeal.nD Cert.ConfSRefIdeal.τ).loc Cert.ConfSRefIdeal.main_arg5) = m ((c.tc : Thread Cert.ConfSIdeal.nD Cert.ConfSIdeal.τ).loc Cert.ConfSIdeal.main_arg5)
      ∧ m' ((c.tc : Thread Cert.ConfSRefIdeal.nD Cert.ConfSRefIdeal.τ).loc Cert.ConfSRefIdeal.main_arg6) = m ((c.tc : Thread Cert.ConfSIdeal.nD Cert.ConfSIdeal.τ).loc Cert.ConfSIdeal.main_arg6)
      ∧ m' ((c.tc : Thread Cert.ConfSRefIdeal.nD Cert.ConfSRefIdeal.τ).loc Cert.ConfSRefIdeal.main_arg7) = m ((c.tc : Thread Cert.ConfSIdeal.nD Cert.ConfSIdeal.τ).loc Cert.ConfSIdeal.main_arg7)
      ∧ m' ((c.tc : Thread Cert.ConfSRefIdeal.nD Cert.ConfSRefIdeal.τ).loc Cert.ConfSRefIdeal.main_arg8) = m ((c.tc : Thread Cert.ConfSIdeal.nD Cert.ConfSIdeal.τ).loc Cert.ConfSIdeal.main_arg8)) →
    ∃ (v0 : (c : Dev Cert.ConfSIdeal.nD) → Buf (Elt Ideal) ((c.tc : Thread Cert.ConfSIdeal.nD Cert.ConfSIdeal.τ).loc Cert.ConfSIdeal.main_v3_0)) (v1 : (c : Dev Cert.ConfSIdeal.nD) → Buf (Elt Ideal) ((c.tc : Thread Cert.ConfSIdeal.nD Cert.ConfSIdeal.τ).loc Cert.ConfSIdeal.main_v3_1)),
      θ_run (Cert.ConfSIdeal.defs (F := Ideal)) (onTc (τ := Cert.ConfSIdeal.τ) (Cert.ConfSIdeal.main (F := Ideal))) ⟨m, fun _ => 0, g⟩ (fun r => ∀ c : Dev Cert.ConfSIdeal.nD,
          r.2.mem ((c.tc : Thread Cert.ConfSIdeal.nD Cert.ConfSIdeal.τ).loc Cert.ConfSIdeal.main_v3_0) = v0 c
          ∧ r.2.mem ((c.tc : Thread Cert.ConfSIdeal.nD Cert.ConfSIdeal.τ).loc Cert.ConfSIdeal.main_v3_1) = v1 c
          ∧ r.2.mem ((c.tc : Thread Cert.ConfSIdeal.nD Cert.ConfSIdeal.τ).loc Cert.ConfSIdeal.main_arg0) = m ((c.tc : Thread Cert.ConfSIdeal.nD Cert.ConfSIdeal.τ).loc Cert.ConfSIdeal.main_arg0)
          ∧ r.2.mem ((c.tc : Thread Cert.ConfSIdeal.nD Cert.ConfSIdeal.τ).loc Cert.ConfSIdeal.main_arg1) = m ((c.tc : Thread Cert.ConfSIdeal.nD Cert.ConfSIdeal.τ).loc Cert.ConfSIdeal.main_arg1)
          ∧ r.2.mem ((c.tc : Thread Cert.ConfSIdeal.nD Cert.ConfSIdeal.τ).loc Cert.ConfSIdeal.main_arg2) = m ((c.tc : Thread Cert.ConfSIdeal.nD Cert.ConfSIdeal.τ).loc Cert.ConfSIdeal.main_arg2)
          ∧ r.2.mem ((c.tc : Thread Cert.ConfSIdeal.nD Cert.ConfSIdeal.τ).loc Cert.ConfSIdeal.main_arg3) = m ((c.tc : Thread Cert.ConfSIdeal.nD Cert.ConfSIdeal.τ).loc Cert.ConfSIdeal.main_arg3)
          ∧ r.2.mem ((c.tc : Thread Cert.ConfSIdeal.nD Cert.ConfSIdeal.τ).loc Cert.ConfSIdeal.main_arg4) = m ((c.tc : Thread Cert.ConfSIdeal.nD Cert.ConfSIdeal.τ).loc Cert.ConfSIdeal.main_arg4)
          ∧ r.2.mem ((c.tc : Thread Cert.ConfSIdeal.nD Cert.ConfSIdeal.τ).loc Cert.ConfSIdeal.main_arg5) = m ((c.tc : Thread Cert.ConfSIdeal.nD Cert.ConfSIdeal.τ).loc Cert.ConfSIdeal.main_arg5)
          ∧ r.2.mem ((c.tc : Thread Cert.ConfSIdeal.nD Cert.ConfSIdeal.τ).loc Cert.ConfSIdeal.main_arg6) = m ((c.tc : Thread Cert.ConfSIdeal.nD Cert.ConfSIdeal.τ).loc Cert.ConfSIdeal.main_arg6)
          ∧ r.2.mem ((c.tc : Thread Cert.ConfSIdeal.nD Cert.ConfSIdeal.τ).loc Cert.ConfSIdeal.main_arg7) = m ((c.tc : Thread Cert.ConfSIdeal.nD Cert.ConfSIdeal.τ).loc Cert.ConfSIdeal.main_arg7)
          ∧ r.2.mem ((c.tc : Thread Cert.ConfSIdeal.nD Cert.ConfSIdeal.τ).loc Cert.ConfSIdeal.main_arg8) = m ((c.tc : Thread Cert.ConfSIdeal.nD Cert.ConfSIdeal.τ).loc Cert.ConfSIdeal.main_arg8))
      ∧ θ_run (Cert.ConfSRefIdeal.defs (F := Ideal)) (onTc (τ := Cert.ConfSRefIdeal.τ) (Cert.ConfSRefIdeal.main (F := Ideal))) ⟨m', fun _ => 0, g'⟩ (fun r => ∀ c : Dev Cert.ConfSRefIdeal.nD,
          r.2.mem ((c.tc : Thread Cert.ConfSRefIdeal.nD Cert.ConfSRefIdeal.τ).loc Cert.ConfSRefIdeal.main_v60) = v0 c
          ∧ r.2.mem ((c.tc : Thread Cert.ConfSRefIdeal.nD Cert.ConfSRefIdeal.τ).loc Cert.ConfSRefIdeal.main_v23) = v1 c
          ∧ r.2.mem ((c.tc : Thread Cert.ConfSRefIdeal.nD Cert.ConfSRefIdeal.τ).loc Cert.ConfSRefIdeal.main_arg0) = m' ((c.tc : Thread Cert.ConfSRefIdeal.nD Cert.ConfSRefIdeal.τ).loc Cert.ConfSRefIdeal.main_arg0)
          ∧ r.2.mem ((c.tc : Thread Cert.ConfSRefIdeal.nD Cert.ConfSRefIdeal.τ).loc Cert.ConfSRefIdeal.main_arg1) = m' ((c.tc : Thread Cert.ConfSRefIdeal.nD Cert.ConfSRefIdeal.τ).loc Cert.ConfSRefIdeal.main_arg1)
          ∧ r.2.mem ((c.tc : Thread Cert.ConfSRefIdeal.nD Cert.ConfSRefIdeal.τ).loc Cert.ConfSRefIdeal.main_arg2) = m' ((c.tc : Thread Cert.ConfSRefIdeal.nD Cert.ConfSRefIdeal.τ).loc Cert.ConfSRefIdeal.main_arg2)
          ∧ r.2.mem ((c.tc : Thread Cert.ConfSRefIdeal.nD Cert.ConfSRefIdeal.τ).loc Cert.ConfSRefIdeal.main_arg3) = m' ((c.tc : Thread Cert.ConfSRefIdeal.nD Cert.ConfSRefIdeal.τ).loc Cert.ConfSRefIdeal.main_arg3)
          ∧ r.2.mem ((c.tc : Thread Cert.ConfSRefIdeal.nD Cert.ConfSRefIdeal.τ).loc Cert.ConfSRefIdeal.main_arg4) = m' ((c.tc : Thread Cert.ConfSRefIdeal.nD Cert.ConfSRefIdeal.τ).loc Cert.ConfSRefIdeal.main_arg4)
          ∧ r.2.mem ((c.tc : Thread Cert.ConfSRefIdeal.nD Cert.ConfSRefIdeal.τ).loc Cert.ConfSRefIdeal.main_arg5) = m' ((c.tc : Thread Cert.ConfSRefIdeal.nD Cert.ConfSRefIdeal.τ).loc Cert.ConfSRefIdeal.main_arg5)
          ∧ r.2.mem ((c.tc : Thread Cert.ConfSRefIdeal.nD Cert.ConfSRefIdeal.τ).loc Cert.ConfSRefIdeal.main_arg6) = m' ((c.tc : Thread Cert.ConfSRefIdeal.nD Cert.ConfSRefIdeal.τ).loc Cert.ConfSRefIdeal.main_arg6)
          ∧ r.2.mem ((c.tc : Thread Cert.ConfSRefIdeal.nD Cert.ConfSRefIdeal.τ).loc Cert.ConfSRefIdeal.main_arg7) = m' ((c.tc : Thread Cert.ConfSRefIdeal.nD Cert.ConfSRefIdeal.τ).loc Cert.ConfSRefIdeal.main_arg7)
          ∧ r.2.mem ((c.tc : Thread Cert.ConfSRefIdeal.nD Cert.ConfSRefIdeal.τ).loc Cert.ConfSRefIdeal.main_arg8) = m' ((c.tc : Thread Cert.ConfSRefIdeal.nD Cert.ConfSRefIdeal.τ).loc Cert.ConfSRefIdeal.main_arg8))

def Claim : Prop :=
  ∃ (hSconv : Cert.Sconv.Facts) (hSconvIdeal : Cert.SconvIdeal.Facts) (hSconvRefIdeal : Cert.SconvRefIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hConf : Cert.Conf.Facts) (hConfIdeal : Cert.ConfIdeal.Facts) (hConfRefIdeal : Cert.ConfRefIdeal.Facts) (hMoba : Cert.Moba.Facts) (hMobaIdeal : Cert.MobaIdeal.Facts) (hMobaRefIdeal : Cert.MobaRefIdeal.Facts) (hProj : Cert.Proj.Facts) (hProjIdeal : Cert.ProjIdeal.Facts) (hProjRefIdeal : Cert.ProjRefIdeal.Facts) (hFfnLastS : Cert.FfnLastS.Facts) (hFfnLastSIdeal : Cert.FfnLastSIdeal.Facts) (hFfnLastSRefIdeal : Cert.FfnLastSRefIdeal.Facts) (hSconvS : Cert.SconvS.Facts) (hSconvSIdeal : Cert.SconvSIdeal.Facts) (hSconvSRefIdeal : Cert.SconvSRefIdeal.Facts) (hConfS : Cert.ConfS.Facts) (hConfSIdeal : Cert.ConfSIdeal.Facts) (hConfSRefIdeal : Cert.ConfSRefIdeal.Facts) (hPre_finite_scores : Cert.Pre_finite_scores.Facts),
    quiescent_Sconv (hSconv := hSconv)
    ∧ quiescent_SconvIdeal (hSconvIdeal := hSconvIdeal)
    ∧ quiescent_SconvRefIdeal (hSconvRefIdeal := hSconvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Conf (hConf := hConf)
    ∧ quiescent_ConfIdeal (hConfIdeal := hConfIdeal)
    ∧ quiescent_ConfRefIdeal (hConfRefIdeal := hConfRefIdeal)
    ∧ quiescent_Moba (hMoba := hMoba)
    ∧ quiescent_MobaIdeal (hMobaIdeal := hMobaIdeal)
    ∧ quiescent_MobaIdeal_pre_finite_scores (hMobaIdeal := hMobaIdeal) (hPre_finite_scores := hPre_finite_scores)
    ∧ quiescent_MobaRefIdeal (hMobaRefIdeal := hMobaRefIdeal)
    ∧ quiescent_MobaRefIdeal_pre_finite_scores (hMobaRefIdeal := hMobaRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_FfnLastS (hFfnLastS := hFfnLastS)
    ∧ quiescent_FfnLastSIdeal (hFfnLastSIdeal := hFfnLastSIdeal)
    ∧ quiescent_FfnLastSRefIdeal (hFfnLastSRefIdeal := hFfnLastSRefIdeal)
    ∧ quiescent_SconvS (hSconvS := hSconvS)
    ∧ quiescent_SconvSIdeal (hSconvSIdeal := hSconvSIdeal)
    ∧ quiescent_SconvSRefIdeal (hSconvSRefIdeal := hSconvSRefIdeal)
    ∧ quiescent_ConfS (hConfS := hConfS)
    ∧ quiescent_ConfSIdeal (hConfSIdeal := hConfSIdeal)
    ∧ quiescent_ConfSRefIdeal (hConfSRefIdeal := hConfSRefIdeal)
    ∧ preserves_Sconv_SconvIdeal
    ∧ algebraic_SconvIdeal_SconvRefIdeal (hSconvIdeal := hSconvIdeal) (hSconvRefIdeal := hSconvRefIdeal)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Conf_ConfIdeal
    ∧ algebraic_ConfIdeal_ConfRefIdeal (hConfIdeal := hConfIdeal) (hConfRefIdeal := hConfRefIdeal)
    ∧ preserves_Moba_MobaIdeal
    ∧ algebraic_MobaIdeal_MobaRefIdeal_pre_finite_scores (hMobaIdeal := hMobaIdeal) (hMobaRefIdeal := hMobaRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_FfnLastS_FfnLastSIdeal
    ∧ algebraic_FfnLastSIdeal_FfnLastSRefIdeal (hFfnLastSIdeal := hFfnLastSIdeal) (hFfnLastSRefIdeal := hFfnLastSRefIdeal)
    ∧ preserves_SconvS_SconvSIdeal
    ∧ algebraic_SconvSIdeal_SconvSRefIdeal (hSconvSIdeal := hSconvSIdeal) (hSconvSRefIdeal := hSconvSRefIdeal)
    ∧ preserves_ConfS_ConfSIdeal
    ∧ algebraic_ConfSIdeal_ConfSRefIdeal (hConfSIdeal := hConfSIdeal) (hConfSRefIdeal := hConfSRefIdeal)
-- ==== Pre_finite_scores.lean ====
abbrev S1024x16384 : Shape := ⟨2, ![1024, 16384]⟩
abbrev S16384x1024 : Shape := ⟨2, ![16384, 1024]⟩
abbrev S64x1024x256 : Shape := ⟨3, ![64, 1024, 256]⟩
abbrev S4x16x1024 : Shape := ⟨3, ![4, 16, 1024]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S4x16x1024 : S_.BroadcastsInDim S4x16x1024 (![] : Fin 0 → Fin S4x16x1024.rank)
  reducesTo_S4x16x1024_S_d0_1_2 : S4x16x1024.ReducesTo [0, 1, 2] S_

variable [Facts]

def fn {F : FTy → Type} [FloatOps F] (main_arg0 : FVec F S1024x16384 .bf16) (main_arg1 : FVec F S16384x1024 .bf16) (main_arg2 : FVec F S64x1024x256 .bf16) (main_arg3 : FVec F S4x16x1024 .f32) : IVec S_ 1 :=
  let main_v0 : FVec F S1024x16384 .f32 := (extf .f32 · bitsLt_bf16_f32) main_arg0
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_c : IVec S_ 1 := constantI S_ 1 1#1
  let main_v4 : IVec S_ 1 := (fun x v => Host.reduce IntOp.andi x v reducesTo_S1024x16384_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S4x16x1024 .f32 := Host.absf main_arg3
  let main_cst_2 : FVec F S_ .f32 := constant S_ .f32 0x7F800000#32
  let main_v12 : FVec F S4x16x1024 .f32 := broadcastInDim S4x16x1024 ![] bcast_S_S4x16x1024 main_cst_2
  let main_v13 : IVec S4x16x1024 1 := cmpf .olt main_v11 main_v12
  let main_c_3 : IVec S_ 1 := constantI S_ 1 1#1
  let main_v14 : IVec S_ 1 := (fun x v => Host.reduce IntOp.andi x v reducesTo_S4x16x1024_S_d0_1_2 h_S_) main_v13 main_c_3
  let main_v15 : IVec S_ 1 := andi main_v10 main_v14
  main_v15
-- ==== Sconv.lean ====
abbrev S16384x1024 : Shape := ⟨2, ![16384, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S4x8x1024 : Shape := ⟨3, ![4, 8, 1024]⟩
abbrev S256x1024 : Shape := ⟨2, ![256, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024x3072, .bf16⟩
  | .hbm, ⟨6, _⟩ => ⟨S1024x1024, .bf16⟩
  | .hbm, ⟨7, _⟩ => ⟨S16384x1024, .f32⟩
  | .hbm, ⟨8, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x8x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SconvRefIdeal.lean ====
abbrev S16384x1024 : Shape := ⟨2, ![16384, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x2x1024 : Shape := ⟨3, ![4, 2, 1024]⟩
abbrev S4x4098x1024 : Shape := ⟨3, ![4, 4098, 1024]⟩
abbrev S4x8x1024 : Shape := ⟨3, ![4, 8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4x4096x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x3072, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x2x1024, .f32⟩
  | .hbm, ⟨30, _⟩ => ⟨S4x4098x1024, .f32⟩
  | .hbm, ⟨31, _⟩ => ⟨S4x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S16384x1024, .f32⟩
  | .hbm, ⟨55, _⟩ => ⟨S4x8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== FfnLast.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnLastRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Conf.lean ====
abbrev S16384x1024 : Shape := ⟨2, ![16384, 1024]⟩
abbrev S1x1024 : Shape := ⟨2, ![1, 1024]⟩
abbrev S1024x2048 : Shape := ⟨2, ![1024, 2048]⟩
abbrev S31x1024 : Shape := ⟨2, ![31, 1024]⟩
abbrev S1024x1024 : Shape := ⟨2, ![1024, 1024]⟩
abbrev S4x32x1024 : Shape := ⟨3, ![4, 32, 1024]⟩
abbrev S256x1024 : Shape := ⟨2, ![256, 1024]⟩
abbrev S1x32x1024 : Shape := ⟨3, ![1, 32, 1024]⟩
abbrev S288x1024 : Shape := ⟨2, ![288, 1024]⟩
abbrev S32x1024 : Shape := ⟨2, ![32, 1024]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x2048, .bf16⟩
  | .hbm, ⟨9, _⟩ => ⟨S1024x1024, .bf16⟩
  | .hbm, ⟨10, _⟩ => ⟨S16384x1024, .f32⟩
  | .hbm, ⟨11, _⟩ => ⟨S4x32x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S1x32x1024, .f32⟩
  | .local _ .vmem, ⟨12, _⟩ => ⟨S1x32x1024, .f32⟩
  | .local _ .vmem, ⟨13, _⟩ => ⟨S288x1024, .f32⟩
  | .local _ .vmem, ⟨14, _⟩ => ⟨S288x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConfRefIdeal.lean ====
abbrev S16384x1024 : Shape := ⟨2, ![16384, 1024]⟩
abbrev S1x1024 : Shape := ⟨2, ![1, 1024]⟩
abbrev S1024x2048 : Shape := ⟨2, ![1024, 2048]⟩
abbrev S31x1024 : Shape := ⟨2, ![31, 1024]⟩
abbrev S1024x1024 : Shape := ⟨2, ![1024, 1024]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x30x1024 : Shape := ⟨3, ![4, 30, 1024]⟩
abbrev S4x4126x1024 : Shape := ⟨3, ![4, 4126, 1024]⟩
abbrev S4x32x1024 : Shape := ⟨3, ![4, 32, 1024]⟩

abbrev nBuf : Space → Nat
  | .hbm => 303
  | .vmem => 0
  | .smem => 0
  | _ => 0

abbrev hbmTy0_0 (i : Nat) : BufTy := match i % 128 with
  | 0 => ⟨S16384x1024, .f32⟩
  | 1 => ⟨S1x1024, .f32⟩
  | 2 => ⟨S1024x2048, .f32⟩
  | 3 => ⟨S31x1024, .f32⟩
  | 4 => ⟨S1x1024, .f32⟩
  | 5 => ⟨S1x1024, .f32⟩
  | 6 => ⟨S1x1024, .f32⟩
  | 7 => ⟨S1024x1024, .f32⟩
  | 8 => ⟨S4x4096x1024, .f32⟩
  | 9 => ⟨S1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x2048, .f32⟩
  | 27 => ⟨S4x4096x1024, .f32⟩
  | 28 => ⟨S4x4096x1024, .f32⟩
  | 29 => ⟨S4x4096x1024, .f32⟩
  | 30 => ⟨S4x4096x1024, .f32⟩
  | 31 => ⟨S_, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S4x4096x1024, .f32⟩
  | 38 => ⟨S_, .f32⟩
  | 39 => ⟨S4x30x1024, .f32⟩
  | 40 => ⟨S4x4126x1024, .f32⟩
  | 41 => ⟨S4x4096x1024, .f32⟩
  | 42 => ⟨S1x1024, .f32⟩
  | 43 => ⟨S1024, .f32⟩
  | 44 => ⟨S1x1x1024, .f32⟩
  | 45 => ⟨S4x4096x1024, .f32⟩
  | 46 => ⟨S4x4096x1024, .f32⟩
  | 47 => ⟨S4x4096x1024, .f32⟩
  | 48 => ⟨S1x1024, .f32⟩
  | 49 => ⟨S1024, .f32⟩
  | 50 => ⟨S1x1x1024, .f32⟩
  | 51 => ⟨S4x4096x1024, .f32⟩
  | 52 => ⟨S4x4096x1024, .f32⟩
  | 53 => ⟨S4x4096x1024, .f32⟩
  | 54 => ⟨S4x4096x1024, .f32⟩
  | 55 => ⟨S1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S4x4096x1024, .f32⟩
  | 62 => ⟨S1x1024, .f32⟩
  | 63 => ⟨S1024, .f32⟩
  | 64 => ⟨S1x1x1024, .f32⟩
  | 65 => ⟨S4x4096x1024, .f32⟩
  | 66 => ⟨S4x4096x1024, .f32⟩
  | 67 => ⟨S4x4096x1024, .f32⟩
  | 68 => ⟨S4x4096x1024, .f32⟩
  | 69 => ⟨S1x1024, .f32⟩
  | 70 => ⟨S1024, .f32⟩
  | 71 => ⟨S1x1x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S1x1024, .f32⟩
  | 77 => ⟨S1024, .f32⟩
  | 78 => ⟨S1x1x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S1x1024, .f32⟩
  | 84 => ⟨S1024, .f32⟩
  | 85 => ⟨S1x1x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1x1024, .f32⟩
  | 91 => ⟨S1024, .f32⟩
  | 92 => ⟨S1x1x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S1x1024, .f32⟩
  | 98 => ⟨S1024, .f32⟩
  | 99 => ⟨S1x1x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S1x1024, .f32⟩
  | 105 => ⟨S1024, .f32⟩
  | 106 => ⟨S1x1x1024, .f32⟩
  | 107 => ⟨S4x4096x1024, .f32⟩
  | 108 => ⟨S4x4096x1024, .f32⟩
  | 109 => ⟨S4x4096x1024, .f32⟩
  | 110 => ⟨S4x4096x1024, .f32⟩
  | 111 => ⟨S1x1024, .f32⟩
  | 112 => ⟨S1024, .f32⟩
  | 113 => ⟨S1x1x1024, .f32⟩
  | 114 => ⟨S4x4096x1024, .f32⟩
  | 115 => ⟨S4x4096x1024, .f32⟩
  | 116 => ⟨S4x4096x1024, .f32⟩
  | 117 => ⟨S4x4096x1024, .f32⟩
  | 118 => ⟨S1x1024, .f32⟩
  | 119 => ⟨S1024, .f32⟩
  | 120 => ⟨S1x1x1024, .f32⟩
  | 121 => ⟨S4x4096x1024, .f32⟩
  | 122 => ⟨S4x4096x1024, .f32⟩
  | 123 => ⟨S4x4096x1024, .f32⟩
  | 124 => ⟨S4x4096x1024, .f32⟩
  | 125 => ⟨S1x1024, .f32⟩
  | 126 => ⟨S1024, .f32⟩
  | 127 => ⟨S1x1x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S1x1024, .f32⟩
  | 5 => ⟨S1024, .f32⟩
  | 6 => ⟨S1x1x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S1x1024, .f32⟩
  | 12 => ⟨S1024, .f32⟩
  | 13 => ⟨S1x1x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S1x1024, .f32⟩
  | 19 => ⟨S1024, .f32⟩
  | 20 => ⟨S1x1x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S1x1024, .f32⟩
  | 117 => ⟨S1024, .f32⟩
  | 118 => ⟨S1x1x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S1x1024, .f32⟩
  | 124 => ⟨S1024, .f32⟩
  | 125 => ⟨S1x1x1024, .f32⟩
  | 126 => ⟨S4x4096x1024, .f32⟩
  | 127 => ⟨S4x4096x1024, .f32⟩
  | _ => ⟨S16384x1024, .f32⟩

abbrev hbmTy0_2 (i : Nat) : BufTy := match i % 128 with
  | 0 => ⟨S4x4096x1024, .f32⟩
  | 1 => ⟨S1024, .f32⟩
  | 2 => ⟨S1x1x1024, .f32⟩
  | 3 => ⟨S4x4096x1024, .f32⟩
  | 4 => ⟨S4x4096x1024, .f32⟩
  | 5 => ⟨S1024, .f32⟩
  | 6 => ⟨S1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S4x4096x1024, .f32⟩
  | 14 => ⟨S4x4096x1024, .f32⟩
  | 15 => ⟨S4x4096x1024, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S_, .f32⟩
  | 23 => ⟨S4x4096x1, .f32⟩
  | 24 => ⟨S4x4096x1, .f32⟩
  | 25 => ⟨S4x4096x1, .f32⟩
  | 26 => ⟨S4x4096x1024, .f32⟩
  | 27 => ⟨S4x4096x1024, .f32⟩
  | 28 => ⟨S1x1x1024, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S_, .f32⟩
  | 40 => ⟨S4x4096x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S16384x1024, .f32⟩
  | 46 => ⟨S4x32x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_cst_5 : Ref sig .tc := ⟨.hbm, 263, rfl⟩
abbrev main_v249 : Ref sig .tc := ⟨.hbm, 264, rfl⟩
abbrev main_v250 : Ref sig .tc := ⟨.hbm, 265, rfl⟩
abbrev main_cst_6 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_cst_7 : Ref sig .tc := ⟨.hbm, 272, rfl⟩
abbrev main_v256 : Ref sig .tc := ⟨.hbm, 273, rfl⟩
abbrev main_v257 : Ref sig .tc := ⟨.hbm, 274, rfl⟩
abbrev main_cst_8 : Ref sig .tc := ⟨.hbm, 275, rfl⟩
abbrev main_v258 : Ref sig .tc := ⟨.hbm, 276, rfl⟩
abbrev main_v259 : Ref sig .tc := ⟨.hbm, 277, rfl⟩
abbrev main_cst_9 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_call0_v0 : Ref sig .tc := ⟨.hbm, 290, rfl⟩
abbrev main_call0_v1 : Ref sig .tc := ⟨.hbm, 291, rfl⟩
abbrev main_call0_cst : Ref sig .tc := ⟨.hbm, 292, rfl⟩
abbrev main_call0_v2 : Ref sig .tc := ⟨.hbm, 293, rfl⟩
abbrev main_call0_v3 : Ref sig .tc := ⟨.hbm, 294, rfl⟩
abbrev main_call0_cst_0 : Ref sig .tc := ⟨.hbm, 295, rfl⟩
abbrev main_call0_v4 : Ref sig .tc := ⟨.hbm, 296, rfl⟩
abbrev main_call0_v5 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩

abbrev nD : Nat := 1
abbrev τ : Topo := Topo.v7x

variable {F : FTy → Type} [FloatOps F]
-- ==== Moba.lean ====
abbrev S1024x16384 : Shape := ⟨2, ![1024, 16384]⟩
abbrev S16384x1024 : Shape := ⟨2, ![16384, 1024]⟩
abbrev S64x1024x256 : Shape := ⟨3, ![64, 1024, 256]⟩
abbrev S4x16x1024 : Shape := ⟨3, ![4, 16, 1024]⟩
abbrev S4x4096x1024 : Shape := ⟨3, ![4, 4096, 1024]⟩
abbrev S128x512 : Shape := ⟨2, ![128, 512]⟩
abbrev S1x4096x128 : Shape := ⟨3, ![1, 4096, 128]⟩
abbrev S16x128x256 : Shape := ⟨3, ![16, 128, 256]⟩
abbrev S1x16x128 : Shape := ⟨3, ![1, 16, 128]⟩
abbrev S2x256x512 : Shape := ⟨3, ![2, 256, 512]⟩
abbrev S1x512 : Shape := ⟨2, ![1, 512]⟩
abbrev S16x512 : Shape := ⟨2, ![16, 512]⟩
abbrev S16x128 : Shape := ⟨2, ![16, 128]⟩
abbrev S64x512 : Shape := ⟨2, ![64, 512]⟩
abbrev S512 : Shape := ⟨1, ![512]⟩
abbrev S112x512 : Shape := ⟨2, ![112, 512]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S1x256x512 : Shape := ⟨3, ![1, 256, 512]⟩
abbrev S80x512 : Shape := ⟨2, ![80, 512]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩

abbrev nBuf : Space → Nat
  | .hbm => 6
  | .vmem => 12
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x1024x256, .bf16⟩
  | .hbm, ⟨3, _⟩ => ⟨S4x16x1024, .f32⟩
  | .hbm, ⟨4, _⟩ => ⟨S4x4096x1024, .bf16⟩
  | .hbm, ⟨5, _⟩ => ⟨S1024x16384, .bf16⟩
  | .local _ .vmem, ⟨0, _⟩ => ⟨S128x512, .bf16⟩
  | .local _ .vmem, ⟨1, _⟩ => ⟨S128x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S16x128x256, .bf16⟩
  | .local _ .vmem, ⟨5, _⟩ => ⟨S16x128x256, .bf16⟩
  | .local _ .vmem, ⟨6, _⟩ => ⟨S1x16x128, .f32⟩
  | .local _ .vmem, ⟨7, _⟩ => ⟨S1x16x128, .f32⟩
  | .local _ .vmem, ⟨8, _⟩ => ⟨S128x512, .bf16⟩
  | .local _ .vmem, ⟨9, _⟩ => ⟨S128x512, .bf16⟩
  | .local _ .vmem, ⟨10, _⟩ => ⟨S2x256x512, .f32⟩
  | .local _ .vmem, ⟨11, _⟩ => ⟨S2x256x512, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_mult1 : BitVec 32 :=
  let c0_i32_69 : BitVec 32 := 0#32
  c0_i32_69
@[reducible] def k0_t1_loop (i : grid0.Coords) : Scf.Loop 32 :=
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_94 : BitVec 32 := 1#32
  ⟨c0_i32_92, v256, c1_i32_94⟩
def k0_mult2 (i : grid0.Coords) (k0_t1 : Fin (k0_t1_loop i).trips) : BitVec 32 :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let c1_i32_158 : BitVec 32 := 1#32
  let v404 : BitVec 32 := Scalar.addi v403 c1_i32_158
  let c256_i32_159 : BitVec 32 := 256#32
  let v405 : BitVec 32 := Scalar.muli v404 c256_i32_159
  v405
def k0_off1 (i : grid0.Coords) (k0_t1 : Fin (k0_t1_loop i).trips) (c1_i32_158 : BitVec 32) : Fin 3 → Nat :=
  let c0_160 : Index := 0#32
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let v404 : BitVec 32 := Scalar.addi v403 c1_i32_158
  let c256_i32_159 : BitVec 32 := 256#32
  let v405 : BitVec 32 := Scalar.muli v404 c256_i32_159
  let v406 : BitVec 32 := v405
  let v407 : Index := Scalar.indexCast v406
  let c0_161 : Index := 0#32
  ![0, v407.toNat, 0]
def k0_off2 (i : grid0.Coords) (k0_t1 : Fin (k0_t1_loop i).trips) : Fin 3 → Nat :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let v427 : Index := Scalar.indexCast v403
  let c0_175 : Index := 0#32
  let c0_176 : Index := 0#32
  ![v427.toNat, 0, 0]
def k0_off3 (i : grid0.Coords) (k0_t1 : Fin (k0_t1_loop i).trips) : Fin 3 → Nat :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let v447 : Index := Scalar.indexCast v403
  let c64_183 : Index := 64#32
  let c0_184 : Index := 0#32
  ![v447.toNat, 64, 0]
def k0_mult3 (i : grid0.Coords) (k0_t1 : Fin (k0_t1_loop i).trips) : BitVec 32 :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let c2_i32_188 : BitVec 32 := 2#32
  let v465 : BitVec 32 := Scalar.addi v403 c2_i32_188
  let c256_i32_189 : BitVec 32 := 256#32
  let v466 : BitVec 32 := Scalar.muli v465 c256_i32_189
  v466
def k0_off4 (i : grid0.Coords) (k0_t1 : Fin (k0_t1_loop i).trips) : Fin 3 → Nat :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let c1_i32_202 : BitVec 32 := 1#32
  let v486 : BitVec 32 := Scalar.addi v403 c1_i32_202
  let v489 : Index := Scalar.indexCast v486
  let c0_206 : Index := 0#32
  let c0_207 : Index := 0#32
  ![v489.toNat, 0, 0]
def k0_off5 (i : grid0.Coords) (k0_t1 : Fin (k0_t1_loop i).trips) : Fin 3 → Nat :=
  let c2_i32_157 : BitVec 32 := 2#32
  let c0_i32_92 : BitVec 32 := 0#32
  let c1_i32_94 : BitVec 32 := 1#32
  let arg10 : BitVec 32 := Scf.iv c0_i32_92 c1_i32_94 k0_t1
  let v403 : BitVec 32 := Scalar.muli c2_i32_157 arg10
  let c1_i32_202 : BitVec 32 := 1#32
  let v486 : BitVec 32 := Scalar.addi v403 c1_i32_202
  let v509 : Index := Scalar.indexCast v486
  let c64_214 : Index := 64#32
  let c0_215 : Index := 0#32
  ![v509.toNat, 64, 0]
@[reducible] def k0_t2_loop (i : grid0.Coords) : Scf.Loop 32 :=
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let v253 : BitVec 32 := Scalar.addi c0_i32_92 v252
  let c1_i32_95 : BitVec 32 := 1#32
  ⟨v256, v253, c1_i32_95⟩
def k0_mult4 (i : grid0.Coords) (k0_t2 : Fin (k0_t2_loop i).trips) : BitVec 32 :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let c1_i32_158 : BitVec 32 := 1#32
  let v404 : BitVec 32 := Scalar.addi v403 c1_i32_158
  let c256_i32_159 : BitVec 32 := 256#32
  let v405 : BitVec 32 := Scalar.muli v404 c256_i32_159
  v405
def k0_off6 (i : grid0.Coords) (k0_t2 : Fin (k0_t2_loop i).trips) (c1_i32_158 : BitVec 32) : Fin 3 → Nat :=
  let c0_160 : Index := 0#32
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let v404 : BitVec 32 := Scalar.addi v403 c1_i32_158
  let c256_i32_159 : BitVec 32 := 256#32
  let v405 : BitVec 32 := Scalar.muli v404 c256_i32_159
  let v406 : BitVec 32 := v405
  let v407 : Index := Scalar.indexCast v406
  let c0_161 : Index := 0#32
  ![0, v407.toNat, 0]
def k0_off7 (i : grid0.Coords) (k0_t2 : Fin (k0_t2_loop i).trips) : Fin 3 → Nat :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let v427 : Index := Scalar.indexCast v403
  let c0_175 : Index := 0#32
  let c0_176 : Index := 0#32
  ![v427.toNat, 0, 0]
def k0_off8 (i : grid0.Coords) (k0_t2 : Fin (k0_t2_loop i).trips) : Fin 3 → Nat :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let v447 : Index := Scalar.indexCast v403
  let c64_183 : Index := 64#32
  let c0_184 : Index := 0#32
  ![v447.toNat, 64, 0]
def k0_mult5 (i : grid0.Coords) (k0_t2 : Fin (k0_t2_loop i).trips) : BitVec 32 :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let c2_i32_188 : BitVec 32 := 2#32
  let v465 : BitVec 32 := Scalar.addi v403 c2_i32_188
  let c256_i32_189 : BitVec 32 := 256#32
  let v466 : BitVec 32 := Scalar.muli v465 c256_i32_189
  v466
def k0_off9 (i : grid0.Coords) (k0_t2 : Fin (k0_t2_loop i).trips) : Fin 3 → Nat :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let c1_i32_202 : BitVec 32 := 1#32
  let v486 : BitVec 32 := Scalar.addi v403 c1_i32_202
  let v489 : Index := Scalar.indexCast v486
  let c0_206 : Index := 0#32
  let c0_207 : Index := 0#32
  ![v489.toNat, 0, 0]
def k0_off10 (i : grid0.Coords) (k0_t2 : Fin (k0_t2_loop i).trips) : Fin 3 → Nat :=
  let c2_i32_157 : BitVec 32 := 2#32
  let c0_i32_92 : BitVec 32 := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c0_i32_82 : BitVec 32 := 0#32
  let v232 : BitVec 1 := Scalar.cmpi .sgt v211 c0_i32_82
  let v233 : BitVec 32 := Scalar.extui v232
  let c0_i32_83 : BitVec 32 := 0#32
  let v234 : BitVec 1 := Scalar.cmpi .slt v211 c0_i32_83
  let v235 : BitVec 32 := Scalar.extui v234
  let v236 : BitVec 32 := Scalar.subi v233 v235
  let c2_i32 : BitVec 32 := 2#32
  let c0_i32_84 : BitVec 32 := 0#32
  let v237 : BitVec 1 := Scalar.cmpi .sgt c2_i32 c0_i32_84
  let v238 : BitVec 32 := Scalar.extui v237
  let c0_i32_85 : BitVec 32 := 0#32
  let v239 : BitVec 1 := Scalar.cmpi .slt c2_i32 c0_i32_85
  let v240 : BitVec 32 := Scalar.extui v239
  let v241 : BitVec 32 := Scalar.subi v238 v240
  let v242 : BitVec 1 := Scalar.cmpi .ne v236 v241
  let v243 : BitVec 32 := Scalar.remsi v211 c2_i32
  let c0_i32_86 : BitVec 32 := 0#32
  let v244 : BitVec 1 := Scalar.cmpi .ne v243 c0_i32_86
  let v245 : BitVec 1 := Scalar.andi v242 v244
  let v231 : BitVec 32 := Scalar.divsi v211 c2_i32
  let c1_i32_87 : BitVec 32 := 1#32
  let v246 : BitVec 32 := Scalar.subi v231 c1_i32_87
  let v247 : BitVec 32 := Scalar.select v245 v246 v231
  let v252 : BitVec 32 := Scalar.subi v247 c0_i32_92
  let c1_i32_93 : BitVec 32 := 1#32
  let v254 : BitVec 32 := Scalar.divsi v252 c1_i32_93
  let v255 : BitVec 32 := Scalar.muli v254 c1_i32_93
  let v256 : BitVec 32 := Scalar.addi c0_i32_92 v255
  let c1_i32_95 : BitVec 32 := 1#32
  let arg10 : BitVec 32 := Scf.iv v256 c1_i32_95 k0_t2
  let v403 : BitVec 32 := Scalar.muli c2_i32_157 arg10
  let c1_i32_202 : BitVec 32 := 1#32
  let v486 : BitVec 32 := Scalar.addi v403 c1_i32_202
  let v509 : Index := Scalar.indexCast v486
  let c64_214 : Index := 64#32
  let c0_215 : Index := 0#32
  ![v509.toNat, 64, 0]
def k0_mult6 (i : grid0.Coords) : BitVec 32 :=
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c1_i32_96 : BitVec 32 := 1#32
  let v259 : BitVec 32 := Scalar.addi v211 c1_i32_96
  let c256_i32_97 : BitVec 32 := 256#32
  let v260 : BitVec 32 := Scalar.muli v259 c256_i32_97
  v260
def k0_off11 (i : grid0.Coords) : Fin 3 → Nat :=
  let c0_98 : Index := 0#32
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c1_i32_96 : BitVec 32 := 1#32
  let v259 : BitVec 32 := Scalar.addi v211 c1_i32_96
  let c256_i32_97 : BitVec 32 := 256#32
  let v260 : BitVec 32 := Scalar.muli v259 c256_i32_97
  let v261 : BitVec 32 := v260
  let v262 : Index := Scalar.indexCast v261
  let c0_99 : Index := 0#32
  ![0, v262.toNat, 0]
def k0_off12 (i : grid0.Coords) : Fin 3 → Nat :=
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let v291 : Index := Scalar.indexCast v211
  let c0_116 : Index := 0#32
  let c0_117 : Index := 0#32
  ![v291.toNat, 0, 0]
def k0_off13 (i : grid0.Coords) : Fin 3 → Nat :=
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let v312 : Index := Scalar.indexCast v211
  let c64_124 : Index := 64#32
  let c0_125 : Index := 0#32
  ![v312.toNat, 64, 0]
def k0_off14 (i : grid0.Coords) : Fin 3 → Nat :=
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c1_i32_129 : BitVec 32 := 1#32
  let v331 : BitVec 32 := Scalar.addi v211 c1_i32_129
  let v343 : Index := Scalar.indexCast v331
  let c0_136 : Index := 0#32
  let c0_137 : Index := 0#32
  ![v343.toNat, 0, 0]
def k0_off15 (i : grid0.Coords) : Fin 3 → Nat :=
  let arg2 : BitVec 32 := BitVec.ofNat 32 (i 2).val
  let c512_i32 : BitVec 32 := 512#32
  let v0 : BitVec 32 := Scalar.muli arg2 c512_i32
  let c0_i32_63 : BitVec 32 := 0#32
  let v196 : BitVec 1 := Scalar.cmpi .sgt v0 c0_i32_63
  let v197 : BitVec 32 := Scalar.extui v196
  let c0_i32_64 : BitVec 32 := 0#32
  let v198 : BitVec 1 := Scalar.cmpi .slt v0 c0_i32_64
  let v199 : BitVec 32 := Scalar.extui v198
  let v200 : BitVec 32 := Scalar.subi v197 v199
  let c256_i32_62 : BitVec 32 := 256#32
  let c0_i32_65 : BitVec 32 := 0#32
  let v201 : BitVec 1 := Scalar.cmpi .sgt c256_i32_62 c0_i32_65
  let v202 : BitVec 32 := Scalar.extui v201
  let c0_i32_66 : BitVec 32 := 0#32
  let v203 : BitVec 1 := Scalar.cmpi .slt c256_i32_62 c0_i32_66
  let v204 : BitVec 32 := Scalar.extui v203
  let v205 : BitVec 32 := Scalar.subi v202 v204
  let v206 : BitVec 1 := Scalar.cmpi .ne v200 v205
  let v207 : BitVec 32 := Scalar.remsi v0 c256_i32_62
  let c0_i32_67 : BitVec 32 := 0#32
  let v208 : BitVec 1 := Scalar.cmpi .ne v207 c0_i32_67
  let v209 : BitVec 1 := Scalar.andi v206 v208
  let v195 : BitVec 32 := Scalar.divsi v0 c256_i32_62
  let c1_i32_68 : BitVec 32 := 1#32
  let v210 : BitVec 32 := Scalar.subi v195 c1_i32_68
  let v211 : BitVec 32 := Scalar.select v209 v210 v195
  let c1_i32_129 : BitVec 32 := 1#32
  let v331 : BitVec 32 := Scalar.addi v211 c1_i32_129
  let v364 : Index := Scalar.indexCast v331
  let c64_144 : Index := 64#32
  let c0_145 : Index := 0#32
  ![v364.toNat, 64, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S1024x16384 : Shape := ⟨2, ![1024, 16384]⟩
abbrev S16384x1024 : Shape := ⟨2, ![16384, 1024]⟩
abbrev S64x1024x256 : Shape := ⟨3, ![64, 1024, 256]⟩
abbrev S4x16x1024 : Shape := ⟨3, ![4, 16, 1024]⟩
abbrev S16x64x4x4096 : Shape := ⟨4, ![16, 64, 4, 4096]⟩
abbrev S4x4096x16x64 : Shape := ⟨4, ![4, 4096, 16, 64]⟩
abbrev S4x16x16x64x256 : Shape := ⟨5, ![4, 16, 16, 64, 256]⟩
abbrev S4x16x16x64 : Shape := ⟨4, ![4, 16, 16, 64]⟩
abbrev S4096 : Shape := ⟨1, ![4096]⟩
abbrev S16 : Shape := ⟨1, ![16]⟩
abbrev S_ : Shape := ⟨0, ![]⟩
abbrev S4x16x4096x16 : Shape := ⟨4, ![4, 16, 4096, 16]⟩
abbrev S1x16 : Shape := ⟨2, ![1, 16]⟩
abbrev S4096x1 : Shape := ⟨2, ![4096, 1]⟩
abbrev S4096x16 : Shape := ⟨2, ![4096, 16]⟩
abbrev S4x16x4096x3 : Shape := ⟨4, ![4, 16, 4096, 3]⟩
abbrev S4x16x4096x3x1 : Shape := ⟨5, ![4, 16, 4096, 3, 1]⟩
abbrev S1x1x1x1x16 : Shape := ⟨5, ![1, 1, 1, 1, 16]⟩
abbrev S4x16x4096x3x16 : Shape := ⟨5, ![4, 16, 4096, 3, 16]⟩
abbrev S1x1x4096x16 : Shape := ⟨4, ![1, 1, 4096, 16]⟩
abbrev S4x16x4096x4096 : Shape := ⟨4, ![4, 16, 4096, 4096]⟩
abbrev S4x16x4096x16x256 : Shape := ⟨5, ![4, 16, 4096, 16, 256]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x64x16x256 : Shape := ⟨5, ![4, 16, 64, 16, 256]⟩
abbrev S4x16x64x4096 : Shape := ⟨4, ![4, 16, 64, 4096]⟩
abbrev S16x4x64x4096 : Shape := ⟨4, ![16, 4, 64, 4096]⟩

abbrev nBuf : Space → Nat
  | .hbm => 110
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x1024x256, .bf16⟩
  | .hbm, ⟨3, _⟩ => ⟨S4x16x1024, .f32⟩
  | .hbm, ⟨4, _⟩ => ⟨S1024x16384, .f32⟩
  | .hbm, ⟨5, _⟩ => ⟨S16x64x4x4096, .f32⟩
  | .hbm, ⟨6, _⟩ => ⟨S16384x1024, .f32⟩
  | .hbm, ⟨7, _⟩ => ⟨S4x4096x16x64, .f32⟩
  | .hbm, ⟨8, _⟩ => ⟨S64x1024x256, .f32⟩
  | .hbm, ⟨9, _⟩ => ⟨S4x16x16x64x256, .f32⟩
  | .hbm, ⟨10, _⟩ => ⟨S4x16x16x64, .f32⟩
  | .hbm, ⟨11, _⟩ => ⟨S4096, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4x16x4096x16, .f32⟩
  | .hbm, ⟨32, _⟩ => ⟨S1x16, .i32⟩
  | .hbm, ⟨33, _⟩ => ⟨S4096x1, .i32⟩
  | .hbm, ⟨34, _⟩ => ⟨S4096x16, .i32⟩
  | .hbm, ⟨35, _⟩ => ⟨S4096x16, .i32⟩
  | .hbm, ⟨36, _⟩ => ⟨S4096x16, .i1⟩
  | .hbm, ⟨37, _⟩ => ⟨S_, .f32⟩
  | .hbm, ⟨38, _⟩ => ⟨S_, .f32⟩
  | .hbm, ⟨39, _⟩ => ⟨S4x16x4096x16, .i1⟩
  | .hbm, ⟨40, _⟩ => ⟨S4x16x4096x16, .f32⟩
  | .hbm, ⟨41, _⟩ => ⟨S4x16x4096x16, .f32⟩
  | .hbm, ⟨42, _⟩ => ⟨S4x16x4096x3, .f32⟩
  | .hbm, ⟨43, _⟩ => ⟨S4x16x4096x3, .i32⟩
  | .hbm, ⟨44, _⟩ => ⟨S4x16x4096x3x1, .i32⟩
  | .hbm, ⟨45, _⟩ => ⟨S1x1x1x1x16, .i32⟩
  | .hbm, ⟨46, _⟩ => ⟨S4x16x4096x3x16, .i32⟩
  | .hbm, ⟨47, _⟩ => ⟨S4x16x4096x3x16, .i32⟩
  | .hbm, ⟨48, _⟩ => ⟨S4x16x4096x3x16, .i1⟩
  | .hbm, ⟨49, _⟩ => ⟨S_, .f32⟩
  | .hbm, ⟨50, _⟩ => ⟨S4x16x4096x3, .f32⟩
  | .hbm, ⟨51, _⟩ => ⟨S4x16x4096x3, .i1⟩
  | .hbm, ⟨52, _⟩ => ⟨S4x16x4096x3x1, .i1⟩
  | .hbm, ⟨53, _⟩ => ⟨S4x16x4096x3x16, .i1⟩
  | .hbm, ⟨54, _⟩ => ⟨S4x16x4096x3x16, .i1⟩
  | .hbm, ⟨55, _⟩ => ⟨S_, .i1⟩
  | .hbm, ⟨56, _⟩ => ⟨S4x16x4096x16, .i1⟩
  | .hbm, ⟨57, _⟩ => ⟨S1x16, .i32⟩
  | .hbm, ⟨58, _⟩ => ⟨S4096x1, .i32⟩
  | .hbm, ⟨59, _⟩ => ⟨S4096x16, .i32⟩
  | .hbm, ⟨60, _⟩ => ⟨S4096x16, .i32⟩
  | .hbm, ⟨61, _⟩ => ⟨S4096x16, .i1⟩
  | .hbm, ⟨62, _⟩ => ⟨S1x1x4096x16, .i1⟩
  | .hbm, ⟨63, _⟩ => ⟨S4x16x4096x16, .i1⟩
  | .hbm, ⟨64, _⟩ => ⟨S4x16x4096x16, .i1⟩
  | .hbm, ⟨65, _⟩ => ⟨S4x16x4096x4096, .f32⟩
  | .hbm, ⟨66, _⟩ => ⟨S4x16x4096x16x256, .i1⟩
  | .hbm, ⟨67, _⟩ => ⟨S4x16x4096x4096, .i1⟩
  | .hbm, ⟨68, _⟩ => ⟨S1x4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S1x1x4096x4096, .i1⟩
  | .hbm, ⟨74, _⟩ => ⟨S4x16x4096x4096, .i1⟩
  | .hbm, ⟨75, _⟩ => ⟨S4x16x4096x4096, .i1⟩
  | .hbm, ⟨76, _⟩ => ⟨S_, .f32⟩
  | .hbm, ⟨77, _⟩ => ⟨S_, .f32⟩
  | .hbm, ⟨78, _⟩ => ⟨S4x16x4096x4096, .f32⟩
  | .hbm, ⟨79, _⟩ => ⟨S4x16x4096x4096, .f32⟩
  | .hbm, ⟨80, _⟩ => ⟨S_, .f32⟩
  | .hbm, ⟨81, _⟩ => ⟨S4x16x4096, .f32⟩
  | .hbm, ⟨82, _⟩ => ⟨S4x16x4096x1, .f32⟩
  | .hbm, ⟨83, _⟩ => ⟨S4x16x4096x1, .f32⟩
  | .hbm, ⟨84, _⟩ => ⟨S_, .f32⟩
  | .hbm, ⟨85, _⟩ => ⟨S4x16x4096x1, .f32⟩
  | .hbm, ⟨86, _⟩ => ⟨S4x16x4096x1, .i1⟩
  | .hbm, ⟨87, _⟩ => ⟨S_, .f32⟩
  | .hbm, ⟨88, _⟩ => ⟨S_, .f32⟩
  | .hbm, ⟨89, _⟩ => ⟨S4x16x4096x1, .f32⟩
  | .hbm, ⟨90, _⟩ => ⟨S4x16x4096x1, .f32⟩
  | .hbm, ⟨91, _⟩ => ⟨S_, .f32⟩
  | .hbm, ⟨92, _⟩ => ⟨S4x16x4096x4096, .f32⟩
  | .hbm, ⟨93, _⟩ => ⟨S4x16x4096x4096, .f32⟩
  | .hbm, ⟨94, _⟩ => ⟨S4x16x4096x4096, .f32⟩
  | .hbm, ⟨95, _⟩ => ⟨S4x16x4096x4096, .f32⟩
  | .hbm, ⟨96, _⟩ => ⟨S_, .f32⟩
  | .hbm, ⟨97, _⟩ => ⟨S4x16x4096, .f32⟩
  | .hbm, ⟨98, _⟩ => ⟨S4x16x4096x1, .f32⟩
  | .hbm, ⟨99, _⟩ => ⟨S_, .f32⟩
  | .hbm, ⟨100, _⟩ => ⟨S4x16x4096x1, .f32⟩
  | .hbm, ⟨101, _⟩ => ⟨S4x16x4096x1, .f32⟩
  | .hbm, ⟨102, _⟩ => ⟨S4x16x4096x4096, .f32⟩
  | .hbm, ⟨103, _⟩ => ⟨S4x16x4096x4096, .f32⟩
  | .hbm, ⟨104, _⟩ => ⟨S4x16x64x16x256, .f32⟩
  | .hbm, ⟨105, _⟩ => ⟨S4x16x64x4096, .f32⟩
  | .hbm, ⟨106, _⟩ => ⟨S16x4x64x4096, .f32⟩
  | .hbm, ⟨107, _⟩ => ⟨S16x64x4x4096, .f32⟩
  | .hbm, ⟨108, _⟩ => ⟨S1024x16384, .f32⟩
  | .hbm, ⟨109, _⟩ => ⟨S1024x16384, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v16 : Ref sig .tc := ⟨.hbm, 41, rfl⟩
abbrev main_values : Ref sig .tc := ⟨.hbm, 42, rfl⟩
abbrev main_indices : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_1 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_2 : Ref sig .tc := ⟨.hbm, 76, rfl⟩
abbrev main_call2_v0 : Ref sig .tc := ⟨.hbm, 77, rfl⟩
abbrev main_call2_v1 : Ref sig .tc := ⟨.hbm, 78, rfl⟩
abbrev main_v47 : Ref sig .tc := ⟨.hbm, 79, rfl⟩
abbrev main_cst_3 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_4 : Ref sig .tc := ⟨.hbm, 84, rfl⟩
abbrev main_v51 : Ref sig .tc := ⟨.hbm, 85, rfl⟩
abbrev main_v52 : Ref sig .tc := ⟨.hbm, 86, rfl⟩
abbrev main_cst_5 : Ref sig .tc := ⟨.hbm, 87, rfl⟩
abbrev main_call3_v0 : Ref sig .tc := ⟨.hbm, 88, rfl⟩
abbrev main_call3_v1 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_cst_8 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== Proj.lean ====
abbrev S1024x16384 : Shape := ⟨2, ![1024, 16384]⟩
abbrev S1024x1024 : Shape := ⟨2, ![1024, 1024]⟩
abbrev S16384x1024 : Shape := ⟨2, ![16384, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x16384, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S1024x1024, .bf16⟩
  | .hbm, ⟨5, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S1024x16384 : Shape := ⟨2, ![1024, 16384]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1024x1024, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnLastS.lean ====
abbrev S32x1024 : Shape := ⟨2, ![32, 1024]⟩
abbrev S1x1024 : Shape := ⟨2, ![1, 1024]⟩
abbrev S1024x4096 : Shape := ⟨2, ![1024, 4096]⟩
abbrev S4096x1024 : Shape := ⟨2, ![4096, 1024]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnLastSRefIdeal.lean ====
abbrev S32x1024 : Shape := ⟨2, ![32, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32 : Shape := ⟨1, ![32]⟩
abbrev S32x1 : Shape := ⟨2, ![32, 1]⟩
abbrev S32x4096 : Shape := ⟨2, ![32, 4096]⟩

abbrev nBuf : Space → Nat
  | .hbm => 46
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S32x4096, .f32⟩
  | .hbm, ⟨23, _⟩ => ⟨S_, .f32⟩
  | .hbm, ⟨24, _⟩ => ⟨S32x4096, .f32⟩
  | .hbm, ⟨25, _⟩ => ⟨S32x4096, .f32⟩
  | .hbm, ⟨26, _⟩ => ⟨S32x4096, .f32⟩
  | .hbm, ⟨27, _⟩ => ⟨S32x1024, .f32⟩
  | .hbm, ⟨28, _⟩ => ⟨S32x1024, .f32⟩
  | .hbm, ⟨29, _⟩ => ⟨S1024, .f32⟩
  | .hbm, ⟨30, _⟩ => ⟨S32x1024, .f32⟩
  | .hbm, ⟨31, _⟩ => ⟨S_, .f32⟩
  | .hbm, ⟨32, _⟩ => ⟨S32, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S32x1024, .f32⟩
  | .hbm, ⟨42, _⟩ => ⟨S32x1024, .f32⟩
  | .hbm, ⟨43, _⟩ => ⟨S1x1024, .f32⟩
  | .hbm, ⟨44, _⟩ => ⟨S32x1024, .f32⟩
  | .hbm, ⟨45, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== SconvS.lean ====
abbrev S32x1024 : Shape := ⟨2, ![32, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S32x2x1024 : Shape := ⟨3, ![32, 2, 1024]⟩
abbrev S32x1x1024 : Shape := ⟨3, ![32, 1, 1024]⟩
abbrev S32 : Shape := ⟨1, ![32]⟩
abbrev S32x1 : Shape := ⟨2, ![32, 1]⟩

abbrev nBuf : Space → Nat
  | .hbm => 14
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S32x2x1024, .f32⟩
  | .hbm, ⟨6, _⟩ => ⟨S1024x3072, .bf16⟩
  | .hbm, ⟨7, _⟩ => ⟨S1024x1024, .bf16⟩
  | .hbm, ⟨8, _⟩ => ⟨S32x1x1024, .f32⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1024, .f32⟩
  | .hbm, ⟨13, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S3x1024, .f32⟩
  | .local _ .vmem, ⟨4, _⟩ => ⟨S1024x1024, .bf16⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SconvSRefIdeal.lean ====
abbrev S32x1024 : Shape := ⟨2, ![32, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S32x2x1024 : Shape := ⟨3, ![32, 2, 1024]⟩
abbrev S1024 : Shape := ⟨1, ![1024]⟩
abbrev S_ : Shape := ⟨0, ![]⟩
abbrev S32 : Shape := ⟨1, ![32]⟩
abbrev S32x1 : Shape := ⟨2, ![32, 1]⟩
abbrev S32x3072 : Shape := ⟨2, ![32, 3072]⟩
abbrev S32x1x1024 : Shape := ⟨3, ![32, 1, 1024]⟩
abbrev S32x3x1024 : Shape := ⟨3, ![32, 3, 1024]⟩
abbrev S1x3x1024 : Shape := ⟨3, ![1, 3, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S32x2x1024, .f32⟩
  | .hbm, ⟨6, _⟩ => ⟨S1024, .f32⟩
  | .hbm, ⟨7, _⟩ => ⟨S32x1024, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x3072, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S32x1x1024, .f32⟩
  | .hbm, ⟨29, _⟩ => ⟨S32x3x1024, .f32⟩
  | .hbm, ⟨30, _⟩ => ⟨S1x3x1024, .f32⟩
  | .hbm, ⟨31, _⟩ => ⟨S32x3x1024, .f32⟩
  | .hbm, ⟨32, _⟩ => ⟨S32x3x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ConfS.lean ====
abbrev S32x1024 : Shape := ⟨2, ![32, 1024]⟩
abbrev S1x1024 : Shape := ⟨2, ![1, 1024]⟩
abbrev S1024x2048 : Shape := ⟨2, ![1024, 2048]⟩
abbrev S31x1024 : Shape := ⟨2, ![31, 1024]⟩
abbrev S1024x1024 : Shape := ⟨2, ![1024, 1024]⟩
abbrev S32x30x1024 : Shape := ⟨3, ![32, 30, 1024]⟩
abbrev S30x32x1024 : Shape := ⟨3, ![30, 32, 1024]⟩
abbrev S32 : Shape := ⟨1, ![32]⟩
abbrev S32x1 : Shape := ⟨2, ![32, 1]⟩
abbrev S1x32x1024 : Shape := ⟨3, ![1, 32, 1024]⟩

abbrev nBuf : Space → Nat
  | .hbm => 14
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x2048, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S32x30x1024, .f32⟩
  | .hbm, ⟨9, _⟩ => ⟨S1024x2048, .bf16⟩
  | .hbm, ⟨10, _⟩ => ⟨S1024x1024, .bf16⟩
  | .hbm, ⟨11, _⟩ => ⟨S30x32x1024, .f32⟩
  | .hbm, ⟨12, _⟩ => ⟨S32x1024, .f32⟩
  | .hbm, ⟨13, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2048, .bf16⟩
  | .local _ .vmem, ⟨3, _⟩ => ⟨S31x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S30x32x1024, .f32⟩
  | .local _ .vmem, ⟨9, _⟩ => ⟨S32x1024, .f32⟩
  | .local _ .vmem, ⟨10, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConfSRefIdeal.lean ====
abbrev S32x1024 : Shape := ⟨2, ![32, 1024]⟩
abbrev S1x1024 : Shape := ⟨2, ![1, 1024]⟩
abbrev S1024x2048 : Shape := ⟨2, ![1024, 2048]⟩
abbrev S31x1024 : Shape := ⟨2, ![31, 1024]⟩
abbrev S1024x1024 : Shape := ⟨2, ![1024, 1024]⟩
abbrev S32x30x1024 : Shape := ⟨3, ![32, 30, 1024]⟩
abbrev S1024 : Shape := ⟨1, ![1024]⟩
abbrev S_ : Shape := ⟨0, ![]⟩
abbrev S32 : Shape := ⟨1, ![32]⟩
abbrev S32x1 : Shape := ⟨2, ![32, 1]⟩
abbrev S32x2048 : Shape := ⟨2, ![32, 2048]⟩
abbrev S32x1x1024 : Shape := ⟨3, ![32, 1, 1024]⟩
abbrev S32x31x1024 : Shape := ⟨3, ![32, 31, 1024]⟩
abbrev S1x31x1024 : Shape := ⟨3, ![1, 31, 1024]⟩

abbrev nBuf : Space → Nat
  | .hbm => 89
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x2048, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S32x30x1024, .f32⟩
  | .hbm, ⟨9, _⟩ => ⟨S1024, .f32⟩
  | .hbm, ⟨10, _⟩ => ⟨S32x1024, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x1024, .f32⟩
  | .hbm, ⟨22, _⟩ => ⟨S32x1024, .f32⟩
  | .hbm, ⟨23, _⟩ => ⟨S1x1024, .f32⟩
  | .hbm, ⟨24, _⟩ => ⟨S32x1024, .f32⟩
  | .hbm, ⟨25, _⟩ => ⟨S32x1024, .f32⟩
  | .hbm, ⟨26, _⟩ => ⟨S32x2048, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | .hbm, ⟨37, _⟩ => ⟨S32x1024, .f32⟩
  | .hbm, ⟨38, _⟩ => ⟨S32x1x1024, .f32⟩
  | .hbm, ⟨39, _⟩ => ⟨S32x31x1024, .f32⟩
  | .hbm, ⟨40, _⟩ => ⟨S1x31x1024, .f32⟩
  | .hbm, ⟨41, _⟩ => ⟨S32x31x1024, .f32⟩
  | .hbm, ⟨42, _⟩ => ⟨S32x31x1024, .f32⟩
  | .hbm, ⟨43, _⟩ => ⟨S_, .f32⟩
  | .hbm, ⟨44, _⟩ => ⟨S32x1024, .f32⟩
  | .hbm, ⟨45, _⟩ => ⟨S1024, .f32⟩
  | .hbm, ⟨46, _⟩ => ⟨S1x1024, .f32⟩
  | .hbm, ⟨47, _⟩ => ⟨S32x1024, .f32⟩
  | .hbm, ⟨48, _⟩ => ⟨S32x1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S32, .f32⟩
  | .hbm, ⟨53, _⟩ => ⟨S32x1, .f32⟩
  | .hbm, ⟨54, _⟩ => ⟨S_, .f32⟩
  | .hbm, ⟨55, _⟩ => ⟨S32x1, .f32⟩
  | .hbm, ⟨56, _⟩ => ⟨S32x1, .f32⟩
  | .hbm, ⟨57, _⟩ => ⟨S32x1024, .f32⟩
  | .hbm, ⟨58, _⟩ => ⟨S32x1024, .f32⟩
  | .hbm, ⟨59, _⟩ => ⟨S32x1024, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S32x1, .f32⟩
  | .hbm, ⟨70, _⟩ => ⟨S32x1024, .f32⟩
  | .hbm, ⟨71, _⟩ => ⟨S32x1024, .f32⟩
  | .hbm, ⟨72, _⟩ => ⟨S1x1024, .f32⟩
  | .hbm, ⟨73, _⟩ => ⟨S32x1024, .f32⟩
  | .hbm, ⟨74, _⟩ => ⟨S32x1024, .f32⟩
  | .hbm, ⟨75, _⟩ => ⟨S1x1024, .f32⟩
  | .hbm, ⟨76, _⟩ => ⟨S32x1024, .f32⟩
  | .hbm, ⟨77, _⟩ => ⟨S32x1024, .f32⟩
  | .hbm, ⟨78, _⟩ => ⟨S32x1024, .f32⟩
  | .hbm, ⟨79, _⟩ => ⟨S32x1024, .f32⟩
  | .hbm, ⟨80, _⟩ => ⟨S_, .f32⟩
  | .hbm, ⟨81, _⟩ => ⟨S32x1024, .f32⟩
  | .hbm, ⟨82, _⟩ => ⟨S32x1024, .f32⟩
  | .hbm, ⟨83, _⟩ => ⟨S_, .f32⟩
  | .hbm, ⟨84, _⟩ => ⟨S32x1024, .f32⟩
  | .hbm, ⟨85, _⟩ => ⟨S32x1024, .f32⟩
  | .hbm, ⟨86, _⟩ => ⟨S32x1024, .f32⟩
  | .hbm, ⟨87, _⟩ => ⟨S32x1024, .f32⟩
  | .hbm, ⟨88, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Proof.Rows.lean ====
/- The row formulas the calls share: the mean-square norm of a row, a row against a matrix, and the squared-ReLU
   feed-forward of a row. Rows are functions of the channel into the extended reals. -/
module

public import Idealize.ShloMosaic.PureOps.Ideal.Laws
public import Idealize.ShloMosaic.Lib.Pointwise
public import Idealize.ShloMosaic.Lib.WordCmp

@[expose] public section

set_option maxRecDepth 16384

noncomputable section

namespace Cert.Rows

open Idealize.ShloMosaic

/-- The norm of a row of 1024 channels: each entry times the reciprocal root of the mean square (the literals are 1024
    and the epsilon), times the gain. -/
def rms (v g : Fin 1024 → EReal) (k : Fin 1024) : EReal :=
  v k * Ideal.rsqrt (Ideal.div (∑ j, v j * v j) (Ideal.ofBits .f32 0x44800000#32) + Ideal.ofBits .f32 0x358637BD#32) * g k

/-- Entry `f` of a row times a matrix. -/
def mat {n : ℕ} (v : Fin 1024 → EReal) (w : Fin 1024 → Fin n → EReal) (f : Fin n) : EReal :=
  ∑ k, v k * w k f

/-- The feed-forward of a row with its residual: norm, up projection, squared ReLU, down projection. -/
def ffn (v g : Fin 1024 → EReal) (wu : Fin 1024 → Fin 4096 → EReal) (wd : Fin 4096 → Fin 1024 → EReal)
    (q : Fin 1024) : EReal :=
  v q + ∑ f, max (mat (rms v g) wu f) 0 * max (mat (rms v g) wu f) 0 * wd f q

/-- The feed-forward of a row and the norm of its result. -/
def ffnLast (v g : Fin 1024 → EReal) (wu : Fin 1024 → Fin 4096 → EReal) (wd : Fin 4096 → Fin 1024 → EReal) (gf : Fin 1024 → EReal) (q : Fin 1024) : EReal :=
  rms (fun c => ffn v g wu wd c) gf q

/-- The gated product of a row: its second projection times its third (`w` holds the three projections side by side). -/
def pre (v g : Fin 1024 → EReal) (w : Fin 1024 → Fin 3072 → EReal) (q : Fin 1024) : EReal :=
  mat (rms v g) (fun k f => w k ⟨1024 + (f : Fin 1024), by omega⟩) q * mat (rms v g) (fun k f => w k ⟨2048 + (f : Fin 1024), by omega⟩) q

/-- The gated short convolution of a row with its residual, from the gated products two rows back (`p2`), one row back
    (`p1`) and of the row itself. -/
def sconv (v g : Fin 1024 → EReal) (w : Fin 1024 → Fin 3072 → EReal) (wc : Fin 3 → Fin 1024 → EReal)
    (wo : Fin 1024 → Fin 1024 → EReal) (p2 p1 : Fin 1024 → EReal) (q : Fin 1024) : EReal :=
  v q + ∑ x, mat (rms v g) (fun k f => w k ⟨(f : Fin 1024), by omega⟩) x * (p2 x * wc 0 x + p1 x * wc 1 x + pre v g w x * wc 2 x) * wo x q

/-- The gated linear unit of a row: its first projection times the logistic function of its second (`w` holds the two side by side). -/
def glu (v g : Fin 1024 → EReal) (w : Fin 1024 → Fin 2048 → EReal) (q : Fin 1024) : EReal :=
  mat (rms v g) (fun k f => w k ⟨(f : Fin 1024), by omega⟩) q
    * Ideal.div 1 (1 + Ideal.exp (0 - mat (rms v g) (fun k f => w k ⟨1024 + (f : Fin 1024), by omega⟩) q))

/-- The depthwise convolution of a channel over 31 rows, with its bias. -/
def taps (b : Fin 1024 → EReal) (w h : Fin 31 → Fin 1024 → EReal) (q : Fin 1024) : EReal :=
  b q + ∑ k, h k q * w k q

/-- A row centred. -/
def centred (y : Fin 1024 → EReal) (q : Fin 1024) : EReal := y q - Ideal.div (∑ j, y j) (Ideal.ofBits .f32 0x44800000#32)

/-- The layer norm of a row (the literals are 1024 and the epsilon). -/
def lnorm (y g b : Fin 1024 → EReal) (q : Fin 1024) : EReal :=
  centred y q * Ideal.rsqrt (Ideal.div (∑ j, centred y j * centred y j) (Ideal.ofBits .f32 0x44800000#32) + Ideal.ofBits .f32 0x3727C5AC#32) * g q + b q

/-- The tail of the convolution module of a row with its residual: layer norm, `x` times its logistic function, down projection. -/
def tail (v y g b : Fin 1024 → EReal) (wo : Fin 1024 → Fin 1024 → EReal) (q : Fin 1024) : EReal :=
  v q + ∑ x, lnorm y g b x * Ideal.div 1 (1 + Ideal.exp (0 - lnorm y g b x)) * wo x q

/-- A sum over the 31 taps, in the order of the residues of the row offset modulo 8. -/
theorem add_sum_taps (b : EReal) (f : Fin 31 → EReal) :
    b + ∑ k, f k = b + f 6 + f 14 + f 22 + f 30 + f 7 + f 15 + f 23 + f 0 + f 8 + f 16 + f 24 + f 1 + f 9 + f 17 + f 25 + f 2 + f 10 + f 18
      + f 26 + f 3 + f 11 + f 19 + f 27 + f 4 + f 12 + f 20 + f 28 + f 5 + f 13 + f 21 + f 29 := by
  simp only [Fin.sum_univ_succ, Finset.univ_eq_empty, Finset.sum_empty, add_zero]
  show b + (f 0 + (f 1 + (f 2 + (f 3 + (f 4 + (f 5 + (f 6 + (f 7 + (f 8 + (f 9 + (f 10 + (f 11 + (f 12 + (f 13 + (f 14 + (f 15 + (f 16 + (f 17
    + (f 18 + (f 19 + (f 20 + (f 21 + (f 22 + (f 23 + (f 24 + (f 25 + (f 26 + (f 27 + (f 28 + (f 29 + f 30)))))))))))))))))))))))))))))) = _
  ac_rfl

/-- A sum over the 31 taps, in order. -/
theorem sum_taps (f : Fin 31 → EReal) :
    ∑ k, f k = f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30 := by
  simp only [Fin.sum_univ_castSucc, Finset.univ_eq_empty, Finset.sum_empty, zero_add]
  rfl

/-- A choice on the equality of two small numbers written as 32-bit words. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb, WordCmp.select_decide]

/-- A sum over 4096 indices is the sum over its eight runs of 512, added to a start value from the left. -/
theorem add_sum_runs (s : EReal) (F : Fin 4096 → EReal) :
    s + ∑ f, F f = s + (∑ x : Fin 512, F ⟨x, by omega⟩) + (∑ x : Fin 512, F ⟨512 + x, by omega⟩)
      + (∑ x : Fin 512, F ⟨1024 + x, by omega⟩) + (∑ x : Fin 512, F ⟨1536 + x, by omega⟩)
      + (∑ x : Fin 512, F ⟨2048 + x, by omega⟩) + (∑ x : Fin 512, F ⟨2560 + x, by omega⟩)
      + (∑ x : Fin 512, F ⟨3072 + x, by omega⟩) + (∑ x : Fin 512, F ⟨3584 + x, by omega⟩) := by
  rw [Fin.sum_univ_tiles 8 512 rfl F, Fin.sum_univ_eight]
  simp only [← add_assoc]
  simp only [Fin.val_zero, zero_mul, zero_add]
  rfl

end Cert.Rows

end
-- ==== Proof.SconvPoint.lean ====
/- The gated short convolution, one grid point. -/
module

public import proofs.«01_k».proof.Proof.Gen.SconvIdeal.Frame
public import proofs.«01_k».proof.Proof.Gen.SconvRefIdeal.Read
public import proofs.«01_k».proof.Proof.Rows
public import Idealize.ShloMosaic.Lib.Pipeline.ValueKit
public import Idealize.ShloMosaic.Lib.Pipeline.ReadBack

@[expose] public section

set_option maxRecDepth 16384

noncomputable section

namespace Cert.SconvIdeal.Point

open Cert.SconvIdeal Cert.SconvIdeal.Gen Idealize.ShloMosaic Idealize.ShloMosaic.TcCoe Idealize.SL.Sem

variable (m : (ℓ : Loc nD τ sig) → Buf (Elt Ideal) ℓ)

/-- The rows of a block of the input. -/
abbrev row {n : ℕ} (x : FVec Ideal ⟨2, ![n, 1024]⟩ .f32) (r : Fin n) (k : Fin 1024) : EReal := x (ix2 r k)

/-- What a block's row of the convolution is, from the block and the two carried rows before it. -/
def blockOut (x0 : FVec Ideal S256x1024 .f32) (x1 : FVec Ideal S1x1024 .f32) (x2 : FVec Ideal S1024x3072 .bf16)
    (x3 : FVec Ideal S3x1024 .f32) (x4 : FVec Ideal S1024x1024 .bf16) (c6 c7 : Fin 1024 → EReal) (r : Fin 256) (q : Fin 1024) : EReal :=
  Rows.sconv (row x0 r) (row x1 0) (fun k f => x2 (ix2 k f)) (fun j k => x3 (ix2 j k)) (fun k f => x4 (ix2 k f))
    (fun x => if r.val = 0 then c6 x else if r.val = 1 then c7 x
      else Rows.pre (row x0 ⟨(r.val + 256 - 2) % 256, by omega⟩) (row x1 0) (fun k f => x2 (ix2 k f)) x)
    (fun x => if r.val = 0 then c7 x else Rows.pre (row x0 ⟨(r.val + 256 - 1) % 256, by omega⟩) (row x1 0) (fun k f => x2 (ix2 k f)) x) q

/-- What a later tile of a sequence writes to the hidden rows, at one place. -/
theorem o_B (c : Dev nD) (t : Fin cfg0.N) (h0 : ¬ t.val % 16 = 0) (r : Fin 256) (q : Fin 1024) :
    (outsAt0 (F := Ideal) m c t.val t.isLt).1 (ix2 r q) = blockOut (iblk m c 0 t) (iblk m c 1 t) (iblk m c 2 t) (iblk m c 3 t) (iblk m c 4 t)
      (fun k => (outsAt0 (F := Ideal) m c (t.val - 1) (Nat.lt_of_le_of_lt (Nat.sub_le _ _) t.isLt)).2.2 (ix2 6 k))
      (fun k => (outsAt0 (F := Ideal) m c (t.val - 1) (Nat.lt_of_le_of_lt (Nat.sub_le _ _) t.isLt)).2.2 (ix2 7 k)) r q := by
  rw [outsAt0_B m c t h0]
  frame_out
  generalize iblk m c 0 t = x0
  generalize iblk m c 1 t = x1
  generalize iblk m c 2 t = x2
  generalize iblk m c 3 t = x3
  generalize iblk m c 4 t = x4
  generalize (outsAt0 (F := Ideal) m c (t.val - 1) _).2.2 = xs
  rw [read_unread_whole]
  pointwise [k0_pay1, k0_pay2, k0_pay3, k0_pay4, k0_pay5, k0_pay6, k0_pay7, k0_pay8, k0_pay9, k0_pay10, k0_pay11, k0_pay12]
  simp only [Rows.select_eq (Nat.lt_trans r.isLt (by decide : 256 < 2 ^ 32)) (by decide : 0 < 2 ^ 32), Rows.select_eq (Nat.lt_trans r.isLt (by decide : 256 < 2 ^ 32)) (by decide : 1 < 2 ^ 32)]
  rfl

/-- What the first tile of a sequence writes to the hidden rows, at one place. -/
theorem o_A (c : Dev nD) (t : Fin cfg0.N) (h0 : t.val % 16 = 0) (r : Fin 256) (q : Fin 1024) :
    (outsAt0 (F := Ideal) m c t.val t.isLt).1 (ix2 r q) = blockOut (iblk m c 0 t) (iblk m c 1 t) (iblk m c 2 t) (iblk m c 3 t) (iblk m c 4 t)
      (fun _ => 0) (fun _ => 0) r q := by
  rw [outsAt0_A m c t h0]
  frame_out
  generalize iblk m c 0 t = x0
  generalize iblk m c 1 t = x1
  generalize iblk m c 2 t = x2
  generalize iblk m c 3 t = x3
  generalize iblk m c 4 t = x4
  rw [View.readCov_fill _ _ _ _ _ (by decide), View.readCov_fill _ _ _ _ _ (by decide)]
  pointwise [k0_pay1, k0_pay2, k0_pay3, k0_pay4, k0_pay5, k0_pay6, k0_pay7, k0_pay8, k0_pay9, k0_pay10, k0_pay11, k0_pay12]
  simp only [Rows.select_eq (Nat.lt_trans r.isLt (by decide : 256 < 2 ^ 32)) (by decide : 0 < 2 ^ 32), Rows.select_eq (Nat.lt_trans r.isLt (by decide : 256 < 2 ^ 32)) (by decide : 1 < 2 ^ 32)]
  simp only [blockOut, Rows.sconv, Rows.pre, Rows.mat, Rows.rms, ite_mul, zero_mul]

/-- The rows carried to the next tile. -/
theorem s_at (c : Dev nD) (t : Fin cfg0.N) (r : Fin 8) (q : Fin 1024) :
    (outsAt0 (F := Ideal) m c t.val t.isLt).2.2 (ix2 r q)
      = Rows.pre (row (iblk m c 0 t) ⟨248 + r, by omega⟩) (row (iblk m c 1 t) 0) (fun k f => (show FVec Ideal S1024x3072 .bf16 from iblk m c 2 t) (ix2 k f)) q := by
  by_cases h0 : t.val % 16 = 0
  · rw [outsAt0_A m c t h0]
    frame_out
    generalize iblk m c 0 t = x0
    generalize iblk m c 1 t = x1
    generalize iblk m c 2 t = x2
    pointwise [k0_pay1, k0_pay2, k0_pay3, k0_pay4, k0_pay5, k0_pay6, k0_pay7, k0_pay8, k0_pay9, k0_pay10, k0_pay11, k0_pay12]
    rfl
  · rw [outsAt0_B m c t h0]
    frame_out
    generalize iblk m c 0 t = x0
    generalize iblk m c 1 t = x1
    generalize iblk m c 2 t = x2
    pointwise [k0_pay1, k0_pay2, k0_pay3, k0_pay4, k0_pay5, k0_pay6, k0_pay7, k0_pay8, k0_pay9, k0_pay10, k0_pay11, k0_pay12]
    rfl

/-- The state rows a tile writes. -/
theorem st_at (c : Dev nD) (t : Fin cfg0.N) (z : Fin 1) (r : Fin 8) (q : Fin 1024) :
    (outsAt0 (F := Ideal) m c t.val t.isLt).2.1 (ix3 z r q)
      = Rows.pre (row (iblk m c 0 t) ⟨248 + r, by omega⟩) (row (iblk m c 1 t) 0) (fun k f => (show FVec Ideal S1024x3072 .bf16 from iblk m c 2 t) (ix2 k f)) q := by
  by_cases h0 : t.val % 16 = 0
  · rw [outsAt0_A m c t h0]
    frame_out
    generalize iblk m c 0 t = x0
    generalize iblk m c 1 t = x1
    generalize iblk m c 2 t = x2
    pointwise [k0_pay1, k0_pay2, k0_pay3, k0_pay4, k0_pay5, k0_pay6, k0_pay7, k0_pay8, k0_pay9, k0_pay10, k0_pay11, k0_pay12]
    rfl
  · rw [outsAt0_B m c t h0]
    frame_out
    generalize iblk m c 0 t = x0
    generalize iblk m c 1 t = x1
    generalize iblk m c 2 t = x2
    pointwise [k0_pay1, k0_pay2, k0_pay3, k0_pay4, k0_pay5, k0_pay6, k0_pay7, k0_pay8, k0_pay9, k0_pay10, k0_pay11, k0_pay12]
    rfl

/-- The gated product at row `R`, and `j` rows before it inside the sequence of 4096 rows that holds `R` (zero before its start). -/
def back (X : FVec Ideal S16384x1024 .f32) (g : FVec Ideal S1x1024 .f32) (w : FVec Ideal S1024x3072 .f32) (j : ℕ) (R : Fin 16384)
    (q : Fin 1024) : EReal :=
  if R.val % 4096 < j then 0 else Rows.pre (row X ⟨R.val - j, by omega⟩) (row g 0) (fun k f => w (ix2 k f)) q

/-- A row's convolution over the gated products of its own and the two preceding rows of its sequence. -/
def out (X : FVec Ideal S16384x1024 .f32) (g : FVec Ideal S1x1024 .f32) (w : FVec Ideal S1024x3072 .f32)
    (wc : FVec Ideal S3x1024 .f32) (wo : FVec Ideal S1024x1024 .f32) (R : Fin 16384) (q : Fin 1024) : EReal :=
  Rows.sconv (row X R) (row g 0) (fun k f => w (ix2 k f)) (fun j k => wc (ix2 j k)) (fun k f => wo (ix2 k f))
    (back X g w 2 R) (back X g w 1 R) q

/-- The first result: every row's convolution. -/
def G5 (X : FVec Ideal S16384x1024 .f32) (g : FVec Ideal S1x1024 .f32) (w : FVec Ideal S1024x3072 .f32)
    (wc : FVec Ideal S3x1024 .f32) (wo : FVec Ideal S1024x1024 .f32) : FVec Ideal S16384x1024 .f32 := fun i =>
  out X g w wc wo (i 0) (i 1)

/-- The hidden rows the call is to leave, at one place. -/
theorem G5_at (X : FVec Ideal S16384x1024 .f32) (g : FVec Ideal S1x1024 .f32) (w : FVec Ideal S1024x3072 .f32)
    (wc : FVec Ideal S3x1024 .f32) (wo : FVec Ideal S1024x1024 .f32) (R : Fin 16384) (q : Fin 1024) :
    G5 X g w wc wo (ix2 R q) = out X g w wc wo R q := rfl

/-- The gated product of row `4088 + j` of sequence `b`. -/
def state (X : FVec Ideal S16384x1024 .f32) (g : FVec Ideal S1x1024 .f32) (w : FVec Ideal S1024x3072 .f32) (b : Fin 4) (j : Fin 8)
    (q : Fin 1024) : EReal :=
  Rows.pre (row X ⟨b.val * 4096 + (4088 + j.val), by omega⟩) (row g 0) (fun k f => w (ix2 k f)) q

/-- The second result: the gated products of the last eight rows of every sequence. -/
def G6 (X : FVec Ideal S16384x1024 .f32) (g : FVec Ideal S1x1024 .f32) (w : FVec Ideal S1024x3072 .f32) : FVec Ideal S4x8x1024 .f32 := fun i =>
  state X g w (i 0) (i 1) (i 2)

/-- Which block of every array a grid point works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val / 16, 0, 0] :=
  (by decide +kernel : ∀ t : Fin grid0.N, _)

/-- A row of the block of grid point `t` is a row of the input. -/
theorem row_iblk (c : Dev nD) (t : Fin cfg0.N) (ht : t.val < 64) (r : Fin 256) :
    row (n := 256) (iblk m c 0 t) r = row (n := 16384) (m ((c : Thread nD τ).loc main_arg0)) ⟨t.val * 256 + r.val, by omega⟩ := by
  funext k
  unfold row
  blk_point [iblk, V, idx t]

/-- The norm's gain as a grid point reads it. -/
theorem gain_iblk (c : Dev nD) (t : Fin cfg0.N) :
    row (n := 1) (iblk m c 1 t) 0 = row (n := 1) (m ((c : Thread nD τ).loc main_arg1)) 0 := by
  funext k
  unfold row
  blk_point [iblk, V, idx t]

/-- The input weights as a grid point reads them. -/
theorem win_iblk (c : Dev nD) (t : Fin cfg0.N) (k : Fin 1024) (f : Fin 3072) :
    (iblk m c 2 t : FVec Ideal S1024x3072 .bf16) (ix2 k f) = (m ((c : Thread nD τ).loc main_arg2) : FVec Ideal S1024x3072 .f32) (ix2 k f) := by
  blk_point [iblk, V, idx t]

/-- The taps as a grid point reads them. -/
theorem wc_iblk (c : Dev nD) (t : Fin cfg0.N) (k : Fin 3) (f : Fin 1024) :
    (iblk m c 3 t : FVec Ideal S3x1024 .f32) (ix2 k f) = (m ((c : Thread nD τ).loc main_arg3) : FVec Ideal S3x1024 .f32) (ix2 k f) := by
  blk_point [iblk, V, idx t]

/-- The output weights as a grid point reads them. -/
theorem wo_iblk (c : Dev nD) (t : Fin cfg0.N) (k : Fin 1024) (f : Fin 1024) :
    (iblk m c 4 t : FVec Ideal S1024x1024 .bf16) (ix2 k f) = (m ((c : Thread nD τ).loc main_arg4) : FVec Ideal S1024x1024 .f32) (ix2 k f) := by
  blk_point [iblk, V, idx t]

/-- What a grid point carries to the next, over the input's rows. -/
theorem s_prev (c : Dev nD) (n : ℕ) (h : n < cfg0.N) (hn : n < 64) (r : Fin 8) (q : Fin 1024) :
    (outsAt0 (F := Ideal) m c n h).2.2 (ix2 r q)
      = Rows.pre (row (n := 16384) (m ((c : Thread nD τ).loc main_arg0)) ⟨n * 256 + (248 + r.val), by omega⟩) (row (n := 1) (m ((c : Thread nD τ).loc main_arg1)) 0)
        (fun k f => (m ((c : Thread nD τ).loc main_arg2) : FVec Ideal S1024x3072 .f32) (ix2 k f)) q := by
  have := s_at m c ⟨n, h⟩ r q
  rw [row_iblk m c ⟨n, h⟩ hn, gain_iblk] at this
  simp only [win_iblk] at this
  exact this

/-- The hidden rows the call leaves. -/
theorem final5 (c : Dev nD) : (dats m 0 c).arrAt 5 (cfgs 0).N
    = G5 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  have ht : t.val < 64 := lt_of_lt_of_eq t.isLt (by decide +kernel)
  blk_simp
  rw [after0_5]
  idx_vars y
  have hy : ((View.whole main_v2_0).slice (win0_5.rect t)).emb (ix2 y0 y1) = ix2 ⟨t.val * 256 + y0.val, by omega⟩ y1 := by
    blk_ext [idx t]
  rw [hy, G5_at]
  unfold out
  by_cases h0 : t.val % 16 = 0
  · rw [o_A m c t h0]
    unfold blockOut
    simp only [row_iblk m c t ht, gain_iblk, win_iblk, wc_iblk, wo_iblk]
    congr 1
    · funext x
      unfold back
      dsimp only
      split_ifs <;> first | omega | rfl | (congr 3; omega)
    · funext x
      unfold back
      dsimp only
      split_ifs <;> first | omega | rfl | (congr 3; omega)
  · rw [o_B m c t h0]
    unfold blockOut
    simp only [row_iblk m c t ht, gain_iblk, win_iblk, wc_iblk, wo_iblk, s_prev m c (t.val - 1) _ (by omega)]
    congr 1
    · funext x
      unfold back
      dsimp only
      split_ifs <;> first | omega | rfl | (congr 3; omega)
    · funext x
      unfold back
      dsimp only
      split_ifs <;> first | omega | rfl | (congr 3; omega)

/-- The state rows the call leaves. -/
theorem final6 (c : Dev nD) : (dats m 0 c).arrAt 6 (cfgs 0).N
    = G6 (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 64 := lt_of_lt_of_eq t.isLt (by decide +kernel)
  have hl := (flush0_6 t).mp hf
  blk_simp
  rw [after0_6]
  idx_vars y
  have hy : ((View.whole main_v2_1).slice (win0_6.rect t)).emb (ix3 y0 y1 y2) = ix3 ⟨t.val / 16, by omega⟩ y1 y2 := by
    blk_ext [idx t]
  rw [hy, st_at]
  simp only [row_iblk m c t ht, gain_iblk, win_iblk]
  show _ = state _ _ _ _ _ _
  unfold state
  congr 2
  apply Fin.ext
  show t.val * 256 + (248 + y1.val) = t.val / 16 * 4096 + (4088 + y1.val)
  omega

end Cert.SconvIdeal.Point

namespace Cert.SconvRefIdeal.Point

open Cert.SconvRefIdeal Cert.SconvRefIdeal.Read Cert.SconvRefIdeal.Gen Idealize.ShloMosaic Idealize.ShloMosaic.TcCoe Idealize.SL.Sem

/-- The gated products with two rows of zeros before every sequence. -/
theorem pad_at (x0 : FVec Ideal S16384x1024 .f32) (x1 : FVec Ideal S1x1024 .f32) (x2 : FVec Ideal S1024x3072 .f32)
    (b : Fin 4) (n : Fin 4098) (q : Fin 1024) :
    val_main_v21 (F := Ideal) x0 x1 x2 (ix3 b n q)
      = if h : n.val < 2 then 0 else Rows.pre (SconvIdeal.Point.row (n := 16384) x0 ⟨b.val * 4096 + (n.val - 2), by omega⟩)
        (SconvIdeal.Point.row (n := 1) x1 0) (fun k f => x2 (ix2 k f)) q := by
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21]
  rfl

/-- The reference's state rows, at one place. -/
theorem ref_at6 (x0 : FVec Ideal S16384x1024 .f32) (x1 : FVec Ideal S1x1024 .f32) (x2 : FVec Ideal S1024x3072 .f32)
    (b : Fin 4) (r : Fin 8) (q : Fin 1024) :
    val_main_v46 (F := Ideal) x0 x1 x2 (ix3 b r q) = SconvIdeal.Point.state x0 x1 x2 b r q := by
  pointwise [val_main_v46]
  rw [pad_at, dif_neg (show ¬ (4090 + r.val) < 2 by omega)]
  unfold SconvIdeal.Point.state
  congr 2
  apply Fin.ext
  show b.val * 4096 + (4090 + r.val - 2) = b.val * 4096 + (4088 + r.val)
  omega

/-- The reference's hidden rows, at one place. -/
theorem ref_at5 (x0 : FVec Ideal S16384x1024 .f32) (x1 : FVec Ideal S1x1024 .f32) (x2 : FVec Ideal S1024x3072 .f32)
    (x3 : FVec Ideal S3x1024 .f32) (x4 : FVec Ideal S1024x1024 .f32) (R : Fin 16384) (q : Fin 1024) :
    val_main_v45 (F := Ideal) x0 x1 x2 x3 x4 (ix2 R q) = SconvIdeal.Point.out x0 x1 x2 x3 x4 R q := by
  pointwise [val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45]
  simp only [pad_at, SconvIdeal.Point.out, Rows.sconv]
  refine congrArg (_ + ·) (Finset.sum_congr rfl fun x _ => congrArg (· * _) (congrArg (_ * ·) ?_))
  refine congrArg₂ (· + ·) (congrArg₂ (· + ·) (congrArg (· * _) ?_) (congrArg (· * _) ?_)) (congrArg (· * _) ?_)
  · unfold SconvIdeal.Point.back
    split_ifs <;> first | omega | rfl | (congr 3; omega)
  · unfold SconvIdeal.Point.back
    split_ifs <;> first | omega | rfl | (congr 3; omega)
  · rw [dif_neg (show ¬ 2 + R.val % 4096 < 2 by omega)]
    congr 3
    omega

end Cert.SconvRefIdeal.Point

end
-- ==== Proof.FfnPoint.lean ====
/- The feed-forward call, one grid point: what the body stores, read at one row and one column of its block. -/
module

public import proofs.«01_k».proof.Proof.Gen.FfnIdeal.Frame
public import proofs.«01_k».proof.Proof.Gen.FfnRefIdeal.Read
public import proofs.«01_k».proof.Proof.Rows
public import Idealize.ShloMosaic.Lib.Pipeline.ValueKit

@[expose] public section

set_option maxRecDepth 16384

noncomputable section

namespace Cert.FfnIdeal.Point

open Cert.FfnIdeal Cert.FfnIdeal.Gen Idealize.ShloMosaic Idealize.ShloMosaic.TcCoe Idealize.SL.Sem

/-- The value a grid point writes, at one place. -/
theorem out_at (x0 : FVec Ideal S512x1024 .f32) (x1 : FVec Ideal S1x1024 .f32) (x2 : FVec Ideal S1024x4096 .bf16) (x3 : FVec Ideal S4096x1024 .bf16)
    (x4 : FVec Ideal S1x1024 .f32) (r : Fin 512) (q : Fin 1024) :
    out0_5 (F := Ideal) x0 x1 x2 x3 x4 (ix2 r q) = Rows.ffn (fun k => x0 (ix2 r k)) (fun k => x1 (ix2 0 k))
      (fun k f => x2 (ix2 k f)) (fun f c => x3 (ix2 f c)) q := by
  rw [Rows.ffn, Rows.add_sum_runs]
  unfold out0_5 k0_pay6
  rw [View.canon_unit_zero (h := by funext a; fin_cases a <;> rfl)]
  pointwise [k0_pay1, k0_pay2, k0_pay3, k0_pay4, k0_pay5]
  rfl

variable (m : (ℓ : Loc nD τ sig) → Buf (Elt Ideal) ℓ)

/-- The result array: entry `i` is the feed-forward of row `i 0` at channel `i 1`. -/
def G (X : FVec Ideal S16384x1024 .f32) (g : FVec Ideal S1x1024 .f32) (wu : FVec Ideal S1024x4096 .f32)
    (wd : FVec Ideal S4096x1024 .f32) : FVec Ideal S16384x1024 .f32 := fun i =>
  Rows.ffn (fun k => X (ix2 (i 0) k)) (fun k => g (ix2 0 k)) (fun k f => wu (ix2 k f)) (fun f c => wd (ix2 f c)) (i 1)

/-- Which block of every array a grid point works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array the call leaves is `G` of its arguments. -/
theorem final (c : Dev nD) : (dats m 0 c).arrAt 5 (cfgs 0).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  idx_vars y
  rw [out_at]
  simp only [G, Rows.ffn, Rows.mat, Rows.rms]
  blk_point [iblk, V, idx t]

end Cert.FfnIdeal.Point

namespace Cert.FfnRefIdeal.Point

open Cert.FfnRefIdeal Cert.FfnRefIdeal.Read Cert.FfnRefIdeal.Gen Idealize.ShloMosaic Idealize.ShloMosaic.TcCoe Idealize.SL.Sem
/-- The reference at one place is the same expression. -/
theorem ref_at (x0 : FVec Ideal S16384x1024 .f32) (x1 : FVec Ideal S1x1024 .f32) (x2 : FVec Ideal S1024x4096 .f32) (x3 : FVec Ideal S4096x1024 .f32)
    (r : Fin 16384) (q : Fin 1024) :
    val_main_v18 (F := Ideal) x0 x1 x2 x3 (ix2 r q) = Rows.ffn (fun k => x0 (ix2 r k)) (fun k => x1 (ix2 0 k))
      (fun k f => x2 (ix2 k f)) (fun f c => x3 (ix2 f c)) q := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  rfl
end Cert.FfnRefIdeal.Point
-- ==== Proof.FfnLastPoint.lean ====
/- The feed-forward call, one grid point: what the body stores, read at one row and one column of its block. -/
module

public import proofs.«01_k».proof.Proof.Gen.FfnLastIdeal.Frame
public import proofs.«01_k».proof.Proof.Gen.FfnLastRefIdeal.Read
public import proofs.«01_k».proof.Proof.Rows
public import Idealize.ShloMosaic.Lib.Pipeline.ValueKit

@[expose] public section

set_option maxRecDepth 16384

noncomputable section

namespace Cert.FfnLastIdeal.Point

open Cert.FfnLastIdeal Cert.FfnLastIdeal.Gen Idealize.ShloMosaic Idealize.ShloMosaic.TcCoe Idealize.SL.Sem

/-- A block's rows of the feed-forward before the last norm: the body's sum of eight runs of 512 hidden channels. -/
theorem sum_at (x0 : FVec Ideal S512x1024 .f32) (x1 : FVec Ideal S1x1024 .f32) (x2 : FVec Ideal S1024x4096 .bf16) (x3 : FVec Ideal S4096x1024 .bf16)
    (x4 : FVec Ideal S1x1024 .f32) (r : Fin 512) (q : Fin 1024) :
    k0_pay6 (F := Ideal) (k0_pay8 x0 x1 x2 x3 x4) (k0_pay9 x0 x1 x2 x3 x4) (k0_pay10 x0 x1 x2 x3 x4) (Scalar.ofBits .f32 0x00000000#32) (View.ld x3 r0_13) (View.ld x2 r0_14) (View.ld x3 r0_15) (View.ld x2 r0_16) (View.ld x3 r0_17) (ix2 r q)
      = Rows.ffn (fun k => x0 (ix2 r k)) (fun k => x1 (ix2 0 k)) (fun k f => x2 (ix2 k f)) (fun f c => x3 (ix2 f c)) q := by
  rw [Rows.ffn, Rows.add_sum_runs]
  pointwise [k0_pay2, k0_pay3, k0_pay4, k0_pay5, k0_pay6, k0_pay8, k0_pay9, k0_pay10]
  rfl

/-- The value a grid point writes, at one place. -/
theorem out_at (x0 : FVec Ideal S512x1024 .f32) (x1 : FVec Ideal S1x1024 .f32) (x2 : FVec Ideal S1024x4096 .bf16) (x3 : FVec Ideal S4096x1024 .bf16)
    (x4 : FVec Ideal S1x1024 .f32) (r : Fin 512) (q : Fin 1024) :
    out0_5 (F := Ideal) x0 x1 x2 x3 x4 (ix2 r q) = Rows.ffnLast (fun k => x0 (ix2 r k)) (fun k => x1 (ix2 0 k))
      (fun k f => x2 (ix2 k f)) (fun f c => x3 (ix2 f c)) (fun k => x4 (ix2 0 k)) q := by
  have h := sum_at x0 x1 x2 x3 x4
  unfold out0_5 k0_pay7
  rw [View.canon_unit_zero (h := by funext a; fin_cases a <;> rfl)]
  generalize k0_pay6 (F := Ideal) (k0_pay8 x0 x1 x2 x3 x4) _ _ _ _ _ _ _ _ = T at h ⊢
  pointwise [k0_pay1]
  simp only [h]
  rfl

variable (m : (ℓ : Loc nD τ sig) → Buf (Elt Ideal) ℓ)

/-- The result array: entry `i` is the feed-forward of row `i 0` at channel `i 1`. -/
def G (X : FVec Ideal S16384x1024 .f32) (g : FVec Ideal S1x1024 .f32) (wu : FVec Ideal S1024x4096 .f32)
    (wd : FVec Ideal S4096x1024 .f32) (gf : FVec Ideal S1x1024 .f32) : FVec Ideal S16384x1024 .f32 := fun i =>
  Rows.ffnLast (fun k => X (ix2 (i 0) k)) (fun k => g (ix2 0 k)) (fun k f => wu (ix2 k f)) (fun f c => wd (ix2 f c)) (fun k => gf (ix2 0 k)) (i 1)

/-- Which block of every array a grid point works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array the call leaves is `G` of its arguments. -/
theorem final (c : Dev nD) : (dats m 0 c).arrAt 5 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [out_at]
  simp only [G, Rows.ffnLast, Rows.ffn, Rows.mat, Rows.rms]
  blk_point [iblk, V, idx t]

end Cert.FfnLastIdeal.Point

namespace Cert.FfnLastRefIdeal.Point

open Cert.FfnLastRefIdeal Cert.FfnLastRefIdeal.Read Cert.FfnLastRefIdeal.Gen Idealize.ShloMosaic Idealize.ShloMosaic.TcCoe Idealize.SL.Sem

/-- The reference's rows before the last norm. -/
theorem sum_at (x0 : FVec Ideal S16384x1024 .f32) (x1 : FVec Ideal S1x1024 .f32) (x2 : FVec Ideal S1024x4096 .f32) (x3 : FVec Ideal S4096x1024 .f32)
    (r : Fin 16384) (q : Fin 1024) :
    val_main_v18 (F := Ideal) x0 x1 x2 x3 (ix2 r q) = Rows.ffn (fun k => x0 (ix2 r k)) (fun k => x1 (ix2 0 k))
      (fun k f => x2 (ix2 k f)) (fun f c => x3 (ix2 f c)) q := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  rfl

/-- The reference's result: the feed-forward of the row and its norm. -/
theorem ref_at (x0 : FVec Ideal S16384x1024 .f32) (x1 : FVec Ideal S1x1024 .f32) (x2 : FVec Ideal S1024x4096 .f32) (x3 : FVec Ideal S4096x1024 .f32)
    (x4 : FVec Ideal S1x1024 .f32) (r : Fin 16384) (q : Fin 1024) :
    val_main_v32 (F := Ideal) x0 x1 x2 x3 x4 (ix2 r q) = Rows.ffnLast (fun k => x0 (ix2 r k)) (fun k => x1 (ix2 0 k))
      (fun k f => x2 (ix2 k f)) (fun f c => x3 (ix2 f c)) (fun k => x4 (ix2 0 k)) q := by
  pointwise [val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  simp only [sum_at]
  rfl

end Cert.FfnLastRefIdeal.Point

end
-- ==== Proof.ConfPoint.lean ====
/- The convolution module, one grid point. -/
module

public import proofs.«01_k».proof.Proof.Gen.ConfIdeal.Frame
public import proofs.«01_k».proof.Proof.Gen.ConfRefIdeal.Read
public import proofs.«01_k».proof.Proof.SconvPoint
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.ConfIdeal.Point

open Cert.ConfIdeal Cert.ConfIdeal.Gen Idealize.ShloMosaic Idealize.ShloMosaic.TcCoe Idealize.SL.Sem

variable (m : (ℓ : Loc nD τ sig) → Buf (Elt Ideal) ℓ)

/-- The rows of a block of the input. -/
abbrev row {n : ℕ} (x : FVec Ideal ⟨2, ![n, 1024]⟩ .f32) (r : Fin n) (k : Fin 1024) : EReal := x (ix2 r k)

/-- The gated linear units of the rows a block's row `r` convolves: the block's own from row `32` of the buffer on, the
    carried ones before. -/
def history (x0 : FVec Ideal S256x1024 .f32) (x1 : FVec Ideal S1x1024 .f32) (x2 : FVec Ideal S1024x2048 .bf16)
    (cs : Fin 32 → Fin 1024 → EReal) (r : Fin 256) (k : Fin 31) (q : Fin 1024) : EReal :=
  if h : r.val + 2 + k.val < 32 then cs ⟨r.val + 2 + k.val, h⟩ q
  else Rows.glu (row (n := 256) x0 ⟨r.val + 2 + k.val - 32, by omega⟩) (row (n := 1) x1 0) (fun k f => x2 (ix2 k f)) q

/-- What a block's row of the module is, from the block and the carried rows before it. -/
def blockOut (x0 : FVec Ideal S256x1024 .f32) (x1 : FVec Ideal S1x1024 .f32) (x2 : FVec Ideal S1024x2048 .bf16)
    (x3 : FVec Ideal S31x1024 .f32) (x4 x5 x6 : FVec Ideal S1x1024 .f32) (x7 : FVec Ideal S1024x1024 .bf16)
    (cs : Fin 32 → Fin 1024 → EReal) (r : Fin 256) (q : Fin 1024) : EReal :=
  Rows.tail (row (n := 256) x0 r) (Rows.taps (row (n := 1) x4 0) (fun j k => x3 (ix2 j k)) (history x0 x1 x2 cs r)) (row (n := 1) x5 0) (row (n := 1) x6 0) (fun k f => x7 (ix2 k f)) q

/-- A load after stores that cover it reads the stores' payloads. -/
theorem readCov_ld (v : View sig .tc .vmem S288x1024 .f32) (L : List (View.Piece (Elt Ideal) S288x1024 .f32)) (B : Rect S288x1024) :
    v.readCov L B.toLoadRect = View.ld (View.canon L) B := by
  rw [View.readCov_eq_canon']

/-- The stored block, at rows 32 on. -/
theorem canon_hi (U : FVec Ideal S256x1024 .f32) (L : List (View.Piece (Elt Ideal) S288x1024 .f32)) (p : Fin 288) (hp : ¬ p.val < 32) (q : Fin 1024) :
    View.canon ((⟨Rect.unit (s := S288x1024) ![32, 0] ![256, 1024] inb_S288x1024_S256x1024_32_0, U⟩ : View.Piece (Elt Ideal) S288x1024 .f32) :: L) (ix2 p q)
      = U (ix2 ⟨p.val - 32, by omega⟩ q) := by
  refine (View.read_writes_junk_apply_eq_canon (Val := Elt Ideal) (View.whole cc0_scratch0) (ix2 p q) _).symm.trans ?_
  exact View.read_writes_cons_rows_of_mem (Val := Elt Ideal) (e := .f32) (d := ![288, 1024]) (o := 32) (View.whole cc0_scratch0) _ _ U L (ix2 p q) (ix2 ⟨p.val - 32, by omega⟩ q) rfl
    (show p.val = 32 + (p.val - 32) by omega) rfl

/-- Before row 32 the stored block leaves what was there. -/
theorem canon_lo (U : FVec Ideal S256x1024 .f32) (L : List (View.Piece (Elt Ideal) S288x1024 .f32)) (p : Fin 288) (hp : p.val < 32) (q : Fin 1024) :
    View.canon ((⟨Rect.unit (s := S288x1024) ![32, 0] ![256, 1024] inb_S288x1024_S256x1024_32_0, U⟩ : View.Piece (Elt Ideal) S288x1024 .f32) :: L) (ix2 p q)
      = View.canon L (ix2 p q) := by
  refine (View.read_writes_junk_apply_eq_canon (Val := Elt Ideal) (View.whole cc0_scratch0) (ix2 p q) _).symm.trans (Eq.trans ?_ (View.read_writes_junk_apply_eq_canon (Val := Elt Ideal) (View.whole cc0_scratch0) (ix2 p q) L))
  exact View.read_writes_cons_rows_of_not_mem (Val := Elt Ideal) (e := .f32) (d := ![288, 1024]) (o := 32) (W := 256) (View.whole cc0_scratch0) _ _ U L (ix2 p q) rfl rfl (Or.inl hp)

/-- The 32 rows stored at the buffer's start. -/
theorem canon_head (Z : FVec Ideal S32x1024 .f32) (L : List (View.Piece (Elt Ideal) S288x1024 .f32)) (p : Fin 288) (hp : p.val < 32) (q : Fin 1024) :
    View.canon ((⟨Rect.unit (s := S288x1024) ![0, 0] ![32, 1024] inb_S288x1024_S32x1024_0_0, Z⟩ : View.Piece (Elt Ideal) S288x1024 .f32) :: L) (ix2 p q)
      = Z (ix2 ⟨p.val, hp⟩ q) := by
  refine (View.read_writes_junk_apply_eq_canon (Val := Elt Ideal) (View.whole cc0_scratch0) (ix2 p q) _).symm.trans ?_
  exact View.read_writes_cons_rows_of_mem (Val := Elt Ideal) (e := .f32) (d := ![288, 1024]) (o := 0) (View.whole cc0_scratch0) _ _ Z L (ix2 p q) (ix2 ⟨p.val, hp⟩ q) rfl
    (show p.val = 0 + p.val by omega) rfl

/-- The tail of a row, from its convolution. -/
theorem pay19_at (x0 : FVec Ideal S256x1024 .f32) (Y : FVec Ideal S256x1024 .f32) (x5 x6 : FVec Ideal S1x1024 .f32) (x7 : FVec Ideal S1024x1024 .bf16)
    (r : Fin 256) (q : Fin 1024) :
    k0_pay19 (F := Ideal) x0 Y x5 x6 x7 (ix2 r q) = Rows.tail (row (n := 256) x0 r) (fun k => Y (ix2 r k)) (row (n := 1) x5 0) (row (n := 1) x6 0) (fun k f => x7 (ix2 k f)) q := by
  pointwise [k0_pay19]
  rfl

/-- What a later tile of a sequence writes to the hidden rows, at one place. -/
theorem o_B (c : Dev nD) (t : Fin cfg0.N) (h0 : ¬ t.val % 16 = 0) (r : Fin 256) (q : Fin 1024) :
    (outsAt0 (F := Ideal) m c t.val t.isLt).1 (ix2 r q) = blockOut (iblk m c 0 t) (iblk m c 1 t) (iblk m c 2 t) (iblk m c 3 t) (iblk m c 4 t)
      (iblk m c 5 t) (iblk m c 6 t) (iblk m c 7 t)
      (fun p k => (outsAt0 (F := Ideal) m c (t.val - 1) (Nat.lt_of_le_of_lt (Nat.sub_le _ _) t.isLt)).2.2 (ix2 ⟨p.val, by omega⟩ k)) r q := by
  rw [outsAt0_B m c t h0]
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 (F := Ideal) m c (t.val - 1) _).2.2 = xs
  generalize hV : k0_pay4 (F := Ideal) x0 x1 _ _ = U
  have hU : ∀ r q, U (ix2 r q) = Rows.glu (row (n := 256) x0 r) (row (n := 1) x1 0) (fun k f => (show FVec Ideal S1024x2048 .bf16 from x2) (ix2 k f)) q := fun r q => by
    rw [← hV]; pointwise [k0_pay4]; rfl
  clear hV
  generalize hW : View.read (Elt Ideal) (View.whole cc0_scratch0) (View.writes (View.whole cc0_scratch0) (Elt Ideal) _ _) = W
  have hlo : ∀ (p : Fin 288) (hp : p.val < 32) (k : Fin 1024), W (ix2 p k) = xs (ix2 p k) := by
    intro p hp k
    rw [← hW]
    refine (View.read_writes_cons_rows_of_not_mem (Val := Elt Ideal) (e := .f32) (d := ![288, 1024]) (o := 32) (W := 256) (View.whole cc0_scratch0) _ _ U _ (ix2 p k) rfl rfl (Or.inl hp)).trans ?_
    rw [View.writes_nil, read_unread_whole]
  have hhi : ∀ (p : Fin 288) (hp : ¬ p.val < 32) (k : Fin 1024), W (ix2 p k) = U (ix2 ⟨p.val - 32, by omega⟩ k) := by
    intro p hp k
    rw [← hW]
    exact View.read_writes_cons_rows_of_mem (Val := Elt Ideal) (e := .f32) (d := ![288, 1024]) (o := 32) (View.whole cc0_scratch0) _ _ U _ (ix2 p k) (ix2 ⟨p.val - 32, by omega⟩ k) rfl (show p.val = 32 + (p.val - 32) by omega) rfl
  clear hW
  have h30 : ∀ (p : Fin 288) (hp : ¬ p.val < 32) (k : Fin 1024),
      View.canon [(⟨Rect.unit (s := S288x1024) ![32, 0] ![256, 1024] inb_S288x1024_S256x1024_32_0, U⟩ : View.Piece (Elt Ideal) S288x1024 .f32)] (ix2 p k) = W (ix2 p k) :=
    fun p hp k => (canon_hi U [] p hp k).trans (hhi p hp k).symm
  generalize hY : k0_pay18 (F := Ideal) _ _ _ _ _ _ _ _ _ _ _ _ _ = Y
  have hh : ∀ (n : Fin 31) (p : Fin 288) (q : Fin 1024), p.val = r.val + 2 + n.val → W (ix2 p q)
      = history x0 x1 x2 (fun p k => xs (ix2 ⟨p.val, by omega⟩ k)) r n q := by
    intro n p q hp
    unfold history
    split_ifs with h
    · rw [hlo p (by omega)]; congr 2; exact Fin.ext hp
    · rw [hhi p (by omega), hU]; congr 2; apply Fin.ext; show p.val - 32 = r.val + 2 + n.val - 32; omega
  unfold blockOut
  generalize history x0 x1 x2 (fun p k => xs (ix2 ⟨p.val, by omega⟩ k)) r = H at hh ⊢
  have hYp : ∀ k, Y (ix2 r k) = Rows.taps (row (n := 1) x4 0) (fun j k => x3 (ix2 j k)) H k := by
    intro k
    rw [← hY]
    repeat rw [View.readCov_fill _ _ _ _ _ (by decide)]
    simp only [readCov_ld]
    pointwise [k0_pay5, k0_pay6, k0_pay7, k0_pay8, k0_pay9, k0_pay10, k0_pay11, k0_pay12, k0_pay13, k0_pay14, k0_pay15, k0_pay16, k0_pay17, k0_pay18]
    rw [Rows.taps, Rows.add_sum_taps]
    rw [h30 _ (show ¬ 32 + r.val < 32 by omega)]
    iterate 31 refine congrArg₂ (· + ·) ?_ (congrArg₂ (· * ·) (hh _ _ _ (by first | omega | (simp; omega))) (by with_reducible rfl))
    with_reducible rfl
  rw [pay19_at]
  simp only [hYp]

set_option maxHeartbeats 2000000 in
/-- What the first tile of a sequence writes to the hidden rows, at one place. -/
theorem o_A (c : Dev nD) (t : Fin cfg0.N) (h0 : t.val % 16 = 0) (r : Fin 256) (q : Fin 1024) :
    (outsAt0 (F := Ideal) m c t.val t.isLt).1 (ix2 r q) = blockOut (iblk m c 0 t) (iblk m c 1 t) (iblk m c 2 t) (iblk m c 3 t) (iblk m c 4 t)
      (iblk m c 5 t) (iblk m c 6 t) (iblk m c 7 t) (fun _ _ => 0) r q := by
  rw [outsAt0_A m c t h0]
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize hV : k0_pay4 (F := Ideal) x0 x1 _ _ = U
  have hU : ∀ r q, U (ix2 r q) = Rows.glu (row (n := 256) x0 r) (row (n := 1) x1 0) (fun k f => (show FVec Ideal S1024x2048 .bf16 from x2) (ix2 k f)) q := fun r q => by
    rw [← hV]; pointwise [k0_pay4]; rfl
  clear hV
  generalize hZ : k0_pay3 (F := Ideal) = Z
  have hz : ∀ r q, Z (ix2 r q) = 0 := fun r q => by rw [← hZ]; pointwise [k0_pay3]
  clear hZ
  unfold blockOut
  generalize hY : k0_pay18 (F := Ideal) _ _ _ _ _ _ _ _ _ _ _ _ _ = Y
  have hYp : ∀ k, Y (ix2 r k) = Rows.taps (row (n := 1) x4 0) (fun j k => x3 (ix2 j k)) (history x0 x1 x2 (fun _ _ => 0) r) k := by
    intro k
    rw [← hY]
    repeat rw [View.readCov_fill _ _ _ _ _ (by decide)]
    simp only [readCov_ld]
    generalize hW : View.canon ((⟨Rect.unit (s := S288x1024) ![32, 0] ![256, 1024] inb_S288x1024_S256x1024_32_0, U⟩ : View.Piece (Elt Ideal) S288x1024 .f32) :: _) = W
    have hh : ∀ (n : Fin 31) (p : Fin 288) (q : Fin 1024), p.val = r.val + 2 + n.val → W (ix2 p q)
        = history x0 x1 x2 (fun _ _ => 0) r n q := by
      intro n p q hp
      rw [← hW]
      unfold history
      split_ifs with h
      · rw [canon_lo U _ p (by omega), canon_head Z _ p (by omega), hz]
      · rw [canon_hi U _ p (by omega), hU]; congr 2; apply Fin.ext; show p.val - 32 = r.val + 2 + n.val - 32; omega
    clear hW hY hU hz
    generalize history x0 x1 x2 (fun _ _ => 0) r = H at hh ⊢
    pointwise [k0_pay5, k0_pay6, k0_pay7, k0_pay8, k0_pay9, k0_pay10, k0_pay11, k0_pay12, k0_pay13, k0_pay14, k0_pay15, k0_pay16, k0_pay17, k0_pay18]
    rw [Rows.taps, Rows.add_sum_taps]
    iterate 31 refine congrArg₂ (· + ·) ?_ (congrArg₂ (· * ·) (hh _ _ _ (by first | omega | (simp; omega))) (by with_reducible rfl))
    with_reducible rfl
  rw [pay19_at]
  simp only [hYp]

/-- The rows a grid point carries to the next: the gated linear units of its last 32 rows. -/
theorem s_at (c : Dev nD) (t : Fin cfg0.N) (r : Fin 32) (q : Fin 1024) :
    (outsAt0 (F := Ideal) m c t.val t.isLt).2.2 (ix2 ⟨r.val, by omega⟩ q)
      = Rows.glu (row (n := 256) (iblk m c 0 t) ⟨224 + r, by omega⟩) (row (n := 1) (iblk m c 1 t) 0) (fun k f => (show FVec Ideal S1024x2048 .bf16 from iblk m c 2 t) (ix2 k f)) q := by
  by_cases h0 : t.val % 16 = 0
  · rw [outsAt0_A m c t h0]
    frame_out
    generalize iblk m c 0 t = x0
    generalize iblk m c 1 t = x1
    generalize iblk m c 2 t = x2
    simp only [readCov_ld]
    rw [canon_head _ _ _ r.isLt]
    pointwise [k0_pay2]
    rw [canon_hi _ _ _ (by dsimp only; omega)]
    pointwise [k0_pay4]
    refine Eq.trans (b := Rows.glu (row (n := 256) x0 ⟨256 + r.val - 32, by omega⟩) (row (n := 1) x1 0) (fun k f => (show FVec Ideal S1024x2048 .bf16 from x2) (ix2 k f)) q) rfl ?_
    congr 2
    exact Fin.ext (by dsimp only; omega)
  · rw [outsAt0_B m c t h0]
    frame_out
    generalize iblk m c 0 t = x0
    generalize iblk m c 1 t = x1
    generalize iblk m c 2 t = x2
    simp only [readCov_ld]
    rw [canon_head _ _ _ r.isLt]
    pointwise [k0_pay2]
    rw [canon_hi _ _ _ (by dsimp only; omega)]
    pointwise [k0_pay4]
    refine Eq.trans (b := Rows.glu (row (n := 256) x0 ⟨256 + r.val - 32, by omega⟩) (row (n := 1) x1 0) (fun k f => (show FVec Ideal S1024x2048 .bf16 from x2) (ix2 k f)) q) rfl ?_
    congr 2
    exact Fin.ext (by dsimp only; omega)

/-- The rows a grid point writes to the state block: the same 32 rows. -/
theorem st_at (c : Dev nD) (t : Fin cfg0.N) (z : Fin 1) (r : Fin 32) (q : Fin 1024) :
    (outsAt0 (F := Ideal) m c t.val t.isLt).2.1 (ix3 z r q)
      = Rows.glu (row (n := 256) (iblk m c 0 t) ⟨224 + r, by omega⟩) (row (n := 1) (iblk m c 1 t) 0) (fun k f => (show FVec Ideal S1024x2048 .bf16 from iblk m c 2 t) (ix2 k f)) q := by
  by_cases h0 : t.val % 16 = 0
  · rw [outsAt0_A m c t h0]
    frame_out
    generalize iblk m c 0 t = x0
    generalize iblk m c 1 t = x1
    generalize iblk m c 2 t = x2
    simp only [readCov_ld]
    pointwise [k0_pay1]
    rw [canon_hi _ _ _ (by dsimp only; omega)]
    pointwise [k0_pay4]
    refine Eq.trans (b := Rows.glu (row (n := 256) x0 ⟨256 + r.val - 32, by omega⟩) (row (n := 1) x1 0) (fun k f => (show FVec Ideal S1024x2048 .bf16 from x2) (ix2 k f)) q) rfl ?_
    congr 2
    exact Fin.ext (by dsimp only; omega)
  · rw [outsAt0_B m c t h0]
    frame_out
    generalize iblk m c 0 t = x0
    generalize iblk m c 1 t = x1
    generalize iblk m c 2 t = x2
    simp only [readCov_ld]
    pointwise [k0_pay1]
    rw [canon_hi _ _ _ (by dsimp only; omega)]
    pointwise [k0_pay4]
    refine Eq.trans (b := Rows.glu (row (n := 256) x0 ⟨256 + r.val - 32, by omega⟩) (row (n := 1) x1 0) (fun k f => (show FVec Ideal S1024x2048 .bf16 from x2) (ix2 k f)) q) rfl ?_
    congr 2
    exact Fin.ext (by dsimp only; omega)

/-- The gated linear unit `30 - k` rows before row `R`, inside the sequence of 4096 rows that holds `R` (zero before its start). -/
def back (X : FVec Ideal S16384x1024 .f32) (g : FVec Ideal S1x1024 .f32) (w : FVec Ideal S1024x2048 .f32) (R : Fin 16384) (k : Fin 31)
    (q : Fin 1024) : EReal :=
  if h : R.val % 4096 + k.val < 30 then 0 else Rows.glu (row (n := 16384) X ⟨R.val + k.val - 30, by omega⟩) (row (n := 1) g 0) (fun k f => w (ix2 k f)) q

/-- A row of the convolution module: the depthwise convolution over its own and the 30 preceding rows of its sequence, and its tail. -/
def out (X : FVec Ideal S16384x1024 .f32) (g : FVec Ideal S1x1024 .f32) (w : FVec Ideal S1024x2048 .f32) (wd : FVec Ideal S31x1024 .f32)
    (bd lg lb : FVec Ideal S1x1024 .f32) (wo : FVec Ideal S1024x1024 .f32) (R : Fin 16384) (q : Fin 1024) : EReal :=
  Rows.tail (row (n := 16384) X R) (Rows.taps (row (n := 1) bd 0) (fun j k => wd (ix2 j k)) (back X g w R)) (row (n := 1) lg 0) (row (n := 1) lb 0) (fun k f => wo (ix2 k f)) q

/-- The first result: every row of the module. -/
def G8 (X : FVec Ideal S16384x1024 .f32) (g : FVec Ideal S1x1024 .f32) (w : FVec Ideal S1024x2048 .f32) (wd : FVec Ideal S31x1024 .f32)
    (bd lg lb : FVec Ideal S1x1024 .f32) (wo : FVec Ideal S1024x1024 .f32) : FVec Ideal S16384x1024 .f32 := fun i =>
  out X g w wd bd lg lb wo (i 0) (i 1)

/-- The first result at a row and a channel. -/
theorem G8_at (X : FVec Ideal S16384x1024 .f32) (g : FVec Ideal S1x1024 .f32) (w : FVec Ideal S1024x2048 .f32) (wd : FVec Ideal S31x1024 .f32)
    (bd lg lb : FVec Ideal S1x1024 .f32) (wo : FVec Ideal S1024x1024 .f32) (R : Fin 16384) (q : Fin 1024) :
    G8 X g w wd bd lg lb wo (ix2 R q) = out X g w wd bd lg lb wo R q := rfl

/-- The gated linear unit of row `4064 + j` of sequence `b`. -/
def state (X : FVec Ideal S16384x1024 .f32) (g : FVec Ideal S1x1024 .f32) (w : FVec Ideal S1024x2048 .f32) (b : Fin 4) (j : Fin 32)
    (q : Fin 1024) : EReal :=
  Rows.glu (row (n := 16384) X ⟨b.val * 4096 + (4064 + j.val), by omega⟩) (row (n := 1) g 0) (fun k f => w (ix2 k f)) q

/-- The second result: the gated linear units of the last 32 rows of every sequence. -/
def G9 (X : FVec Ideal S16384x1024 .f32) (g : FVec Ideal S1x1024 .f32) (w : FVec Ideal S1024x2048 .f32) : FVec Ideal S4x32x1024 .f32 := fun i =>
  state X g w (i 0) (i 1) (i 2)

/-- Which block every window shows at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val / 16, 0, 0] :=
  (by decide +kernel : ∀ t : Fin grid0.N, _)

/-- A row of the block of grid point `t` is a row of the input. -/
theorem row_iblk (c : Dev nD) (t : Fin cfg0.N) (ht : t.val < 64) (r : Fin 256) :
    row (n := 256) (iblk m c 0 t) r = row (n := 16384) (m ((c : Thread nD τ).loc main_arg0)) ⟨t.val * 256 + r.val, by omega⟩ := by
  funext k
  unfold row
  blk_point [iblk, V, idx t]

/-- The gain of the norm is the same at every grid point. -/
theorem gain_iblk (c : Dev nD) (t : Fin cfg0.N) :
    row (n := 1) (iblk m c 1 t) 0 = row (n := 1) (m ((c : Thread nD τ).loc main_arg1)) 0 := by
  funext k
  unfold row
  blk_point [iblk, V, idx t]

/-- The bias of the convolution is the same at every grid point. -/
theorem bd_iblk (c : Dev nD) (t : Fin cfg0.N) :
    row (n := 1) (iblk m c 4 t) 0 = row (n := 1) (m ((c : Thread nD τ).loc main_arg4)) 0 := by
  funext k
  unfold row
  blk_point [iblk, V, idx t]

/-- The gain of the layer norm is the same at every grid point. -/
theorem lg_iblk (c : Dev nD) (t : Fin cfg0.N) :
    row (n := 1) (iblk m c 5 t) 0 = row (n := 1) (m ((c : Thread nD τ).loc main_arg5)) 0 := by
  funext k
  unfold row
  blk_point [iblk, V, idx t]

/-- The bias of the layer norm is the same at every grid point. -/
theorem lb_iblk (c : Dev nD) (t : Fin cfg0.N) :
    row (n := 1) (iblk m c 6 t) 0 = row (n := 1) (m ((c : Thread nD τ).loc main_arg6)) 0 := by
  funext k
  unfold row
  blk_point [iblk, V, idx t]

/-- The up projection's matrix is the same at every grid point. -/
theorem win_iblk (c : Dev nD) (t : Fin cfg0.N) (k : Fin 1024) (f : Fin 2048) :
    (iblk m c 2 t : FVec Ideal S1024x2048 .bf16) (ix2 k f) = (m ((c : Thread nD τ).loc main_arg2) : FVec Ideal S1024x2048 .f32) (ix2 k f) := by
  blk_point [iblk, V, idx t]

/-- The taps's matrix is the same at every grid point. -/
theorem wd_iblk (c : Dev nD) (t : Fin cfg0.N) (k : Fin 31) (f : Fin 1024) :
    (iblk m c 3 t : FVec Ideal S31x1024 .f32) (ix2 k f) = (m ((c : Thread nD τ).loc main_arg3) : FVec Ideal S31x1024 .f32) (ix2 k f) := by
  blk_point [iblk, V, idx t]

/-- The down projection's matrix is the same at every grid point. -/
theorem wo_iblk (c : Dev nD) (t : Fin cfg0.N) (k : Fin 1024) (f : Fin 1024) :
    (iblk m c 7 t : FVec Ideal S1024x1024 .bf16) (ix2 k f) = (m ((c : Thread nD τ).loc main_arg7) : FVec Ideal S1024x1024 .f32) (ix2 k f) := by
  blk_point [iblk, V, idx t]

/-- What a grid point carries to the next, over the input's rows. -/
theorem s_prev (c : Dev nD) (n : ℕ) (h : n < cfg0.N) (hn : n < 64) (r : Fin 32) (q : Fin 1024) :
    (outsAt0 (F := Ideal) m c n h).2.2 (ix2 ⟨r.val, by omega⟩ q)
      = Rows.glu (row (n := 16384) (m ((c : Thread nD τ).loc main_arg0)) ⟨n * 256 + (224 + r.val), by omega⟩) (row (n := 1) (m ((c : Thread nD τ).loc main_arg1)) 0)
        (fun k f => (m ((c : Thread nD τ).loc main_arg2) : FVec Ideal S1024x2048 .f32) (ix2 k f)) q := by
  have := s_at m c ⟨n, h⟩ r q
  rw [row_iblk m c ⟨n, h⟩ hn, gain_iblk] at this
  simp only [win_iblk] at this
  exact this

/-- The first result array after the last grid point. -/
theorem final8 (c : Dev nD) : (dats m 0 c).arrAt 8 (cfgs 0).N
    = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have ht : t.val < 64 := lt_of_lt_of_eq t.isLt (by decide +kernel)
  blk_simp
  rw [after0_8]
  idx_vars y
  have hy : ((View.whole main_v2_0).slice (win0_8.rect t)).emb (ix2 y0 y1) = ix2 ⟨t.val * 256 + y0.val, by omega⟩ y1 := by
    blk_ext [idx t]
  rw [hy, G8_at]
  unfold out
  by_cases h0 : t.val % 16 = 0
  · rw [o_A m c t h0]
    unfold blockOut
    simp only [row_iblk m c t ht, gain_iblk, bd_iblk, lg_iblk, lb_iblk, wo_iblk, wd_iblk]
    congr 2
    funext k x
    unfold back history
    simp only [row_iblk m c t ht, gain_iblk, win_iblk]
    split_ifs <;> first | omega | rfl | (congr 3; omega)
  · rw [o_B m c t h0]
    unfold blockOut
    simp only [s_prev m c (t.val - 1) _ (by omega), row_iblk m c t ht, gain_iblk, bd_iblk, lg_iblk, lb_iblk, wo_iblk, wd_iblk]
    congr 2
    funext k x
    unfold back history
    simp only [row_iblk m c t ht, gain_iblk, win_iblk]
    split_ifs <;> first | omega | rfl | (congr 3; omega)

/-- The second result array after the last grid point. -/
theorem final9 (c : Dev nD) : (dats m 0 c).arrAt 9 (cfgs 0).N
    = G9 (m ((c : Thread nD τ).loc main_arg0)) (m ((c : Thread nD τ).loc main_arg1)) (m ((c : Thread nD τ).loc main_arg2)) := by
  refine (dats m 0 c).arrAt_eq_of_covers 9 _ (by decide +kernel) fun t hf y => ?_
  have ht : t.val < 64 := lt_of_lt_of_eq t.isLt (by decide +kernel)
  have hl := (flush0_9 t).mp hf
  blk_simp
  rw [after0_9]
  idx_vars y
  have hy : ((View.whole main_v2_1).slice (win0_9.rect t)).emb (ix3 y0 y1 y2) = ix3 ⟨t.val / 16, by omega⟩ y1 y2 := by
    blk_ext [idx t]
  rw [hy, st_at]
  simp only [row_iblk m c t ht, gain_iblk, win_iblk]
  show _ = state _ _ _ _ _ _
  unfold state
  congr 2
  apply Fin.ext
  show t.val * 256 + (224 + y1.val) = t.val / 16 * 4096 + (4064 + y1.val)
  omega

end Cert.ConfIdeal.Point

end
-- ==== Proof.ConfRefPoint.lean ====
/- The convolution module, the reference. -/
module

public import proofs.«01_k».proof.Proof.ConfPoint
public import proofs.«01_k».proof.Proof.Gen.ConfRefIdeal.Read
public import proofs.«01_k».proof.Proof.Gen.ConfRefIdeal.Run

public import Idealize.ShloMosaic.Lib.Pointwise

@[expose] public section

set_option maxRecDepth 16384

noncomputable section

namespace Cert.ConfRefIdeal.Point

open Cert.ConfRefIdeal Cert.ConfRefIdeal.Read Cert.ConfRefIdeal.Gen Idealize.ShloMosaic Idealize.ShloMosaic.TcCoe Idealize.SL.Sem

/-- The gated linear units with 30 rows of zeros before every sequence. -/
theorem pad_at (x0 : FVec Ideal S16384x1024 .f32) (x1 : FVec Ideal S1x1024 .f32) (x2 : FVec Ideal S1024x2048 .f32) (b : Fin 4) (n : Fin 4126) (q : Fin 1024) :
    val_main_v26 (F := Ideal) x0 x1 x2 (ix3 b n q)
      = if h : n.val < 30 then 0 else Rows.glu (ConfIdeal.Point.row (n := 16384) x0 ⟨b.val * 4096 + (n.val - 30), by omega⟩)
        (ConfIdeal.Point.row (n := 1) x1 0) (fun k f => x2 (ix2 k f)) q := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_cst_2, val_main_v20, val_main_v21, val_main_cst_3, val_main_v22, val_main_v23, val_main_v24, val_main_cst_4, val_main_v25, val_main_v26]
  unfold Rows.glu Rows.mat
  simp only [zero_sub]
  rfl

/-- The second result of the reference. -/
theorem ref_at9 (x0 : FVec Ideal S16384x1024 .f32) (x1 : FVec Ideal S1x1024 .f32) (x2 : FVec Ideal S1024x2048 .f32) (b : Fin 4) (r : Fin 32) (q : Fin 1024) :
    val_main_v275 (F := Ideal) x0 x1 x2 (ix3 b r q) = ConfIdeal.Point.state x0 x1 x2 b r q := by
  pointwise [val_main_v275]
  rw [pad_at, dif_neg (show ¬ (4094 + r.val) < 30 by omega)]
  unfold ConfIdeal.Point.state
  congr 2
  apply Fin.ext
  show b.val * 4096 + (4094 + r.val - 30) = b.val * 4096 + (4064 + r.val)
  omega

/-- The depthwise convolution with its bias. -/
theorem conv_at (x0 : FVec Ideal S16384x1024 .f32) (x1 : FVec Ideal S1x1024 .f32) (x2 : FVec Ideal S1024x2048 .f32) (x3 : FVec Ideal S31x1024 .f32) (x4 : FVec Ideal S1x1024 .f32) (b : Fin 4) (n : Fin 4096) (q : Fin 1024) :
    val_main_v246 (F := Ideal) x0 x1 x2 x3 x4 (ix3 b n q)
      = Rows.taps (ConfIdeal.Point.row (n := 1) x4 0) (fun j k => x3 (ix2 j k)) (ConfIdeal.Point.back x0 x1 x2 ⟨b.val * 4096 + n.val, by omega⟩) q := by
  generalize hR : (⟨b.val * 4096 + n.val, by omega⟩ : Fin 16384) = R
  have hv : R.val = b.val * 4096 + n.val := by rw [← hR]
  clear hR
  have hh : ∀ (k : Fin 31) (p : Fin 4126), p.val = k.val + n.val → val_main_v26 (F := Ideal) x0 x1 x2 (ix3 b p q)
      = ConfIdeal.Point.back x0 x1 x2 R k q := by
    intro k p hp
    rw [pad_at]
    unfold ConfIdeal.Point.back
    split_ifs <;> first | omega | rfl | (congr 3; omega)
  generalize ConfIdeal.Point.back x0 x1 x2 _ = H at hh ⊢
  pointwise [val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246]
  generalize val_main_v26 (F := Ideal) x0 x1 x2 = W at hh ⊢
  rw [Rows.taps, Rows.sum_taps]
  refine Eq.trans ?_ (add_comm _ _)
  refine congrArg₂ (· + ·) ?_ rfl
  iterate 30 refine congrArg₂ (· + ·) ?_ (congrArg₂ (· * ·) (hh _ _ (by first | omega | (simp; try omega))) (by with_reducible rfl))
  exact congrArg₂ (· * ·) (hh _ _ (by first | omega | (simp; try omega))) (by with_reducible rfl)

/-- The first result of the reference. -/
theorem ref_at8 (x0 : FVec Ideal S16384x1024 .f32) (x1 : FVec Ideal S1x1024 .f32) (x2 : FVec Ideal S1024x2048 .f32) (x3 : FVec Ideal S31x1024 .f32) (x4 x5 x6 : FVec Ideal S1x1024 .f32) (x7 : FVec Ideal S1024x1024 .f32) (R : Fin 16384) (q : Fin 1024) :
    val_main_v274 (F := Ideal) x0 x1 x2 x3 x4 x5 x6 x7 (ix2 R q) = ConfIdeal.Point.out x0 x1 x2 x3 x4 x5 x6 x7 R q := by
  pointwise [val_main_v0, val_main_v247, val_main_v248, val_main_cst_5, val_main_v249, val_main_v250, val_main_cst_6, val_main_v251, val_main_v252, val_main_v253, val_main_v254, val_main_v255, val_main_cst_7, val_main_v256, val_main_v257, val_main_cst_8, val_main_v258, val_main_v259, val_main_cst_9, val_main_v260, val_main_v261, val_main_v262, val_main_v263, val_main_v264, val_main_v265, val_main_v266, val_main_v267, val_main_v268, val_main_v269, val_main_v270, val_main_call0_v0, val_main_call0_v1, val_main_call0_cst, val_main_call0_v2, val_main_call0_v3, val_main_call0_cst_0, val_main_call0_v4, val_main_call0_v5, val_main_v271, val_main_v272, val_main_v273, val_main_v274]
  have e : (⟨R.val / 4096 * 4096 + R.val % 4096, by omega⟩ : Fin 16384) = R := Fin.ext (by dsimp only; omega)
  simp only [conv_at, e]
  unfold ConfIdeal.Point.out Rows.tail Rows.lnorm Rows.centred
  simp only [zero_sub]

/-- The run of the reference: its two results are `G8` and `G9` of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v274) = ConfIdeal.Point.G8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v275) = ConfIdeal.Point.G9 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2.1.trans ?_, (h c).2.2⟩) (Value.run (F := Ideal) m ρ)
  · refine (val_main_v274_eq _).trans ?_
    funext i
    idx_vars i
    exact ref_at8 _ _ _ _ _ _ _ _ _ _
  · refine (val_main_v275_eq _).trans ?_
    funext i
    idx_vars i
    exact ref_at9 _ _ _ _ _ _

end Cert.ConfRefIdeal.Point

end
-- ==== Proof.MobaIdealRun0.lean ====
module

public import proofs.«01_k».proof.Proof.Gen.MobaIdeal.Frame.Runs

/-!
The run of one grid point of the attention kernel.

The loop over pairs of key tiles writes the second scratch in full before it reads it, so what the loop computes does
not depend on what that scratch held at first (`trip_any`, `st_any`). With that, what the point writes is a function of
its four input blocks (`kernelRun0_A`). The remainder loop after it makes no trip (`rest_trips`).
-/

@[expose] public section

set_option maxRecDepth 16384

noncomputable section

namespace Cert.MobaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The remainder loop makes no trip: the tiles before the diagonal come in pairs. -/
theorem rest_trips (i : grid0.Coords) : (k0_t2_loop i).trips = 0 := by
  unfold k0_t2_loop
  generalize (i 2) = x
  revert x
  change ∀ x : Fin 8, _
  decide +kernel

/-- One trip does not read what the second scratch held before. -/
theorem trip_any (𝒱 : Variants) (c : Dev nD) (bd : Option 𝒱.V) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole) (v3 : IVec S1x512 32) (v115 : FVec F S256x512 .bf16) (v193 : FVec F S256x512 .bf16) (v194 : IVec S256x128 32) (v211 : BitVec 32) (v248 : FVec F S1x512 .f32) (v249 : FVec F S80x512 .f32) (v250 : FVec F S1x512 .f32) (v251 : FVec F S80x512 .f32) (c0_i32_92 : BitVec 32) (v252 : BitVec 32) (X_arg4 : BufTy.Contents (Elt F) arg4.view.ty) (X_arg5 : BufTy.Contents (Elt F) arg5.view.ty) (k : Fin (k0_t1_loop i).trips) (acc : FVec F S1x512 .f32 × FVec F S80x512 .f32 × FVec F S1x512 .f32 × FVec F S80x512 .f32) (f8 : BufTy.Contents (Elt F) arg8.view.ty) (f9 f9' : BufTy.Contents (Elt F) arg9.view.ty) :
    (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).1 acc f8 f9 = (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).1 acc f8 f9'
      ∧ (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).2.1 acc f8 f9 = (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).2.1 acc f8 f9'
      ∧ (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).2.2.1 acc f8 f9 = (trip_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 k).2.2.1 acc f8 f9' := by
  unfold trip_k0_t1
  exact ⟨rfl, rfl, rfl⟩

/-- After any number of trips the state does not depend on what the second scratch held at first. -/
theorem st_any (𝒱 : Variants) (c : Dev nD) (bd : Option 𝒱.V) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole) (v3 : IVec S1x512 32) (v115 : FVec F S256x512 .bf16) (v193 : FVec F S256x512 .bf16) (v194 : IVec S256x128 32) (v211 : BitVec 32) (v248 : FVec F S1x512 .f32) (v249 : FVec F S80x512 .f32) (v250 : FVec F S1x512 .f32) (v251 : FVec F S80x512 .f32) (c0_i32_92 : BitVec 32) (v252 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x512 .f32 × FVec F S80x512 .f32 × FVec F S1x512 .f32 × FVec F S80x512 .f32) (G_arg9' : BufTy.Contents (Elt F) arg9.view.ty) (n : ℕ) :
    st_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 G_arg9 init n = st_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 G_arg9' init n := by
  induction n with
  | zero => rfl
  | succ n ih =>
    rw [st_k0_t1.eq_2, st_k0_t1.eq_2]
    unfold st_k0_t1Step
    rw [← ih]
    split
    · rename_i h
      generalize st_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 G_arg9 init n = s
      obtain ⟨h1, h2, h3⟩ := trip_any 𝒱 c bd i arg3 harg3 arg4 harg4 arg5 harg5 arg6 harg6 arg7 harg7 arg8 harg8 arg9 harg9 v3 v115 v193 v194 v211 v248 v249 v250 v251 c0_i32_92 v252 X_arg4 X_arg5 ⟨n, h⟩ s.1 (arg8.view.writes (Elt F) G_arg8 s.2.1) (arg9.view.writes (Elt F) G_arg9 s.2.2) (arg9.view.writes (Elt F) G_arg9' s.2.2)
      exact Prod.ext h1 (Prod.ext (congrArg (· ++ s.2.1) h2) (congrArg (· ++ s.2.2) h3))
    · rfl

/-- What the loop over pairs of key tiles hands on: the first scratch and the carried values as functions of the inputs,
    the second scratch at some contents. -/
@[instance_reducible] instance loopExit (𝒱 : Variants) (c : Dev nD) (bd : Option 𝒱.V) (E : Set ℕ) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole) (v3 : IVec S1x512 32) (v115 : FVec F S256x512 .bf16) (v193 : FVec F S256x512 .bf16) (v194 : IVec S256x128 32) (v211 : BitVec 32) (v248 : FVec F S1x512 .f32) (v249 : FVec F S80x512 .f32) (v250 : FVec F S1x512 .f32) (v251 : FVec F S80x512 .f32) (c0_i32_92 : BitVec 32) (v252 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x512 .f32 × FVec F S80x512 .f32 × FVec F S1x512 .f32 × FVec F S80x512 .f32) :
    LoopExit (loopInv_k0_t1 (F := F) 𝒱 c bd E i arg3 harg3 arg4 harg4 arg5 harg5 arg6 harg6 arg7 harg7 arg8 harg8 arg9 harg9 v3 v115 v193 v194 v211 v248 v249 v250 v251 c0_i32_92 v252 X_arg4 X_arg5 G_arg8 G_arg9 init) where
  post acc := iprop((arg4.view.loc (c : Thread nD τ) ↦[arg4.view.set]{fullShare} X_arg4) ∗ (arg5.view.loc (c : Thread nD τ) ↦[arg5.view.set]{fullShare} X_arg5) ∗ (∃ f, (arg8.view.loc (c : Thread nD τ) ↦[arg8.view.set]{fullShare} f) ∗ ⌜f = arg8.view.writes (Elt F) G_arg8 (st_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 arg9.view.junk init (k0_t1_loop i).trips).2.1⌝) ∗ (∃ f, (arg9.view.loc (c : Thread nD τ) ↦[arg9.view.set]{fullShare} f)) ∗ ⌜acc = (st_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 arg9.view.junk init (k0_t1_loop i).trips).1⌝)
  exit acc := by
    show inv_k0_t1 (F := F) 𝒱 c bd i arg3 harg3 arg4 harg4 arg5 harg5 arg6 harg6 arg7 harg7 arg8 harg8 arg9 harg9 v3 v115 v193 v194 v211 v248 v249 v250 v251 c0_i32_92 v252 X_arg4 X_arg5 G_arg8 G_arg9 init (k0_t1_loop i).trips acc ⊢ _
    unfold inv_k0_t1
    rw [st_any 𝒱 c bd i arg3 harg3 arg4 harg4 arg5 harg5 arg6 harg6 arg7 harg7 arg8 harg8 arg9 harg9 v3 v115 v193 v194 v211 v248 v249 v250 v251 c0_i32_92 v252 X_arg4 X_arg5 G_arg8 G_arg9 init arg9.view.junk]
    iintro ⟨H4, H5, H8, ⟨%f, H9, -⟩, Ha⟩
    isplitl [H4]; · iexact H4
    isplitl [H5]; · iexact H5
    isplitl [H8]; · iexact H8
    isplitl [H9]; · iexists _; iexact H9
    iexact Ha

/-- The remainder loop hands everything on as it was: it makes no trip. -/
@[instance_reducible] instance restExit (𝒱 : Variants) (c : Dev nD) (bd : Option 𝒱.V) (E : Set ℕ) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole) (v3 : IVec S1x512 32) (v115 : FVec F S256x512 .bf16) (v193 : FVec F S256x512 .bf16) (v194 : IVec S256x128 32) (v211 : BitVec 32) (v248 : FVec F S1x512 .f32) (v249 : FVec F S80x512 .f32) (v250 : FVec F S1x512 .f32) (v251 : FVec F S80x512 .f32) (c0_i32_92 : BitVec 32) (v252 : BitVec 32) (v256 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x512 .f32 × FVec F S80x512 .f32 × FVec F S1x512 .f32 × FVec F S80x512 .f32) :
    LoopExit (loopInv_k0_t2 (F := F) 𝒱 c bd E i arg3 harg3 arg4 harg4 arg5 harg5 arg6 harg6 arg7 harg7 arg8 harg8 arg9 harg9 v3 v115 v193 v194 v211 v248 v249 v250 v251 c0_i32_92 v252 v256 X_arg4 X_arg5 G_arg8 G_arg9 init) where
  post acc := iprop((arg4.view.loc (c : Thread nD τ) ↦[arg4.view.set]{fullShare} X_arg4) ∗ (arg5.view.loc (c : Thread nD τ) ↦[arg5.view.set]{fullShare} X_arg5) ∗ (∃ f, (arg8.view.loc (c : Thread nD τ) ↦[arg8.view.set]{fullShare} f) ∗ ⌜f = G_arg8⌝) ∗ (∃ f, (arg9.view.loc (c : Thread nD τ) ↦[arg9.view.set]{fullShare} f) ∗ ⌜f = G_arg9⌝) ∗ ⌜acc = init⌝)
  exit acc := by
    show inv_k0_t2 (F := F) 𝒱 c bd i arg3 harg3 arg4 harg4 arg5 harg5 arg6 harg6 arg7 harg7 arg8 harg8 arg9 harg9 v3 v115 v193 v194 v211 v248 v249 v250 v251 c0_i32_92 v252 v256 X_arg4 X_arg5 G_arg8 G_arg9 init (k0_t2_loop i).trips acc ⊢ _
    unfold inv_k0_t2
    rw [rest_trips i]
    exact BIBase.Entails.rfl

set_option maxHeartbeats 4000000 in
/-- What one grid point leaves in its output block, as pieces, with the proof that the body runs to the end from the
    four input blocks and leaves exactly those. -/
noncomputable def kernelRun0_A (c : Dev nD) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole)
    (x0 : Vec F S128x512 .bf16) (x1 : Vec F S1x4096x128 .bf16) (x2 : Vec F S16x128x256 .bf16) (x3 : Vec F S1x16x128 .f32) :
    { L4 : List (View.Piece (Elt F) S128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ (∃ d, owns (c : Thread nD τ) arg9 fullShare d)) -∗ K ⟨⟩))
          ⊢ wp frame (wpE (defs₀ (F := F)) Variants.none c none) E (cc0_moba_attn i arg3 harg3 arg4 harg4 arg5 harg5 arg6 harg6 arg7 harg7 arg8 harg8 arg9 harg9) K } := by
  refine ⟨?_, fun E K => ?run⟩
  case run =>
    simp only [cc0_moba_attn_eq_skeleton]; unfold cc0_moba_attn_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [HL0]
    · iexists _; isplitr; · ipureintro; exact harg4.read_unread _
      iexact HL0
    isplitl [HL1]
    · iexists _; isplitr; · ipureintro; exact harg5.read_unread _
      iexact HL1
    isplitl [H3]
    · iexists _; isplitr; · ipureintro; exact harg6.read_unread _
      iexact H3
    isplitl [H4]; · iexists _; iexact H4
    isplitl [HL2]
    · iexists _, _; isplitr; swap; · iexact HL2
      ipureintro; rfl
    iexists _, _; isplitr; swap; · iexact HL4
    ipureintro; rfl

end Cert.MobaIdeal.Gen

end
-- ==== Proof.MobaIdealFrame.lean ====
/- What the attention kernel leaves at every grid point, and its frame: the launch's set-up over `MobaIdealRun0`. -/
module

public import proofs.«01_k».proof.Proof.MobaIdealRun0
public import Idealize.ShloMosaic.Lib.Claim

@[expose] public section

-- membership in a rectangle of production extents (`View.cover_of_tiled`): the elaborator's structural look
-- recurses once per coordinate of the long axes
set_option maxRecDepth 16384

noncomputable section

namespace Cert.MobaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 4 tile its block (2 stores of `S64x512`, checked by the kernel's evaluation: Lib/Ring.lean `Piece.tiledL`, linear in the pieces, through a loop's `@[irreducible]` trip theorem too), so they cover it. -/
theorem cover0_A_4 (c : Dev nD) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole)
    (x0 : Vec F S128x512 .bf16) (x1 : Vec F S1x4096x128 .bf16) (x2 : Vec F S16x128x256 .bf16) (x3 : Vec F S1x16x128 .f32) (y : S128x512.Idx) :
    ∃ pc ∈ (kernelRun0_A c i arg3 harg3 arg4 harg4 arg5 harg5 arg6 harg6 arg7 harg7 arg8 harg8 arg9 harg9 x0 x1 x2 x3).1, y ∈ pc.1.set :=
  View.cover_of_tiledL (kernelRun0_A c i arg3 harg3 arg4 harg4 arg5 harg5 arg6 harg6 arg7 harg7 arg8 harg8 arg9 harg9 x0 x1 x2 x3).1 S64x512.size (by sl_kernel_rfl) y

/-- What the run leaves in output 4's staging buffer: its pieces read back over junk. -/
def out0_A_4 (c : Dev nD) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole)
    (x0 : Vec F S128x512 .bf16) (x1 : Vec F S1x4096x128 .bf16) (x2 : Vec F S16x128x256 .bf16) (x3 : Vec F S1x16x128 .f32) : Vec F S128x512 .bf16 :=
  VO0_4.read (Elt F) (VO0_4.writes (Elt F) VO0_4.junk (kernelRun0_A c i arg3 harg3 arg4 harg4 arg5 harg5 arg6 harg6 arg7 harg7 arg8 harg8 arg9 harg9 x0 x1 x2 x3).1)

/-! ## What the outputs hold after each point -/

/-- What the outputs' staging buffers hold after the body at point `t`: the run's contents at
    the point's memrefs and input blocks. -/
def outsAt0 (c : Dev nD) (t : Fin cfg0.N) : Vec F S128x512 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the keys block holds after a grid point. -/
theorem after0_1 (c : Dev nD) (t : Fin cfg0.N) : (dats m 0 c).after 1 t = iblk m c 1 t := by dsimp only [dats]
/-- What the values block holds after a grid point. -/
theorem after0_2 (c : Dev nD) (t : Fin cfg0.N) : (dats m 0 c).after 2 t = iblk m c 2 t := by dsimp only [dats]
/-- What the mean keys block holds after a grid point. -/
theorem after0_3 (c : Dev nD) (t : Fin cfg0.N) : (dats m 0 c).after 3 t = iblk m c 3 t := by dsimp only [dats]
/-- What the output block holds after a grid point. -/
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the keys block holds before a grid point. -/
theorem before0_1 (c : Dev nD) (t : Fin cfg0.N) (d) : (dats m 0 c).before 1 t d = iblk m c 1 t :=
  before0_1_of m (dats m 0 c) (A_eq m c 1) (after0_1 m c) t d
/-- What the values block holds before a grid point. -/
theorem before0_2 (c : Dev nD) (t : Fin cfg0.N) (d) : (dats m 0 c).before 2 t d = iblk m c 2 t :=
  before0_2_of m (dats m 0 c) (A_eq m c 2) (after0_2 m c) t d
/-- What the mean keys block holds before a grid point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_MobaIdeal`'s statement (Defs.lean) at any `F` — Proof.lean cites it at `Bits`:
    `theorem Cert.Proof.claim : Cert.Claim := ⟨Cert.MobaIdeal.Gen.facts, fun m ρ _ => Cert.MobaIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MobaIdeal.Gen

end
-- ==== Proof.Online.lean ====
/- The running softmax in base 2: tile by tile, with the greatest score so far and the weighted sum rescaled to it, it
   gathers the sum over all tiles at the greatest score of all. Scores are extended reals, minus infinity where masked. -/
module

public import Idealize.ShloMosaic.PureOps.Ideal.Laws
public import Idealize.ShloMosaic.Lib.Pointwise

@[expose] public section

noncomputable section

namespace Cert.Online

open Idealize.ShloMosaic

/-- A power of two is not negative. -/
theorem exp2_nonneg (x : EReal) : 0 ≤ Ideal.exp2 x := by
  induction x with
  | bot => simp
  | top => simp
  | coe r => rw [Ideal.exp2_coe]; exact_mod_cast (Real.rpow_nonneg (by norm_num) r)

/-- A power of two is finite below plus infinity. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- The difference of two scores the first of which is not plus infinity, the second neither: not plus infinity where
    the first is at most the second. -/
theorem sub_ne_top {a m : EReal} (h : a ≤ m) (hm : m ≠ ⊤) : a - m ≠ ⊤ := by
  induction m with
  | bot => rw [le_bot_iff.mp h]; simp
  | top => exact absurd rfl hm
  | coe r =>
    induction a with
    | bot => simp
    | top => exact absurd (top_le_iff.mp h) hm
    | coe s => rw [← EReal.coe_sub]; exact EReal.coe_ne_top _

/-- Changing the reference score of a weight. -/
theorem exp2_rescale {a m m' : EReal} (h1 : a ≤ m) (h2 : m ≤ m') (h3 : m' ≠ ⊤) :
    Ideal.exp2 (m - m') * Ideal.exp2 (a - m) = Ideal.exp2 (a - m') := by
  induction a with
  | bot => simp
  | top => exact absurd (top_le_iff.mp (h1.trans h2)) h3
  | coe a =>
    induction m with
    | bot => exact absurd (le_bot_iff.mp h1) (EReal.coe_ne_bot _)
    | top => exact absurd (top_le_iff.mp h2) h3
    | coe m =>
      induction m' with
      | bot => exact absurd (le_bot_iff.mp h2) (EReal.coe_ne_bot _)
      | top => exact absurd rfl h3
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (a - m) = (2 : ℝ) ^ (a - m')
        rw [← Real.rpow_add (by norm_num)]
        congr 1
        ring

/-- A factor that is not negative and not plus infinity goes through a sum. -/
theorem mul_sum {ι : Type} (s : Finset ι) {c : EReal} (h : 0 ≤ c) (h' : c ≠ ⊤) (f : ι → EReal) :
    c * ∑ i ∈ s, f i = ∑ i ∈ s, c * f i := by
  classical
  induction s using Finset.induction with
  | empty => simp
  | insert a s ha ih => rw [Finset.sum_insert ha, Finset.sum_insert ha, EReal.left_distrib_of_nonneg_of_ne_top h h', ih]

variable {R : ℕ}

/-- The greatest score of the first `n` tiles. -/
def peak (s : ℕ → Fin R → EReal) : ℕ → EReal
  | 0 => ⊥
  | n + 1 => max (peak s n) (Finset.univ.fold max ⊥ (s n))

/-- The weighted sum over the first `n` tiles, weights relative to the score `M`. -/
def gather (s v : ℕ → Fin R → EReal) (M : EReal) (n : ℕ) : EReal :=
  ∑ t ∈ Finset.range n, ∑ r, v t r * Ideal.exp2 (s t r - M)

/-- Every score read so far is at most the peak. -/
theorem le_peak (s : ℕ → Fin R → EReal) {t n : ℕ} (h : t < n) (r : Fin R) : s t r ≤ peak s n := by
  induction n with
  | zero => exact absurd h (Nat.not_lt_zero _)
  | succ n ih =>
    rcases Nat.lt_succ_iff_lt_or_eq.mp h with h | rfl
    · exact (ih h).trans (le_max_left _ _)
    · exact ((Finset.le_fold_max _).mpr (Or.inr ⟨r, Finset.mem_univ _, le_rfl⟩)).trans (le_max_right _ _)

/-- A bound of every score read so far bounds the peak. -/
theorem peak_le {s : ℕ → Fin R → EReal} {n : ℕ} {c : EReal} (h : ∀ t r, t < n → s t r ≤ c) : peak s n ≤ c := by
  induction n with
  | zero => exact bot_le
  | succ n ih =>
    exact max_le (ih fun t r ht => h t r (by omega)) ((Finset.fold_max_le _).mpr ⟨bot_le, fun r _ => h n r (by omega)⟩)

/-- The peak of scores below plus infinity is below plus infinity. -/
theorem peak_ne_top {s : ℕ → Fin R → EReal} (h : ∀ t r, s t r ≠ ⊤) (n : ℕ) : peak s n ≠ ⊤ := by
  induction n with
  | zero => simp [peak]
  | succ n ih =>
    refine ne_of_lt (max_lt (lt_top_iff_ne_top.mpr ih) ((Finset.fold_max_lt _).mpr ⟨bot_lt_top, fun r _ => lt_top_iff_ne_top.mpr (h n r)⟩))

/-- One tile more: the sum so far rescaled to the new greatest score, plus the tile's own. -/
theorem gather_step {s v : ℕ → Fin R → EReal} (h : ∀ t r, s t r ≠ ⊤) (n : ℕ) :
    Ideal.exp2 (peak s n - peak s (n + 1)) * gather s v (peak s n) n + ∑ r, v n r * Ideal.exp2 (s n r - peak s (n + 1))
      = gather s v (peak s (n + 1)) (n + 1) := by
  unfold gather
  rw [Finset.sum_range_succ]
  congr 1
  have hle : peak s n ≤ peak s (n + 1) := le_max_left _ _
  have hc := exp2_nonneg (peak s n - peak s (n + 1))
  have hc' := exp2_ne_top (sub_ne_top hle (peak_ne_top h (n + 1)))
  rw [mul_sum _ hc hc']
  refine Finset.sum_congr rfl fun t ht => ?_
  rw [mul_sum _ hc hc']
  refine Finset.sum_congr rfl fun r _ => ?_
  rw [mul_left_comm, exp2_rescale (le_peak s (Finset.mem_range.mp ht) r) hle (peak_ne_top h (n + 1))]

/-- Before the first tile nothing is gathered. -/
theorem gather_zero (s v : ℕ → Fin R → EReal) (M : EReal) : gather s v M 0 = 0 := rfl

/-- Tiles that are masked whole add nothing. -/
theorem gather_more {s v : ℕ → Fin R → EReal} {N T : ℕ} (M : EReal) (hNT : N ≤ T) (h : ∀ t r, N ≤ t → s t r = ⊥) :
    gather s v M T = gather s v M N := by
  unfold gather
  refine (Finset.sum_subset (Finset.range_mono hNT) fun t ht hn => ?_).symm
  refine Finset.sum_eq_zero fun r _ => ?_
  rw [h t r (by simpa using hn)]
  simp

/-- Tiles of minus infinity do not change the peak. -/
theorem peak_more {s : ℕ → Fin R → EReal} {N T : ℕ} (hNT : N ≤ T) (h : ∀ t r, N ≤ t → s t r = ⊥) : peak s T = peak s N := by
  refine le_antisymm (peak_le fun t r ht => ?_) (peak_le fun t r ht => le_peak s (by omega) r)
  rcases Nat.lt_or_ge t N with h' | h'
  · exact le_peak s h' r
  · rw [h t r h']; exact bot_le

/-- Dividing the weighted sum by a positive total is weighting by the divided weights. -/
theorem gather_div {s v : ℕ → Fin R → EReal} (M L : EReal) (hL : 0 < L) (T : ℕ) :
    gather s v M T * Ideal.div 1 L = ∑ t ∈ Finset.range T, ∑ r, Ideal.div (Ideal.exp2 (s t r - M)) L * v t r := by
  have hd : ∀ x, Ideal.div x L = x * L⁻¹ := fun x => by unfold Ideal.div; rw [if_neg hL.ne']
  have h0 : 0 ≤ L⁻¹ := EReal.inv_nonneg_of_nonneg hL.le
  have h1 : L⁻¹ ≠ ⊤ := by
    induction L with
    | bot => simp
    | top => simp
    | coe r => rw [← EReal.coe_inv]; exact EReal.coe_ne_top _
  simp only [hd, one_mul]
  rw [mul_comm]
  unfold gather
  rw [mul_sum _ h0 h1]
  refine Finset.sum_congr rfl fun t _ => ?_
  rw [mul_sum _ h0 h1]
  refine Finset.sum_congr rfl fun r _ => ?_
  rw [mul_left_comm, mul_comm (v t r), mul_comm (L⁻¹)]

end Cert.Online

end
-- ==== Proof.MobaTile.lean ====
/- One step of the running softmax of the attention kernel, and the scores of one key tile, at an index. -/
module

public import proofs.«01_k».proof.Proof.Gen.MobaIdeal.Skeleton
public import proofs.«01_k».proof.Proof.Online
public import Idealize.ShloMosaic.Lib.Pipeline.ValueKit
public import Idealize.ShloMosaic.Lib.Pointwise
public import Idealize.ShloMosaic.Lib.WordCmp

@[expose] public section

set_option maxRecDepth 16384

noncomputable section

namespace Cert.MobaIdeal.Tile

open Cert.MobaIdeal Cert.MobaIdeal.Gen Idealize.ShloMosaic Idealize.ShloMosaic.TcCoe Idealize.SL.Sem

/-- The word of minus infinity. -/
theorem ninf : Ideal.ofBits .f32 0xFF800000#32 = ⊥ := by simp [Ideal.ofBits, Ideal.ieee]

/-- The word of plus infinity. -/
theorem pinf : Ideal.ofBits .f32 0x7F800000#32 = ⊤ := by simp [Ideal.ofBits, Ideal.ieee]

/-- The named constant is minus infinity. -/
theorem mask_eq : Named.named (F := Ideal) κ "mask" (φ := .f32) 0xF149F2CA#32 = (⊥ : EReal) :=
  IdealRules.named_const.ideal_named_scalar κ "mask" _ _ rfl

/-- The greatest score so far, a tile more. -/
def newM (m : FVec Ideal S1x512 .f32) (s : FVec Ideal S256x512 .f32) : FVec Ideal S1x512 .f32 :=
  maximumf m (shapeCast S1x512 (multiReduction .maximumf [0] S512 s 0xFF800000#32 reduces_S256x512_S512 (.inl rfl) rfl) shapeCasts_S512_S1x512)

/-- The weighted sums so far, a tile more: the sums so far rescaled, plus the tile's values and ones weighted. -/
def newA (m : FVec Ideal S1x512 .f32) (a : FVec Ideal S80x512 .f32) (s : FVec Ideal S256x512 .f32) (v : FVec Ideal S64x256 .bf16) : FVec Ideal S80x512 .f32 :=
  addf (mulf (broadcastTo S80x512 (exp2 (subf m (newM m s))) broadcasts_S1x512_S80x512) a)
    (matmul dot_S80x256_S256x512_S80x512_1_0_0_1_n_n none
      (concatenate S80x256 0 [⟨S64x256, v⟩, ⟨S16x256, broadcast S16x256 (Scalar.ofBits (F := Ideal) .bf16 0x3F80#16)⟩] concatenates_S64x256_S16x256_S80x256_d0)
      (truncf .bf16 (exp2 (subf s (broadcastTo S256x512 (newM m s) broadcasts_S1x512_S256x512))) bitsLt_bf16_f32)
      (constant S80x512 .f32 0x00000000#32))

/-- The new running maximum of a column. -/
theorem newM_at (m : FVec Ideal S1x512 .f32) (s : FVec Ideal S256x512 .f32) (z : Fin 1) (c : Fin 512) :
    newM m s (ix2 z c) = max (m (ix2 0 c)) (Finset.univ.fold max ⊥ fun r : Fin 256 => s (ix2 r c)) := by
  obtain rfl : z = 0 := Subsingleton.elim _ _
  pointwise [newM]
  rw [ninf]

/-- The row of values a weighted sum is taken of: the head's values, and ones below them. -/
def vrow (v : FVec Ideal S64x256 .bf16) (p : Fin 80) (r : Fin 256) : EReal := if h : p.val < 64 then v (ix2 ⟨p.val, h⟩ r) else 1

/-- The new accumulator of a column. -/
theorem newA_at (m : FVec Ideal S1x512 .f32) (a : FVec Ideal S80x512 .f32) (s : FVec Ideal S256x512 .f32) (v : FVec Ideal S64x256 .bf16) (p : Fin 80) (c : Fin 512) :
    newA m a s v (ix2 p c) = Ideal.exp2 (m (ix2 0 c) - newM m s (ix2 0 c)) * a (ix2 p c)
      + ∑ r : Fin 256, vrow v p r * Ideal.exp2 (s (ix2 r c) - newM m s (ix2 0 c)) := by
  unfold newA
  generalize newM m s = M
  pointwise []
  rfl

/-- The keys of a tile, next to the tile's number as a row of zeros with a one. -/
def keys (t : BitVec 32) (k : FVec Ideal S256x128 .bf16) : FVec Ideal S256x256 .bf16 :=
  concatenate S256x256 1 [⟨S256x128, k⟩, ⟨S256x128, truncf .bf16 (select (cmpi .eq (iota .tc S256x128 32 [1] iota_S256x128_d1_w32) (broadcast S256x128 t))
    (broadcast S256x128 (Scalar.ofBits (F := Ideal) .f32 0x3F800000#32)) (broadcast S256x128 (Scalar.ofBits (F := Ideal) .f32 0x00000000#32))) bitsLt_bf16_f32⟩] concatenates_S256x128_S256x128_S256x256_d1

/-- The scores of a tile against the widened queries. -/
def score (t : BitVec 32) (k : FVec Ideal S256x128 .bf16) (q : FVec Ideal S256x512 .bf16) : FVec Ideal S256x512 .f32 :=
  matmul dot_S256x256_S256x512_S256x512_1_0_0_1_n_n none (keys t k) q (constant S256x512 .f32 0x00000000#32)

/-- A score is the key times the query, plus the query's entry for the tile. -/
theorem score_at (t : Fin 128) (k : FVec Ideal S256x128 .bf16) (q : FVec Ideal S256x512 .bf16) (r : Fin 256) (c : Fin 512) :
    score (BitVec.ofNat 32 t.val) k q (ix2 r c) = (∑ d : Fin 128, k (ix2 r d) * q (ix2 ⟨d.val, by omega⟩ c)) + q (ix2 ⟨128 + t.val, by omega⟩ c) := by
  pointwise [score, keys]
  congr 1
  rw [Finset.sum_eq_single t]
  · rw [WordCmp.cmpi_eq_eq]; simp [Scalar.select]
  · intro x _ hx
    rw [WordCmp.cmpi_eq_eq, decide_eq_false]
    · rfl
    · intro e
      apply hx
      apply Fin.ext
      have := congrArg BitVec.toNat e
      simp only [BitVec.toNat_ofNat] at this
      have h1 := x.isLt
      have h2 := t.isLt
      omega
  · intro h; exact absurd (Finset.mem_univ _) h

end Cert.MobaIdeal.Tile

end
-- ==== Proof.MobaLoop.lean ====
/- The loop over pairs of key tiles: trip by trip it carries on the running softmax of both heads, and leaves the scores of
   the next tile in the first scratch. -/
module

public import proofs.«01_k».proof.Proof.MobaIdealRun0
public import proofs.«01_k».proof.Proof.MobaTile
public import Idealize.ShloMosaic.Lib.WritesUnit

@[expose] public section

set_option maxRecDepth 16384

noncomputable section

namespace Cert.MobaIdeal.Loop

open Cert.MobaIdeal Cert.MobaIdeal.Gen Cert.MobaIdeal.Tile Idealize.ShloMosaic Idealize.ShloMosaic.TcCoe Idealize.SL.Sem

/-- The keys of tile `t`. -/
def keysOf (x1 : Vec Ideal S1x4096x128 .bf16) (t : ℕ) : FVec Ideal S256x128 .bf16 := fun y =>
  (show FVec Ideal S1x4096x128 .bf16 from x1) (ix3 0 ⟨(256 * t + (y 0).val) % 4096, Nat.mod_lt _ (by norm_num)⟩ (y 1))

/-- The values of tile `t`, head `h` of the pair. -/
def valsOf (x2 : Vec Ideal S16x128x256 .bf16) (h : Fin 2) (t : ℕ) : FVec Ideal S64x256 .bf16 := fun y =>
  (show FVec Ideal S16x128x256 .bf16 from x2) (ix3 ⟨t % 16, Nat.mod_lt _ (by norm_num)⟩ ⟨64 * h.val + (y 0).val, by have h0 : (y 0).val < 64 := (y 0).isLt; have h1 := h.isLt; omega⟩ (y 1))

/-- The scores of tile `t` before the causal mask. -/
def scoreOf (x1 : Vec Ideal S1x4096x128 .bf16) (q : FVec Ideal S256x512 .bf16) (t : ℕ) : FVec Ideal S256x512 .f32 :=
  score (BitVec.ofNat 32 t) (keysOf x1 t) q

/-- The running greatest score over the tiles. -/
def mAt (S : ℕ → FVec Ideal S256x512 .f32) : ℕ → FVec Ideal S1x512 .f32
  | 0 => k0_pay88
  | t + 1 => newM (mAt S t) (S t)

/-- The running weighted sum over the tiles. -/
def aAt (S : ℕ → FVec Ideal S256x512 .f32) (V : ℕ → FVec Ideal S64x256 .bf16) : ℕ → FVec Ideal S80x512 .f32
  | 0 => k0_pay89
  | t + 1 => newA (mAt S t) (aAt S V t) (S t) (V t)

/-- A key tile without its leading axis of length one. -/
theorem flat_keys (X : FVec Ideal S1x256x128 .bf16) (r : Fin 256) (d : Fin 128) :
    shapeCast S256x128 X shapeCasts_S1x256x128_S256x128 (ix2 r d) = X (ix3 0 r d) := by
  pointwise []

/-- A value tile without its leading axis of length one. -/
theorem flat_vals (X : FVec Ideal S1x64x256 .bf16) (p : Fin 64) (r : Fin 256) :
    shapeCast S64x256 X shapeCasts_S1x64x256_S64x256 (ix2 p r) = X (ix3 0 p r) := by
  pointwise []

/-- A plane of scores without its leading axis of length one. -/
theorem flat_score (X : FVec Ideal S1x256x512 .f32) (r : Fin 256) (q : Fin 512) :
    shapeCast S256x512 X shapeCasts_S1x256x512_S256x512 (ix2 r q) = X (ix3 0 r q) := by
  pointwise []

/-- A plane of scores with a leading axis of length one put in front. -/
theorem fold_score (X : FVec Ideal S256x512 .f32) (r : Fin 256) (q : Fin 512) :
    shapeCast S1x256x512 X shapeCasts_S256x512_S1x256x512 (ix3 0 r q) = X (ix2 r q) := by
  pointwise []

/-- A tile's keys, read out of the keys' block. -/
theorem load_keys (arg4 : Memref sig .tc .vmem S1x4096x128 .bf16) (harg4 : arg4.IsWhole) (x1 : Vec Ideal S1x4096x128 .bf16)
    (t : ℕ) (ht : t < 16) (off : Fin 3 → ℕ) (inb : ∀ a, off a + S1x256x128.size a ≤ S1x4096x128.size a) (ho : off = ![0, 256 * t, 0]) :
    shapeCast S256x128 (View.readAt (Elt Ideal) arg4.view (Rect.unit (s := S1x4096x128) off S1x256x128.size inb).toLoadRect (harg4.unread x1))
      shapeCasts_S1x256x128_S256x128 = keysOf x1 t := by
  subst ho
  funext y
  idx_vars y
  refine (flat_keys _ y0 y1).trans ((congrFun (harg4.read_unread x1) _).trans (congrArg x1 (funext fun a => Fin.ext ?_)))
  have h0 := y0.isLt
  match a with
  | 0 => rfl
  | 1 => show 256 * t + 1 * y0.val = (256 * t + y0.val) % 4096; omega
  | 2 => show 0 + 1 * y1.val = y1.val; omega

/-- A tile's values of one head, read out of the values' block. -/
theorem load_vals (arg5 : Memref sig .tc .vmem S16x128x256 .bf16) (harg5 : arg5.IsWhole) (x2 : Vec Ideal S16x128x256 .bf16)
    (h : Fin 2) (t : ℕ) (ht : t < 16) (off : Fin 3 → ℕ) (inb : ∀ a, off a + S1x64x256.size a ≤ S16x128x256.size a) (ho : off = ![t, 64 * h.val, 0]) :
    shapeCast S64x256 (View.readAt (Elt Ideal) arg5.view (Rect.unit (s := S16x128x256) off S1x64x256.size inb).toLoadRect (harg5.unread x2))
      shapeCasts_S1x64x256_S64x256 = valsOf x2 h t := by
  subst ho
  funext y
  idx_vars y
  refine (flat_vals _ y0 y1).trans ((congrFun (harg5.read_unread x2) _).trans (congrArg x2 (funext fun a => Fin.ext ?_)))
  match a with
  | 0 => show t + 1 * 0 = t % 16; omega
  | 1 => show 64 * h.val + 1 * y0.val = 64 * h.val + y0.val; omega
  | 2 => show 0 + 1 * y1.val = y1.val; omega

/-- The head's plane of a scratch, as an array. -/
def plane (v : View sig .tc .vmem S2x256x512 .f32) (h : Fin 2) (f : v.ty.Contents (Elt Ideal)) : FVec Ideal S256x512 .f32 := fun y =>
  v.read (Elt Ideal) f (ix3 h (y 0) (y 1))

/-- A plane of the score scratch reads back what was written to it. -/
theorem read_plane (v : View sig .tc .vmem S2x256x512 .f32) (h : Fin 2) (f : v.ty.Contents (Elt Ideal)) (off : Fin 3 → ℕ)
    (inb : ∀ a, off a + S1x256x512.size a ≤ S2x256x512.size a) (ho : off = ![h.val, 0, 0]) :
    shapeCast S256x512 (View.readAt (Elt Ideal) v (Rect.unit (s := S2x256x512) off S1x256x512.size inb).toLoadRect f)
      shapeCasts_S1x256x512_S256x512 = plane v h f := by
  subst ho
  funext y
  idx_vars y
  refine (flat_score _ y0 y1).trans (congrArg (v.read (Elt Ideal) f) (funext fun a => Fin.ext ?_))
  match a with
  | 0 => show h.val + 1 * 0 = h.val; omega
  | 1 => show 0 + 1 * y0.val = y0.val; omega
  | 2 => show 0 + 1 * y1.val = y1.val; omega

/-- What both heads' stores leave in a scratch. -/
theorem plane_writes (v : View sig .tc .vmem S2x256x512 .f32) (f : v.ty.Contents (Elt Ideal)) (L : List (View.Piece (Elt Ideal) S2x256x512 .f32))
    (A B : FVec Ideal S256x512 .f32) (inb0) (inb1) :
    plane v 0 (v.writes (Elt Ideal) f ((⟨Rect.unit (s := S2x256x512) ![1, 0, 0] S1x256x512.size inb1, shapeCast S1x256x512 B shapeCasts_S256x512_S1x256x512⟩ : View.Piece (Elt Ideal) S2x256x512 .f32)
      :: ⟨Rect.unit (s := S2x256x512) ![0, 0, 0] S1x256x512.size inb0, shapeCast S1x256x512 A shapeCasts_S256x512_S1x256x512⟩ :: L)) = A
    ∧ plane v 1 (v.writes (Elt Ideal) f ((⟨Rect.unit (s := S2x256x512) ![1, 0, 0] S1x256x512.size inb1, shapeCast S1x256x512 B shapeCasts_S256x512_S1x256x512⟩ : View.Piece (Elt Ideal) S2x256x512 .f32)
      :: ⟨Rect.unit (s := S2x256x512) ![0, 0, 0] S1x256x512.size inb0, shapeCast S1x256x512 A shapeCasts_S256x512_S1x256x512⟩ :: L)) = B := by
  constructor
  · funext y
    idx_vars y
    unfold plane
    refine (View.read_writes_cons_unit_of_not_mem v f (off' := ![1, 0, 0]) _ _ _ _ rfl (0 : Fin 3) (Or.inl Nat.zero_lt_one)).trans ?_
    refine (View.read_writes_cons_unit_of_mem v f (off' := ![0, 0, 0]) _ _ _ _ (ix3 0 y0 y1) rfl ?_).trans (fold_score A y0 y1)
    intro a
    match a with
    | 0 => rfl
    | 1 => exact (Nat.zero_add _).symm
    | 2 => exact (Nat.zero_add _).symm
  · funext y
    idx_vars y
    unfold plane
    refine (View.read_writes_cons_unit_of_mem v f (off' := ![1, 0, 0]) _ _ _ _ (ix3 0 y0 y1) rfl ?_).trans (fold_score B y0 y1)
    intro a
    match a with
    | 0 => rfl
    | 1 => exact (Nat.zero_add _).symm
    | 2 => exact (Nat.zero_add _).symm

/-- A trip's number is below the row of query tiles. -/
theorem trips_eq (i : grid0.Coords) : (k0_t1_loop i).trips = (i 2).val := by
  unfold k0_t1_loop
  generalize (i 2) = x
  revert x
  change ∀ x : Fin 8, _
  decide +kernel

/-- A query tile has at most seven pairs of key tiles before its diagonal. -/
theorem trip_lt {i : grid0.Coords} (k : Fin (k0_t1_loop i).trips) : k.val < 7 := by
  have h1 : k.val < (i 2).val := lt_of_lt_of_eq k.isLt (trips_eq i)
  have h2 : (i 2).val < 8 := (i 2).isLt
  omega

/-- Where the trip finds its key tile. -/
theorem off1 (i : grid0.Coords) (k : Fin (k0_t1_loop i).trips) (n : ℕ) (hn : n ≤ 2) :
    k0_off1 i k (BitVec.ofNat 32 n) = ![0, 256 * (2 * k.val + n), 0] := by
  have hk := trip_lt k
  unfold k0_off1
  generalize k.val = x at hk ⊢
  clear k
  interval_cases x <;> interval_cases n <;> rfl

/-- Where the trip finds the even tile of values of the first head. -/
theorem off2 (i : grid0.Coords) (k : Fin (k0_t1_loop i).trips) : k0_off2 i k = ![2 * k.val, 64 * (0 : Fin 2).val, 0] := by
  have hk := trip_lt k
  unfold k0_off2
  generalize k.val = x at hk ⊢
  clear k
  interval_cases x <;> rfl

/-- Where the trip finds the even tile of values of the second head. -/
theorem off3 (i : grid0.Coords) (k : Fin (k0_t1_loop i).trips) : k0_off3 i k = ![2 * k.val, 64 * (1 : Fin 2).val, 0] := by
  have hk := trip_lt k
  unfold k0_off3
  generalize k.val = x at hk ⊢
  clear k
  interval_cases x <;> rfl

/-- Where the trip finds the odd tile of values of the first head. -/
theorem off4 (i : grid0.Coords) (k : Fin (k0_t1_loop i).trips) : k0_off4 i k = ![2 * k.val + 1, 64 * (0 : Fin 2).val, 0] := by
  have hk := trip_lt k
  unfold k0_off4
  generalize k.val = x at hk ⊢
  clear k
  interval_cases x <;> rfl

/-- Where the trip finds the odd tile of values of the second head. -/
theorem off5 (i : grid0.Coords) (k : Fin (k0_t1_loop i).trips) : k0_off5 i k = ![2 * k.val + 1, 64 * (1 : Fin 2).val, 0] := by
  have hk := trip_lt k
  unfold k0_off5
  generalize k.val = x at hk ⊢
  clear k
  interval_cases x <;> rfl

/-- The number of a trip's tile, as a word. -/
theorem word (k n : ℕ) : BitVec.ofNat 32 (2 * k + n) = Scalar.addi (Scalar.muli 2#32 (Scf.iv 0#32 1#32 k)) (BitVec.ofNat 32 n) := by
  show _ = 2#32 * (0#32 + BitVec.ofNat 32 k * 1#32) + BitVec.ofNat 32 n
  rw [BitVec.ofNat_add, BitVec.ofNat_mul]
  simp

/-- The carried greatest scores and weighted sums after two tiles more. -/
def tripF (acc : FVec Ideal S1x512 .f32 × FVec Ideal S80x512 .f32 × FVec Ideal S1x512 .f32 × FVec Ideal S80x512 .f32)
    (s0 s1 t0 t1 : FVec Ideal S256x512 .f32) (va vb vc vd : FVec Ideal S64x256 .bf16) :
    FVec Ideal S1x512 .f32 × FVec Ideal S80x512 .f32 × FVec Ideal S1x512 .f32 × FVec Ideal S80x512 .f32 :=
  (newM (newM acc.1 s0) t0, newA (newM acc.1 s0) (newA acc.1 acc.2.1 s0 va) t0 vc,
   newM (newM acc.2.2.1 s1) t1, newA (newM acc.2.2.1 s1) (newA acc.2.2.1 acc.2.2.2 s1 vb) t1 vd)

/-- The numbers along the columns, which a tile's number is compared with. -/
abbrev cols : IVec S256x128 32 := iota .tc S256x128 32 [1] iota_S256x128_d1_w32

section

variable (𝒱 : Variants) (c : Dev nD) (bd : Option 𝒱.V) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole) (v3 : IVec S1x512 32) (q0 q1 : FVec Ideal S256x512 .bf16) (v211 : BitVec 32) (v248 : FVec Ideal S1x512 .f32) (v249 : FVec Ideal S80x512 .f32) (v250 : FVec Ideal S1x512 .f32) (v251 : FVec Ideal S80x512 .f32) (v252 : BitVec 32) (x1 : Vec Ideal S1x4096x128 .bf16) (x2 : Vec Ideal S16x128x256 .bf16)

/-- The scores a trip takes of the pair's second tile, and of the tile after. -/
abbrev tileScore (w : BitVec 32) (n : BitVec 32) (r : Fin 2) (hr : BitVec.ofNat 32 (1 + r.val) = n) (k : Fin (k0_t1_loop i).trips) (q : FVec Ideal S256x512 .bf16) : FVec Ideal S256x512 .f32 :=
  score w (shapeCast S256x128 (View.readAt (Elt Ideal) arg4.view (Rect.unit (s := S1x4096x128) (k0_off1 i k n) S1x256x128.size (hr ▸ k0_off1_inb i k r)).toLoadRect (harg4.unread x1)) shapeCasts_S1x256x128_S256x128) q

/-- Such scores are the tile's. -/
theorem tileScore_eq (k : Fin (k0_t1_loop i).trips) (r : Fin 2) (n : BitVec 32) (hr) (q : FVec Ideal S256x512 .bf16) :
    tileScore i arg4 harg4 x1 (Scalar.addi (Scalar.muli 2#32 (Scf.iv 0#32 1#32 k.val)) n) n r hr k q = scoreOf x1 q (2 * k.val + (1 + r.val)) := by
  subst hr
  have hk := trip_lt k
  unfold tileScore scoreOf
  rw [word]
  congr 1
  exact load_keys arg4 harg4 x1 _ (by omega) _ _ (off1 i k _ (by omega))

/-- The stores of both heads' scores. -/
abbrev pieces (A B : FVec Ideal S256x512 .f32) : List (View.Piece (Elt Ideal) S2x256x512 .f32) :=
  [⟨Rect.unit (s := S2x256x512) ![1, 0, 0] S1x256x512.size inb_S2x256x512_S1x256x512_1_0_0, shapeCast S1x256x512 B shapeCasts_S256x512_S1x256x512⟩,
   ⟨Rect.unit (s := S2x256x512) ![0, 0, 0] S1x256x512.size inb_S2x256x512_S1x256x512_0_0_0, shapeCast S1x256x512 A shapeCasts_S256x512_S1x256x512⟩]

/-- What a trip carries on. -/
theorem trip_carry (k : Fin (k0_t1_loop i).trips) (acc) (f8 : BufTy.Contents (Elt Ideal) arg8.view.ty) (f9 : BufTy.Contents (Elt Ideal) arg9.view.ty) :
    (trip_k0_t1 (F := Ideal) 𝒱 c bd i arg3 harg3 arg4 harg4 arg5 harg5 arg6 harg6 arg7 harg7 arg8 harg8 arg9 harg9 v3 q0 q1 cols v211 v248 v249 v250 v251 0#32 v252 (harg4.unread x1) (harg5.unread x2) k).1 acc f8 f9
      = tripF acc (plane arg8.view 0 f8) (plane arg8.view 1 f8) (scoreOf x1 q0 (2 * k.val + 1)) (scoreOf x1 q1 (2 * k.val + 1))
          (valsOf x2 0 (2 * k.val)) (valsOf x2 1 (2 * k.val)) (valsOf x2 0 (2 * k.val + 1)) (valsOf x2 1 (2 * k.val + 1)) := by
  have hk := trip_lt k
  have e0 := tileScore_eq i arg4 harg4 x1 k 0 1#32 rfl q0
  have e1 := tileScore_eq i arg4 harg4 x1 k 0 1#32 rfl q1
  have p := plane_writes arg9.view arg9.view.junk [] (tileScore i arg4 harg4 x1 (Scalar.addi (Scalar.muli 2#32 (Scf.iv 0#32 1#32 k.val)) 1#32) 1#32 0 rfl k q0)
    (tileScore i arg4 harg4 x1 (Scalar.addi (Scalar.muli 2#32 (Scf.iv 0#32 1#32 k.val)) 1#32) 1#32 0 rfl k q1) inb_S2x256x512_S1x256x512_0_0_0 inb_S2x256x512_S1x256x512_1_0_0
  have t0 := (read_plane arg9.view 0 _ ![0, 0, 0] inb_S2x256x512_S1x256x512_0_0_0 rfl).trans (p.1.trans e0)
  have t1 := (read_plane arg9.view 1 _ ![1, 0, 0] inb_S2x256x512_S1x256x512_1_0_0 rfl).trans (p.2.trans e1)
  have s0 := read_plane arg8.view 0 f8 ![0, 0, 0] inb_S2x256x512_S1x256x512_0_0_0 rfl
  have s1 := read_plane arg8.view 1 f8 ![1, 0, 0] inb_S2x256x512_S1x256x512_1_0_0 rfl
  have va := load_vals arg5 harg5 x2 0 (2 * k.val) (by omega) _ (k0_off2_inb i k) (off2 i k)
  have vb := load_vals arg5 harg5 x2 1 (2 * k.val) (by omega) _ (k0_off3_inb i k) (off3 i k)
  have vc := load_vals arg5 harg5 x2 0 (2 * k.val + 1) (by omega) _ (k0_off4_inb i k) (off4 i k)
  have vd := load_vals arg5 harg5 x2 1 (2 * k.val + 1) (by omega) _ (k0_off5_inb i k) (off5 i k)
  refine Eq.trans ?_ (show tripF acc _ _ _ _ _ _ _ _ = _ from
    congr (congr (congr (congr (congr (congr (congr (congrArg (tripF acc) s0) s1) t0) t1) va) vb) vc) vd)
  unfold trip_k0_t1
  rfl

/-- What a trip stores in the first scratch: the next pair's first tile. -/
theorem trip_store (k : Fin (k0_t1_loop i).trips) (acc) (f8 : BufTy.Contents (Elt Ideal) arg8.view.ty) (f9 : BufTy.Contents (Elt Ideal) arg9.view.ty) :
    (trip_k0_t1 (F := Ideal) 𝒱 c bd i arg3 harg3 arg4 harg4 arg5 harg5 arg6 harg6 arg7 harg7 arg8 harg8 arg9 harg9 v3 q0 q1 cols v211 v248 v249 v250 v251 0#32 v252 (harg4.unread x1) (harg5.unread x2) k).2.1 acc f8 f9
      = pieces (scoreOf x1 q0 (2 * k.val + 2)) (scoreOf x1 q1 (2 * k.val + 2)) := by
  have e0 := tileScore_eq i arg4 harg4 x1 k 1 2#32 rfl q0
  have e1 := tileScore_eq i arg4 harg4 x1 k 1 2#32 rfl q1
  refine Eq.trans ?_ (congr (congrArg pieces e0) e1)
  unfold trip_k0_t1
  rfl

/-- Before each trip: both heads' running softmax over the tiles so far, and the next tile's scores in the first scratch. -/
theorem state (G8 : BufTy.Contents (Elt Ideal) arg8.view.ty) (G9 : BufTy.Contents (Elt Ideal) arg9.view.ty)
    (h0 : plane arg8.view 0 G8 = scoreOf x1 q0 0) (h1 : plane arg8.view 1 G8 = scoreOf x1 q1 0) (n : ℕ) (hn : n ≤ (k0_t1_loop i).trips) :
    (st_k0_t1 (F := Ideal) 𝒱 c bd i arg3 harg3 arg4 harg4 arg5 harg5 arg6 harg6 arg7 harg7 arg8 harg8 arg9 harg9 v3 q0 q1 cols v211 v248 v249 v250 v251 0#32 v252 (harg4.unread x1) (harg5.unread x2) G8 G9 (k0_pay88, k0_pay89, k0_pay90, k0_pay91) n).1
        = (mAt (scoreOf x1 q0) (2 * n), aAt (scoreOf x1 q0) (valsOf x2 0) (2 * n), mAt (scoreOf x1 q1) (2 * n), aAt (scoreOf x1 q1) (valsOf x2 1) (2 * n))
    ∧ plane arg8.view 0 (arg8.view.writes (Elt Ideal) G8 (st_k0_t1 (F := Ideal) 𝒱 c bd i arg3 harg3 arg4 harg4 arg5 harg5 arg6 harg6 arg7 harg7 arg8 harg8 arg9 harg9 v3 q0 q1 cols v211 v248 v249 v250 v251 0#32 v252 (harg4.unread x1) (harg5.unread x2) G8 G9 (k0_pay88, k0_pay89, k0_pay90, k0_pay91) n).2.1) = scoreOf x1 q0 (2 * n)
    ∧ plane arg8.view 1 (arg8.view.writes (Elt Ideal) G8 (st_k0_t1 (F := Ideal) 𝒱 c bd i arg3 harg3 arg4 harg4 arg5 harg5 arg6 harg6 arg7 harg7 arg8 harg8 arg9 harg9 v3 q0 q1 cols v211 v248 v249 v250 v251 0#32 v252 (harg4.unread x1) (harg5.unread x2) G8 G9 (k0_pay88, k0_pay89, k0_pay90, k0_pay91) n).2.1) = scoreOf x1 q1 (2 * n) := by
  induction n with
  | zero => exact ⟨rfl, h0, h1⟩
  | succ n ih =>
    obtain ⟨ha, hb, hc⟩ := ih (by omega)
    rw [show n + 1 = (⟨n, hn⟩ : Fin (k0_t1_loop i).trips).val + 1 from rfl, st_k0_t1_succ]
    refine ⟨?_, ?_⟩
    · refine (trip_carry ..).trans ?_
      rw [ha, hb, hc]
      rfl
    · dsimp only
      rw [trip_store]
      exact plane_writes arg8.view G8 _ _ _ _ _

end

end Cert.MobaIdeal.Loop

end
-- ==== Proof.Pick.lean ====
/- Choosing blocks: repeated "take the first greatest score and strike it out" picks the same entries, round by round,
   as the head of a stable descending sort. -/
module

public import Idealize.ShloMosaic.PureOps.Ideal.Laws
public import Idealize.ShloMosaic.Lib.Pointwise
public import Idealize.ShloMosaic.Lib.SortFacts

@[expose] public section

noncomputable section

namespace Cert.Pick

open Idealize.ShloMosaic

variable {n : ℕ}

/-- The greatest score, from minus infinity. -/
def top (s : Fin n → EReal) : EReal := Finset.univ.fold max ⊥ s

/-- The row number, as a number, of the first greatest score: the least of the row numbers that hold the greatest score,
    the other rows counting as `big`. -/
def first (big : EReal) (s : Fin n → EReal) : EReal :=
  Finset.univ.fold min ⊤ fun j => if s j = top s then (((j.val : ℕ) : ℝ) : EReal) else big

/-- The scores with the picked one struck out. -/
def strike (big : EReal) (s : Fin n → EReal) (j : Fin n) : EReal :=
  if (((j.val : ℕ) : ℝ) : EReal) = first big s then ⊥ else s j

/-- Every score is at most the top. -/
theorem le_top (s : Fin n → EReal) (j : Fin n) : s j ≤ top s :=
  (Finset.le_fold_max (s j)).mpr (Or.inr ⟨j, Finset.mem_univ _, le_rfl⟩)

/-- A bound of every score bounds the top. -/
theorem top_le {s : Fin n → EReal} {c : EReal} (h : ∀ j, s j ≤ c) : top s ≤ c :=
  (Finset.fold_max_le c).mpr ⟨bot_le, fun j _ => h j⟩

/-- Where a row holds the greatest score and every earlier row less, it is the one picked. -/
theorem first_eq {big : EReal} {s : Fin n → EReal} (x : Fin n) (hb : ∀ j : Fin n, (((j.val : ℕ) : ℝ) : EReal) ≤ big)
    (hx : s x = top s) (hmin : ∀ j, s j = top s → x ≤ j) : first big s = (((x.val : ℕ) : ℝ) : EReal) := by
  apply le_antisymm
  · refine (Finset.fold_min_le _).mpr (Or.inr ⟨x, Finset.mem_univ _, ?_⟩)
    rw [if_pos hx]
  · refine (Finset.le_fold_min _).mpr ⟨le_top', fun j _ => ?_⟩
    split_ifs with h
    · have := hmin j h
      exact_mod_cast this
    · exact hb x
where le_top' {a : EReal} : a ≤ ⊤ := _root_.le_top

/-- Row numbers are equal as numbers when the rows are. -/
theorem num_inj {i j : Fin n} : ((((i.val : ℕ) : ℝ) : EReal) = (((j.val : ℕ) : ℝ) : EReal)) ↔ i = j := by
  constructor
  · intro h; apply Fin.ext; exact_mod_cast h
  · rintro rfl; rfl

/-- Before: a greater score first, of equal scores the earlier row. -/
def Before (g : Fin n → EReal) (a b : Fin n) : Prop := g b < g a ∨ (g a = g b ∧ a < b)

/-- The order of picking is transitive. -/
theorem Before.trans {g : Fin n → EReal} {a b c : Fin n} (h : Before g a b) (h' : Before g b c) : Before g a c := by
  unfold Before at *
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- The stable insertion of a row earlier than all of a sorted list keeps it sorted. -/
theorem pairwise_insert (g : Fin n → EReal) (R : Fin n → Fin n → Bool) (hR : ∀ a b, R a b = true ↔ g b < g a) (a : Fin n)
    (l : List (Fin n)) (hl : l.Pairwise (Before g)) (ha : ∀ b ∈ l, a < b) : (insertBefore R a l).Pairwise (Before g) := by
  induction l with
  | nil => simp [insertBefore]
  | cons b l ih =>
    unfold insertBefore
    have hb := List.pairwise_cons.mp hl
    split_ifs with h
    · refine List.pairwise_cons.mpr ⟨fun c hc => ?_, ih hb.2 fun c hc => ha c (List.mem_cons_of_mem _ hc)⟩
      rcases List.mem_cons.mp ((perm_insertBefore R a l).mem_iff.mp hc) with rfl | hc
      · exact Or.inl ((hR _ _).mp h)
      · exact hb.1 c hc
    · have hab : Before g a b := by
        have h1 : ¬ g a < g b := fun h' => h ((hR _ _).mpr h')
        rcases lt_or_eq_of_le (not_lt.mp h1) with h2 | h2
        · exact Or.inl h2
        · exact Or.inr ⟨h2.symm, ha b (List.mem_cons_self)⟩
      refine List.pairwise_cons.mpr ⟨fun c hc => ?_, hl⟩
      rcases List.mem_cons.mp hc with rfl | hc
      · exact hab
      · exact hab.trans (hb.1 c hc)

/-- The stable descending sort of rows in ascending order is sorted. -/
theorem pairwise_sort (g : Fin n → EReal) (R : Fin n → Fin n → Bool) (hR : ∀ a b, R a b = true ↔ g b < g a)
    (l : List (Fin n)) (hl : l.Pairwise (· < ·)) : (stableSort R l).Pairwise (Before g) := by
  induction l with
  | nil => exact List.Pairwise.nil
  | cons a l ih =>
    have h := List.pairwise_cons.mp hl
    exact pairwise_insert g R hR a _ (ih h.2) fun b hb => h.1 b ((perm_stableSort R l).mem_iff.mp hb)

/-- Of two places of the sort, the earlier holds the row that goes before. -/
theorem sorted_before (g : Fin n → EReal) (R : Fin n → Fin n → Bool) (hR : ∀ a b, R a b = true ↔ g b < g a)
    (i j : Fin n) (hij : i < j) : Before g (sortedFrom R i) (sortedFrom R j) := by
  have h := pairwise_sort g R hR _ (List.pairwise_lt_finRange n)
  exact List.pairwise_iff_get.mp h _ _ (by exact hij)

/-- The scores after `r` rounds: the first `r` of the sort struck out. -/
def left (g : Fin n → EReal) (σ : Fin n → Fin n) (r : ℕ) (j : Fin n) : EReal :=
  if ∃ i : Fin n, i.val < r ∧ σ i = j then ⊥ else g j

variable {g : Fin n → EReal} {σ : Fin n → Fin n}

/-- Before the first pick all scores are left. -/
theorem left_zero : left g σ 0 = g := by
  funext j; unfold left; rw [if_neg]; rintro ⟨i, h, _⟩; exact absurd h (Nat.not_lt_zero _)

/-- In round `r` something above minus infinity is left exactly when the `r`-th of the sort is above it. -/
theorem top_pos (hσ : ∀ i j, i < j → Before g (σ i) (σ j)) (hs : Function.Surjective σ) (r : Fin n) :
    ⊥ < top (left g σ r.val) ↔ ⊥ < g (σ r) := by
  have hinj : Function.Injective σ := Finite.injective_iff_surjective.mpr hs
  have hr : left g σ r.val (σ r) = g (σ r) := by
    unfold left; rw [if_neg]; rintro ⟨i, h, e⟩; exact absurd (congrArg Fin.val (hinj e)) (Nat.ne_of_lt h)
  constructor
  · intro h
    by_contra hn
    have hz : g (σ r) = ⊥ := le_bot_iff.mp (not_lt.mp hn)
    refine absurd h (not_lt.mpr (top_le fun j => ?_))
    obtain ⟨i, rfl⟩ := hs j
    unfold left
    split_ifs with hc
    · exact le_rfl
    · have hi : r ≤ i := by
        by_contra hlt
        exact hc ⟨i, by simpa using hlt, rfl⟩
      rcases lt_or_eq_of_le hi with hi | rfl
      · rcases hσ r i hi with h1 | ⟨h1, _⟩
        · rw [hz] at h1; exact absurd h1 not_lt_bot
        · rw [← h1, hz]
      · rw [hz]
  · intro h
    exact lt_of_lt_of_le (hr ▸ h) (le_top _ _)

/-- While something is left, round `r` picks the `r`-th of the sort. -/
theorem pick_eq {big : EReal} (hb : ∀ j : Fin n, (((j.val : ℕ) : ℝ) : EReal) ≤ big)
    (hσ : ∀ i j, i < j → Before g (σ i) (σ j)) (hs : Function.Surjective σ) (r : Fin n)
    (h : ⊥ < g (σ r)) : first big (left g σ r.val) = ((((σ r).val : ℕ) : ℝ) : EReal) := by
  have hinj : Function.Injective σ := Finite.injective_iff_surjective.mpr hs
  have hr : left g σ r.val (σ r) = g (σ r) := by
    unfold left; rw [if_neg]; rintro ⟨i, h, e⟩; exact absurd (congrArg Fin.val (hinj e)) (Nat.ne_of_lt h)
  have key : ∀ j, left g σ r.val j ≤ g (σ r) ∧ (left g σ r.val j = g (σ r) → σ r ≤ j) := by
    intro j
    obtain ⟨i, rfl⟩ := hs j
    unfold left
    split_ifs with hc
    · exact ⟨bot_le, fun e => absurd (e ▸ h) (lt_irrefl _)⟩
    · have hi : r ≤ i := by
        by_contra hlt
        exact hc ⟨i, by simpa using hlt, rfl⟩
      rcases lt_or_eq_of_le hi with hi | rfl
      · rcases hσ r i hi with h1 | ⟨h1, h2⟩
        · exact ⟨h1.le, fun e => absurd (e ▸ h1) (lt_irrefl _)⟩
        · exact ⟨h1.ge, fun _ => h2.le⟩
      · exact ⟨le_rfl, fun _ => le_rfl⟩
  have ht : top (left g σ r.val) = g (σ r) := le_antisymm (top_le fun j => (key j).1) (hr ▸ le_top _ _)
  exact first_eq (σ r) hb (hr.trans ht.symm) fun j e => (key j).2 (e.trans ht)

/-- Striking out the pick of round `r` leaves the scores of round `r + 1`. -/
theorem strike_left {big : EReal} (hb : ∀ j : Fin n, (((j.val : ℕ) : ℝ) : EReal) ≤ big)
    (hσ : ∀ i j, i < j → Before g (σ i) (σ j)) (hs : Function.Surjective σ) (r : Fin n) :
    strike big (left g σ r.val) = left g σ (r.val + 1) := by
  funext j
  by_cases h : ⊥ < g (σ r)
  · unfold strike
    simp only [pick_eq hb hσ hs r h, num_inj]
    unfold left
    by_cases hj : j = σ r
    · rw [if_pos hj, if_pos ⟨r, Nat.lt_succ_self _, hj.symm⟩]
    · rw [if_neg hj]
      refine if_congr ⟨fun ⟨i, a, b⟩ => ⟨i, by omega, b⟩, fun ⟨i, a, b⟩ => ⟨i, ?_, b⟩⟩ rfl rfl
      rcases Nat.lt_succ_iff_lt_or_eq.mp a with a | a
      · exact a
      · exact absurd (by rw [← b, show i = r from Fin.ext a]) hj
  · have hz : ∀ j, left g σ r.val j = ⊥ := fun j =>
      le_bot_iff.mp ((le_top _ _).trans (not_lt.mp fun h' => h ((top_pos hσ hs r).mp h')))
    have hz' : left g σ (r.val + 1) j = ⊥ := by
      have := hz j
      unfold left at this ⊢
      split_ifs with h1
      · rfl
      · rw [if_neg] at this
        · exact this
        · rintro ⟨i, a, b⟩; exact h1 ⟨i, by omega, b⟩
    rw [hz']
    unfold strike
    split_ifs
    · rfl
    · exact hz j

/-- Picked in one of three rounds of striking out, a pick of minus infinity not counting. -/
def picked (big : EReal) (g : Fin n → EReal) (j : Fin n) : Prop :=
  ((((j.val : ℕ) : ℝ) : EReal) = first big g ∧ ⊥ < top g)
  ∨ ((((j.val : ℕ) : ℝ) : EReal) = first big (strike big g) ∧ ⊥ < top (strike big g))
  ∨ ((((j.val : ℕ) : ℝ) : EReal) = first big (strike big (strike big g)) ∧ ⊥ < top (strike big (strike big g)))

/-- Three rounds pick exactly what the first three places of the stable descending sort hold above minus infinity. -/
theorem picked_iff {big : EReal} (hb : ∀ j : Fin n, (((j.val : ℕ) : ℝ) : EReal) ≤ big) (h3 : 3 ≤ n)
    (hσ : ∀ i j, i < j → Before g (σ i) (σ j)) (hs : Function.Surjective σ) (j : Fin n) :
    picked big g j ↔ ∃ r : Fin 3, σ ⟨r.val, by omega⟩ = j ∧ ⊥ < g (σ ⟨r.val, by omega⟩) := by
  have e1 : strike big g = left g σ 1 := by
    have := strike_left (big := big) hb hσ hs ⟨0, by omega⟩
    rwa [left_zero] at this
  have e2 : strike big (strike big g) = left g σ 2 := by
    rw [e1]; exact strike_left (big := big) hb hσ hs ⟨1, by omega⟩
  have step : ∀ r : Fin n, ((((j.val : ℕ) : ℝ) : EReal) = first big (left g σ r.val) ∧ ⊥ < top (left g σ r.val))
      ↔ (σ r = j ∧ ⊥ < g (σ r)) := by
    intro r
    rw [top_pos hσ hs r]
    constructor
    · rintro ⟨a, b⟩
      rw [pick_eq hb hσ hs r b] at a
      exact ⟨(num_inj.mp a).symm, b⟩
    · rintro ⟨a, b⟩
      rw [pick_eq hb hσ hs r b]
      exact ⟨num_inj.mpr a.symm, b⟩
  unfold picked
  rw [e2, e1]
  have s0 := step ⟨0, by omega⟩
  have s1 := step ⟨1, by omega⟩
  have s2 := step ⟨2, by omega⟩
  simp only [left_zero] at s0
  rw [s0, s1, s2]
  constructor
  · rintro (h | h | h)
    · exact ⟨0, h⟩
    · exact ⟨1, h⟩
    · exact ⟨2, h⟩
  · rintro ⟨r, h⟩
    fin_cases r
    · exact Or.inl h
    · exact Or.inr (Or.inl h)
    · exact Or.inr (Or.inr h)

end Cert.Pick

end
-- ==== Proof.MobaGate.lean ====
/- The choice of blocks as the kernel computes it, and the widened queries: the queries on top, below them the chosen
   blocks' zeros and the other blocks' minus infinity. -/
module

public import proofs.«01_k».proof.Proof.Pick
public import proofs.«01_k».proof.Proof.MobaTile

@[expose] public section

set_option maxRecDepth 16384

noncomputable section

namespace Cert.MobaIdeal.Gate

open Cert.MobaIdeal Cert.MobaIdeal.Gen Cert.MobaIdeal.Tile Idealize.ShloMosaic Idealize.ShloMosaic.TcCoe Idealize.SL.Sem

/-- The row numbers as numbers. -/
def rowid : FVec Ideal S16x512 .f32 := sitofp .f32 (iota .tc S16x512 32 [0] iota_S16x512_d0_w32)

/-- The greatest score of each column. -/
def topA (G : FVec Ideal S16x512 .f32) : FVec Ideal S1x512 .f32 :=
  shapeCast S1x512 (multiReduction .maximumf [0] S512 G 0xFF800000#32 reduces_S16x512_S512 (.inl rfl) rfl) shapeCasts_S512_S1x512

/-- The number of the first row with the greatest score. -/
def firstA (G : FVec Ideal S16x512 .f32) : FVec Ideal S1x512 .f32 :=
  shapeCast S1x512 (multiReduction .minimumf [0] S512 (select (cmpf .oeq G (broadcastTo S16x512 (topA G) broadcasts_S1x512_S16x512)) rowid
    (broadcast S16x512 (Scalar.ofBits (F := Ideal) .f32 0x4E6E6B28#32))) 0x7F800000#32 reduces_S16x512_S512 (.inl rfl) rfl) shapeCasts_S512_S1x512

/-- Whether a row is the picked one. -/
def hitA (G : FVec Ideal S16x512 .f32) : IVec S16x512 1 :=
  cmpf .oeq rowid (broadcastTo S16x512 (firstA G) broadcasts_S1x512_S16x512)

/-- The scores with the picked row struck out. -/
def strikeA (G : FVec Ideal S16x512 .f32) : FVec Ideal S16x512 .f32 :=
  select (hitA G) (broadcast S16x512 (Scalar.ofBits (F := Ideal) .f32 0xFF800000#32)) G

/-- Whether a row is the picked one and its score above minus infinity. -/
def markA (G : FVec Ideal S16x512 .f32) : IVec S16x512 1 :=
  andi (hitA G) (broadcastTo S16x512 (cmpf .ogt (topA G) (broadcast S1x512 (Scalar.ofBits (F := Ideal) .f32 0xFF800000#32))) broadcasts_S1x512_S16x512)

/-- A mark more on the list of chosen rows. -/
def addA (G sel : FVec Ideal S16x512 .f32) : FVec Ideal S16x512 .f32 :=
  select (markA G) (broadcast S16x512 (Scalar.ofBits (F := Ideal) .f32 0x3F800000#32)) sel

/-- The rows chosen in three rounds. -/
def selA (G : FVec Ideal S16x512 .f32) : FVec Ideal S16x512 .f32 :=
  addA (strikeA (strikeA G)) (addA (strikeA G) (addA G (broadcast S16x512 (Scalar.ofBits (F := Ideal) .f32 0x00000000#32))))

/-- The widened queries. -/
def augA (qp : FVec Ideal S128x512 .bf16) (own : IVec S16x512 1) (G : FVec Ideal S16x512 .f32) : FVec Ideal S256x512 .bf16 :=
  concatenate S256x512 0 [⟨S128x512, qp⟩, ⟨S16x512, truncf .bf16 (select (ori own (cmpf .ogt (selA G) (broadcast S16x512 (Scalar.ofBits (F := Ideal) .f32 0x3F000000#32))))
      (broadcast S16x512 (Scalar.ofBits (F := Ideal) .f32 0x00000000#32)) (broadcast S16x512 (Named.named (F := Ideal) κ "mask" (φ := .f32) 0xF149F2CA#32))) bitsLt_bf16_f32⟩,
    ⟨S112x512, broadcast S112x512 (Scalar.ofBits (F := Ideal) .bf16 0x0000#16)⟩] concatenates_S128x512_S16x512_S112x512_S256x512_d0

/-- The number above all row numbers. -/
def big : EReal := Ideal.ofBits .f32 0x4E6E6B28#32

/-- A row number is below the bound the first-place search starts from. -/
theorem num_le_big (j : Fin 16) : (((j.val : ℕ) : ℝ) : EReal) ≤ big := by
  have h : big = ((1000000000 : ℝ) : EReal) := by
    unfold big; simp [Ideal.ofBits, Ideal.ieee, -EReal.coe_mul]; norm_num
  rw [h]
  have := j.isLt
  have h2 : (j.val : ℝ) ≤ 16 := by exact_mod_cast this.le
  exact EReal.coe_le_coe_iff.mpr (by linarith)

/-- The row numbers as numbers. -/
theorem rowid_at (j : Fin 16) (c : Fin 512) : rowid (ix2 j c) = (((j.val : ℕ) : ℝ) : EReal) := by
  pointwise [rowid]
  show Scalar.sitofp (F := Ideal) .f32 (BitVec.ofNat 32 j.val) = _
  have h : (BitVec.ofNat 32 j.val).toInt = (j.val : ℤ) := by
    revert j; decide
  show (((BitVec.ofNat 32 j.val).toInt : ℝ) : EReal) = _
  rw [h, Int.cast_natCast]

/-- The largest gate of a column. -/
theorem topA_at (G : FVec Ideal S16x512 .f32) (c : Fin 512) : topA G (ix2 0 c) = Pick.top fun j : Fin 16 => G (ix2 j c) := by
  pointwise [topA]
  rw [ninf]
  rfl

/-- The first row of a column that holds the largest gate. -/
theorem firstA_at (G : FVec Ideal S16x512 .f32) (c : Fin 512) : firstA G (ix2 0 c) = Pick.first big fun j : Fin 16 => G (ix2 j c) := by
  pointwise [firstA]
  rw [pinf]
  unfold Pick.first
  congr 1
  funext j
  rw [topA_at, rowid_at]
  rfl

/-- The picked row of a column. -/
theorem hitA_at (G : FVec Ideal S16x512 .f32) (j : Fin 16) (c : Fin 512) :
    hitA G (ix2 j c) = BitVec.ofBool (decide ((((j.val : ℕ) : ℝ) : EReal) = Pick.first big fun j : Fin 16 => G (ix2 j c))) := by
  pointwise [hitA]
  rw [firstA_at, rowid_at]

/-- The gates with the picked row struck out. -/
theorem strikeA_at (G : FVec Ideal S16x512 .f32) (j : Fin 16) (c : Fin 512) :
    strikeA G (ix2 j c) = Pick.strike big (fun j : Fin 16 => G (ix2 j c)) j := by
  pointwise [strikeA]
  rw [hitA_at, WordCmp.select_ofBool, ninf]
  unfold Pick.strike
  simp only [decide_eq_true_eq]

/-- The marks with the picked row added, where the largest gate is above minus infinity. -/
theorem markA_at (G : FVec Ideal S16x512 .f32) (j : Fin 16) (c : Fin 512) :
    markA G (ix2 j c) = BitVec.ofBool (decide ((((j.val : ℕ) : ℝ) : EReal) = Pick.first big (fun j : Fin 16 => G (ix2 j c)) ∧ ⊥ < Pick.top fun j : Fin 16 => G (ix2 j c))) := by
  pointwise [markA]
  rw [hitA_at, ninf, topA_at, WordCmp.andi_ofBool, Bool.decide_and]

/-- The chosen rows hold a one. -/
theorem selA_at (G : FVec Ideal S16x512 .f32) (j : Fin 16) (c : Fin 512) :
    (Pick.picked big (fun j : Fin 16 => G (ix2 j c)) j → selA G (ix2 j c) = 1)
    ∧ (¬ Pick.picked big (fun j : Fin 16 => G (ix2 j c)) j → selA G (ix2 j c) = 0) := by
  unfold selA
  pointwise [addA]
  simp only [markA_at, strikeA_at, WordCmp.select_decide]
  unfold Pick.picked
  constructor
  · rintro (h | h | h)
    · split_ifs <;> first | rfl | exact absurd h (by assumption)
    · split_ifs <;> first | rfl | exact absurd h (by assumption)
    · split_ifs <;> first | rfl | exact absurd h (by assumption)
  · intro h
    rw [not_or, not_or] at h
    rw [if_neg h.2.2, if_neg h.2.1, if_neg h.1]

/-- A half lies between a mark of zero and a mark of one. -/
theorem half_pos : ¬ Ideal.ofBits .f32 0x3F000000#32 < 0 ∧ Ideal.ofBits .f32 0x3F000000#32 < 1 := by
  have h : Ideal.ofBits .f32 0x3F000000#32 = ((1 / 2 : ℝ) : EReal) := by
    simp [Ideal.ofBits, Ideal.ieee, -EReal.coe_mul]; norm_num
  rw [h]
  constructor
  · rw [not_lt]; exact_mod_cast (by norm_num : (0 : ℝ) ≤ 1 / 2)
  · exact_mod_cast (by norm_num : (1 / 2 : ℝ) < 1)

/-- A query of the widened ones. -/
theorem augA_query (qp : FVec Ideal S128x512 .bf16) (own : IVec S16x512 1) (G : FVec Ideal S16x512 .f32) (d : Fin 128) (c : Fin 512) :
    augA qp own G (ix2 ⟨d.val, by omega⟩ c) = qp (ix2 d c) := by
  unfold augA
  generalize selA G = s
  pointwise []

open Classical in
/-- The entry of block `j` of the widened queries. -/
theorem augA_block (qp : FVec Ideal S128x512 .bf16) (own : IVec S16x512 1) (G : FVec Ideal S16x512 .f32) (j : Fin 16) (c : Fin 512)
    {P : Prop} [Decidable P] (ho : own (ix2 j c) = BitVec.ofBool (decide P)) :
    augA qp own G (ix2 ⟨128 + j.val, by omega⟩ c) = if P ∨ Pick.picked big (fun j : Fin 16 => G (ix2 j c)) j then 0 else ⊥ := by
  have hs := selA_at G j c
  unfold augA
  generalize selA G = s at hs
  pointwise []
  rw [ho, mask_eq, WordCmp.ori_ofBool, WordCmp.select_ofBool]
  by_cases hp : Pick.picked big (fun j : Fin 16 => G (ix2 j c)) j
  · rw [hs.1 hp, decide_eq_true half_pos.2]
    simp [hp]
  · rw [hs.2 hp, decide_eq_false half_pos.1]
    simp [hp]

end Cert.MobaIdeal.Gate

end
-- ==== Proof.MobaOut.lean ====
/- What the attention kernel stores for a block: each head's weighted sums over all tiles, divided by the sum of the weights. -/
module

public import proofs.«01_k».proof.Proof.MobaLoop
public import proofs.«01_k».proof.Proof.MobaGate

@[expose] public section

set_option maxRecDepth 16384

noncomputable section

namespace Cert.MobaIdeal.Out

open Cert.MobaIdeal Cert.MobaIdeal.Gen Cert.MobaIdeal.Tile Cert.MobaIdeal.Gate Cert.MobaIdeal.Loop Idealize.ShloMosaic Idealize.ShloMosaic.TcCoe Idealize.SL.Sem

/-- The numbers along the rows: the key blocks. -/
abbrev rows : IVec S16x512 32 := iota .tc S16x512 32 [0] iota_S16x512_d0_w32

/-- The gate's scores of the blocks, minus infinity at blocks that do not lie before the query's own. -/
def gateA (i : grid0.Coords) (km : Vec Ideal S1x16x128 .f32) (qp : FVec Ideal S128x512 .bf16) : FVec Ideal S16x512 .f32 :=
  k0_pay58 (k0_pay50 i) rows (k0_pay54 km) (k0_pay55 km) qp (matmul dot_S16x128_S128x512_S16x512_1_0_0_1_n_n none (k0_pay52 km) qp (constant S16x512 .f32 0x00000000#32))

/-- The widened queries, of queries padded with zeros. -/
def wide (i : grid0.Coords) (km : Vec Ideal S1x16x128 .f32) (qp : FVec Ideal S128x512 .bf16) : FVec Ideal S256x512 .bf16 :=
  augA qp (k0_pay59 (k0_pay50 i) rows) (gateA i km qp)

/-- The number of the first tile after the loop, as the kernel computes it. -/
def tileWord (i : grid0.Coords) : BitVec 32 :=
  let arg2 : BitVec 32 := BitVec.ofNat 32 (i 2).val
  let v0 : BitVec 32 := Scalar.muli arg2 512#32
  let v200 : BitVec 32 := Scalar.subi (Scalar.extui (Scalar.cmpi .sgt v0 0#32)) (Scalar.extui (Scalar.cmpi .slt v0 0#32))
  let v206 : BitVec 1 := Scalar.cmpi .ne v200 1#32
  let v208 : BitVec 1 := Scalar.cmpi .ne (Scalar.remsi v0 256#32) 0#32
  let v209 : BitVec 1 := Scalar.andi v206 v208
  let v195 : BitVec 32 := Scalar.divsi v0 256#32
  Scalar.select v209 (Scalar.subi v195 1#32) v195

/-- The first of the two diagonal key tiles. -/
theorem tileWord_eq (i : grid0.Coords) : tileWord i = BitVec.ofNat 32 (2 * (i 2).val) := by
  unfold tileWord
  generalize (i 2) = x
  revert x
  change ∀ x : Fin 8, _
  decide +kernel

/-- The second of the two diagonal key tiles. -/
theorem tileWord_succ (i : grid0.Coords) : Scalar.addi (tileWord i) 1#32 = BitVec.ofNat 32 (2 * (i 2).val + 1) := by
  rw [tileWord_eq, BitVec.ofNat_add]
  rfl

/-- Where the second diagonal key tile lies. -/
theorem off11 (i : grid0.Coords) : k0_off11 i = ![0, 256 * (2 * (i 2).val + 1), 0] := by
  unfold k0_off11
  generalize (i 2) = x
  revert x
  change ∀ x : Fin 8, _
  decide +kernel

/-- The first diagonal tile of values, first head. -/
theorem off12 (i : grid0.Coords) : k0_off12 i = ![2 * (i 2).val, 64 * (0 : Fin 2).val, 0] := by
  unfold k0_off12
  generalize (i 2) = x
  revert x
  change ∀ x : Fin 8, _
  decide +kernel

/-- The first diagonal tile of values, second head. -/
theorem off13 (i : grid0.Coords) : k0_off13 i = ![2 * (i 2).val, 64 * (1 : Fin 2).val, 0] := by
  unfold k0_off13
  generalize (i 2) = x
  revert x
  change ∀ x : Fin 8, _
  decide +kernel

/-- The second diagonal tile of values, first head. -/
theorem off14 (i : grid0.Coords) : k0_off14 i = ![2 * (i 2).val + 1, 64 * (0 : Fin 2).val, 0] := by
  unfold k0_off14
  generalize (i 2) = x
  revert x
  change ∀ x : Fin 8, _
  decide +kernel

/-- The second diagonal tile of values, second head. -/
theorem off15 (i : grid0.Coords) : k0_off15 i = ![2 * (i 2).val + 1, 64 * (1 : Fin 2).val, 0] := by
  unfold k0_off15
  generalize (i 2) = x
  revert x
  change ∀ x : Fin 8, _
  decide +kernel

/-- A head's queries, of the block of two heads' queries. -/
def headOf (x0 : Vec Ideal S128x512 .bf16) (h : Fin 2) : Vec Ideal S64x512 .bf16 := fun y =>
  x0 (ix2 ⟨64 * h.val + (y 0).val, by have h0 : (y 0).val < 64 := (y 0).isLt; have h1 := h.isLt; omega⟩ (y 1))

/-- The causal mask's term, at the first row of a tile. -/
abbrev biasA (i : grid0.Coords) (w : BitVec 32) : FVec Ideal S256x512 .f32 := k0_pay104 (F := Ideal) (k0_pay49 i) w

/-- The weighted sums after the two tiles under the causal mask. -/
def lastF (i : grid0.Coords) (m : FVec Ideal S1x512 .f32) (a : FVec Ideal S80x512 .f32) (s t : FVec Ideal S256x512 .f32) (va vb : FVec Ideal S64x256 .bf16) : FVec Ideal S80x512 .f32 :=
  newA (newM m (addf s (biasA i (Scalar.muli (tileWord i) 256#32)))) (newA m a (addf s (biasA i (Scalar.muli (tileWord i) 256#32))) va)
    (addf t (biasA i (Scalar.muli (Scalar.addi (tileWord i) 1#32) 256#32))) vb

/-- What is left after the diagonal depends on its parts only. -/
theorem lastF_congr (i : grid0.Coords) {m m' : FVec Ideal S1x512 .f32} {a a' : FVec Ideal S80x512 .f32} {s s' t t' : FVec Ideal S256x512 .f32} {va va' vb vb' : FVec Ideal S64x256 .bf16}
    (hm : m = m') (ha : a = a') (hs : s = s') (ht : t = t') (hva : va = va') (hvb : vb = vb') : lastF i m a s t va vb = lastF i m' a' s' t' va' vb' := by
  rw [hm, ha, hs, ht, hva, hvb]

/-- The two heads' stores. -/
abbrev outs (A B : FVec Ideal S80x512 .f32) : List (View.Piece (Elt Ideal) S128x512 .bf16) :=
  [⟨Rect.unit (s := S128x512) ![64, 0] S64x512.size inb_S128x512_S64x512_64_0, k0_pay1 (F := Ideal) B⟩,
   ⟨Rect.unit (s := S128x512) ![0, 0] S64x512.size inb_S128x512_S64x512_0_0, k0_pay1 (F := Ideal) A⟩]

section

variable (c : Dev nD) (i : grid0.Coords) (arg3 : Memref sig .tc .vmem S128x512 .bf16) (harg3 : arg3.IsWhole) (arg4 : Memref sig .tc .vmem S1x4096x128 .bf16) (harg4 : arg4.IsWhole) (arg5 : Memref sig .tc .vmem S16x128x256 .bf16) (harg5 : arg5.IsWhole) (arg6 : Memref sig .tc .vmem S1x16x128 .f32) (harg6 : arg6.IsWhole) (arg7 : Memref sig .tc .vmem S128x512 .bf16) (harg7 : arg7.IsWhole) (arg8 : Memref sig .tc .vmem S2x256x512 .f32) (harg8 : arg8.IsWhole) (arg9 : Memref sig .tc .vmem S2x256x512 .f32) (harg9 : arg9.IsWhole)
  (x0 : Vec Ideal S128x512 .bf16) (x1 : Vec Ideal S1x4096x128 .bf16) (x2 : Vec Ideal S16x128x256 .bf16) (x3 : Vec Ideal S1x16x128 .f32)

/-- The first tile's scores, as the kernel reads its keys. -/
abbrev score0 (q : FVec Ideal S256x512 .bf16) : FVec Ideal S256x512 .f32 :=
  score 0#32 (shapeCast S256x128 (View.readAt (Elt Ideal) arg4.view (Rect.unit (s := S1x4096x128) ![0, 0, 0] S1x256x128.size inb_S1x4096x128_S1x256x128_0_0_0).toLoadRect (harg4.unread x1)) shapeCasts_S1x256x128_S256x128) q

/-- The last tile's scores, as the kernel reads its keys. -/
abbrev score1 (q : FVec Ideal S256x512 .bf16) : FVec Ideal S256x512 .f32 :=
  score (Scalar.addi (tileWord i) 1#32) (shapeCast S256x128 (View.readAt (Elt Ideal) arg4.view (Rect.unit (s := S1x4096x128) (k0_off11 i) S1x256x128.size (k0_off11_inb i)).toLoadRect (harg4.unread x1)) shapeCasts_S1x256x128_S256x128) q

/-- What the loop leaves. -/
abbrev stL (w : BitVec 32) (q0 q1 : FVec Ideal S256x512 .bf16) :=
  st_k0_t1 (F := Ideal) Variants.none c none i arg3 harg3 arg4 harg4 arg5 harg5 arg6 harg6 arg7 harg7 arg8 harg8 arg9 harg9 (k0_pay49 i) q0 q1 cols (tileWord i) k0_pay88 k0_pay89 k0_pay90 k0_pay91 0#32 w (harg4.unread x1) (harg5.unread x2)
    (arg8.view.writes (Elt Ideal) arg8.view.junk (pieces (score0 arg4 harg4 x1 q0) (score0 arg4 harg4 x1 q1))) arg9.view.junk (k0_pay88, k0_pay89, k0_pay90, k0_pay91) (k0_t1_loop i).trips

/-- The stores, as the kernel computes them from the widened queries and what the loop leaves. -/
abbrev lit (st : (FVec Ideal S1x512 .f32 × FVec Ideal S80x512 .f32 × FVec Ideal S1x512 .f32 × FVec Ideal S80x512 .f32) × List (View.Piece (Elt Ideal) S2x256x512 .f32) × List (View.Piece (Elt Ideal) S2x256x512 .f32)) (q0 q1 : FVec Ideal S256x512 .bf16) : List (View.Piece (Elt Ideal) S128x512 .bf16) :=
  outs
    (lastF i st.1.1 st.1.2.1
      (shapeCast S256x512 (View.readCov arg8.view (st.2.1 ++ pieces (score0 arg4 harg4 x1 q0) (score0 arg4 harg4 x1 q1)) (Rect.unit (s := S2x256x512) ![0, 0, 0] S1x256x512.size inb_S2x256x512_S1x256x512_0_0_0).toLoadRect) shapeCasts_S1x256x512_S256x512)
      (shapeCast S256x512 (View.readCov arg9.view (pieces (score1 i arg4 harg4 x1 q0) (score1 i arg4 harg4 x1 q1)) (Rect.unit (s := S2x256x512) ![0, 0, 0] S1x256x512.size inb_S2x256x512_S1x256x512_0_0_0).toLoadRect) shapeCasts_S1x256x512_S256x512)
      (shapeCast S64x256 (View.readAt (Elt Ideal) arg5.view (Rect.unit (s := S16x128x256) (k0_off12 i) S1x64x256.size (k0_off12_inb i)).toLoadRect (harg5.unread x2)) shapeCasts_S1x64x256_S64x256)
      (shapeCast S64x256 (View.readAt (Elt Ideal) arg5.view (Rect.unit (s := S16x128x256) (k0_off14 i) S1x64x256.size (k0_off14_inb i)).toLoadRect (harg5.unread x2)) shapeCasts_S1x64x256_S64x256))
    (lastF i st.1.2.2.1 st.1.2.2.2
      (shapeCast S256x512 (View.readCov arg8.view (st.2.1 ++ pieces (score0 arg4 harg4 x1 q0) (score0 arg4 harg4 x1 q1)) (Rect.unit (s := S2x256x512) ![1, 0, 0] S1x256x512.size inb_S2x256x512_S1x256x512_1_0_0).toLoadRect) shapeCasts_S1x256x512_S256x512)
      (shapeCast S256x512 (View.readCov arg9.view (pieces (score1 i arg4 harg4 x1 q0) (score1 i arg4 harg4 x1 q1)) (Rect.unit (s := S2x256x512) ![1, 0, 0] S1x256x512.size inb_S2x256x512_S1x256x512_1_0_0).toLoadRect) shapeCasts_S1x256x512_S256x512)
      (shapeCast S64x256 (View.readAt (Elt Ideal) arg5.view (Rect.unit (s := S16x128x256) (k0_off13 i) S1x64x256.size (k0_off13_inb i)).toLoadRect (harg5.unread x2)) shapeCasts_S1x64x256_S64x256)
      (shapeCast S64x256 (View.readAt (Elt Ideal) arg5.view (Rect.unit (s := S16x128x256) (k0_off15 i) S1x64x256.size (k0_off15_inb i)).toLoadRect (harg5.unread x2)) shapeCasts_S1x64x256_S64x256))

/-- A head's weighted sums over all its tiles. -/
def sums (h : Fin 2) (q : FVec Ideal S256x512 .bf16) : FVec Ideal S80x512 .f32 :=
  lastF i (mAt (scoreOf x1 q) (2 * (i 2).val)) (aAt (scoreOf x1 q) (valsOf x2 h) (2 * (i 2).val))
    (scoreOf x1 q (2 * (i 2).val)) (scoreOf x1 q (2 * (i 2).val + 1)) (valsOf x2 h (2 * (i 2).val)) (valsOf x2 h (2 * (i 2).val + 1))

/-- The stores are the tiles' weighted sums, if the loop leaves the running softmax and the next tile's scores. -/
theorem lit_eq (st) (q0 q1 : FVec Ideal S256x512 .bf16)
    (ha : st.1 = (mAt (scoreOf x1 q0) (2 * (i 2).val), aAt (scoreOf x1 q0) (valsOf x2 0) (2 * (i 2).val), mAt (scoreOf x1 q1) (2 * (i 2).val), aAt (scoreOf x1 q1) (valsOf x2 1) (2 * (i 2).val)))
    (hb : plane arg8.view 0 (arg8.view.writes (Elt Ideal) arg8.view.junk (st.2.1 ++ pieces (score0 arg4 harg4 x1 q0) (score0 arg4 harg4 x1 q1))) = scoreOf x1 q0 (2 * (i 2).val))
    (hc : plane arg8.view 1 (arg8.view.writes (Elt Ideal) arg8.view.junk (st.2.1 ++ pieces (score0 arg4 harg4 x1 q0) (score0 arg4 harg4 x1 q1))) = scoreOf x1 q1 (2 * (i 2).val)) :
    lit i arg4 harg4 arg5 harg5 arg8 arg9 x1 x2 st q0 q1 = outs (sums i x1 x2 0 q0) (sums i x1 x2 1 q1) := by
  have hi : (i 2).val < 8 := (i 2).isLt
  have e1 : ∀ q, score1 i arg4 harg4 x1 q = scoreOf x1 q (2 * (i 2).val + 1) := fun q => by
    unfold score1 scoreOf
    rw [tileWord_succ]
    congr 1
    exact load_keys arg4 harg4 x1 _ (by omega) _ _ (off11 i)
  have p := plane_writes arg9.view arg9.view.junk [] (score1 i arg4 harg4 x1 q0) (score1 i arg4 harg4 x1 q1) inb_S2x256x512_S1x256x512_0_0_0 inb_S2x256x512_S1x256x512_1_0_0
  have s0 := (read_plane arg8.view 0 _ ![0, 0, 0] inb_S2x256x512_S1x256x512_0_0_0 rfl).trans hb
  have s1 := (read_plane arg8.view 1 _ ![1, 0, 0] inb_S2x256x512_S1x256x512_1_0_0 rfl).trans hc
  have t0 := (read_plane arg9.view 0 _ ![0, 0, 0] inb_S2x256x512_S1x256x512_0_0_0 rfl).trans (p.1.trans (e1 q0))
  have t1 := (read_plane arg9.view 1 _ ![1, 0, 0] inb_S2x256x512_S1x256x512_1_0_0 rfl).trans (p.2.trans (e1 q1))
  have va := load_vals arg5 harg5 x2 0 (2 * (i 2).val) (by omega) _ (k0_off12_inb i) (off12 i)
  have vb := load_vals arg5 harg5 x2 1 (2 * (i 2).val) (by omega) _ (k0_off13_inb i) (off13 i)
  have vc := load_vals arg5 harg5 x2 0 (2 * (i 2).val + 1) (by omega) _ (k0_off14_inb i) (off14 i)
  have vd := load_vals arg5 harg5 x2 1 (2 * (i 2).val + 1) (by omega) _ (k0_off15_inb i) (off15 i)
  obtain ⟨a, L⟩ := st
  subst ha
  unfold sums
  exact congr (congrArg outs (lastF_congr i rfl rfl s0 t0 va vc)) (lastF_congr i rfl rfl s1 t1 vb vd)

/-- What the loop leaves is so. -/
theorem lit_loop (w : BitVec 32) (q0 q1 : FVec Ideal S256x512 .bf16) :
    lit i arg4 harg4 arg5 harg5 arg8 arg9 x1 x2 (stL c i arg3 harg3 arg4 harg4 arg5 harg5 arg6 harg6 arg7 harg7 arg8 harg8 arg9 harg9 x1 x2 w q0 q1) q0 q1 = outs (sums i x1 x2 0 q0) (sums i x1 x2 1 q1) := by
  have e0 : ∀ q, score0 arg4 harg4 x1 q = scoreOf x1 q 0 := fun q => by
    unfold score0 scoreOf
    congr 1
    exact load_keys arg4 harg4 x1 0 (by omega) _ _ rfl
  have g := plane_writes arg8.view arg8.view.junk [] (score0 arg4 harg4 x1 q0) (score0 arg4 harg4 x1 q1) inb_S2x256x512_S1x256x512_0_0_0 inb_S2x256x512_S1x256x512_1_0_0
  obtain ⟨ha, hb, hc⟩ := state Variants.none c none i arg3 harg3 arg4 harg4 arg5 harg5 arg6 harg6 arg7 harg7 arg8 harg8 arg9 harg9 (k0_pay49 i) q0 q1 (tileWord i) k0_pay88 k0_pay89 k0_pay90 k0_pay91 w x1 x2 _ arg9.view.junk
    (g.1.trans (e0 q0)) (g.2.trans (e0 q1)) (k0_t1_loop i).trips le_rfl
  rw [← View.writes_append] at hb hc
  have ha' := ha.trans (congrArg (fun n => (mAt (scoreOf x1 q0) (2 * n), aAt (scoreOf x1 q0) (valsOf x2 0) (2 * n), mAt (scoreOf x1 q1) (2 * n), aAt (scoreOf x1 q1) (valsOf x2 1) (2 * n))) (trips_eq i))
  have hb' := hb.trans (congrArg (fun n => scoreOf x1 q0 (2 * n)) (trips_eq i))
  have hc' := hc.trans (congrArg (fun n => scoreOf x1 q1 (2 * n)) (trips_eq i))
  exact lit_eq i arg4 harg4 arg5 harg5 arg8 arg9 x1 x2 _ q0 q1 ha' hb' hc'

/-- The means of the keys, read out of their block. -/
theorem load_means : View.readAt (Elt Ideal) arg6.view (Rect.unit (s := S1x16x128) ![0, 0, 0] S1x16x128.size inb_S1x16x128_S1x16x128_0_0_0).toLoadRect (harg6.unread x3) = x3 := by
  funext y
  refine (congrFun (harg6.read_unread x3) _).trans (congrArg x3 (funext fun a => Fin.ext ?_))
  match a with
  | 0 => show 0 + 1 * (y 0).val = (y 0).val; omega
  | 1 => show 0 + 1 * (y 1).val = (y 1).val; omega
  | 2 => show 0 + 1 * (y 2).val = (y 2).val; omega

/-- A head's queries, read out of their block. -/
theorem load_head (h : Fin 2) (off : Fin 2 → ℕ) (inb : ∀ a, off a + S64x512.size a ≤ S128x512.size a) (ho : off = ![64 * h.val, 0]) :
    View.readAt (Elt Ideal) arg3.view (Rect.unit (s := S128x512) off S64x512.size inb).toLoadRect (harg3.unread x0) = headOf x0 h := by
  subst ho
  funext y
  refine (congrFun (harg3.read_unread x0) _).trans (congrArg x0 (funext fun a => Fin.ext ?_))
  match a with
  | 0 => show 64 * h.val + 1 * (y 0).val = 64 * h.val + (y 0).val; omega
  | 1 => show 0 + 1 * (y 1).val = (y 1).val; omega

/-- What the kernel stores for a block. -/
theorem run_outs : (kernelRun0_A (F := Ideal) c i arg3 harg3 arg4 harg4 arg5 harg5 arg6 harg6 arg7 harg7 arg8 harg8 arg9 harg9 x0 x1 x2 x3).1
    = outs (sums i x1 x2 0 (wide i x3 (k0_pay56 (headOf x0 0)))) (sums i x1 x2 1 (wide i x3 (k0_pay69 (headOf x0 1)))) := by
  have h0 := load_head arg3 harg3 x0 0 ![0, 0] inb_S128x512_S64x512_0_0 rfl
  have h1 := load_head arg3 harg3 x0 1 ![64, 0] inb_S128x512_S64x512_64_0 rfl
  have h2 := load_means arg6 harg6 x3
  have e0 := congr (congrArg (wide i) h2) (congrArg (k0_pay56 (F := Ideal)) h0)
  have e1 := congr (congrArg (wide i) h2) (congrArg (k0_pay69 (F := Ideal)) h1)
  refine Eq.trans ?_ ((congr (congrArg (fun q0 q1 => lit i arg4 harg4 arg5 harg5 arg8 arg9 x1 x2 (stL c i arg3 harg3 arg4 harg4 arg5 harg5 arg6 harg6 arg7 harg7 arg8 harg8 arg9 harg9 x1 x2 (kernelRun0_A.sl.v252 i) q0 q1) q0 q1) e0) e1).trans (lit_loop ..))
  unfold kernelRun0_A
  rfl

end

end Cert.MobaIdeal.Out

end
-- ==== Proof.MobaCol.lean ====
/- A column of the attention kernel's block: the gate's scores of the blocks, the scores of the tiles, and the running
   softmax over them. -/
module

public import proofs.«01_k».proof.Proof.MobaOut

@[expose] public section

set_option maxRecDepth 16384

noncomputable section

namespace Cert.MobaIdeal.Col

open Cert.MobaIdeal Cert.MobaIdeal.Gen Cert.MobaIdeal.Tile Cert.MobaIdeal.Gate Cert.MobaIdeal.Loop Cert.MobaIdeal.Out Idealize.ShloMosaic Idealize.ShloMosaic.TcCoe Idealize.SL.Sem

/-- The queries of a column lie at these positions. -/
theorem pos_at (i : grid0.Coords) (z : Fin 1) (c : Fin 512) : k0_pay49 i (ix2 z c) = BitVec.ofNat 32 (512 * (i 2).val + c.val) := by
  have hi : (i 2).val < 8 := (i 2).isLt
  pointwise [k0_pay49]
  show BitVec.ofNat 32 (i 2).val * 512#32 + BitVec.ofNat 32 c.val = _
  rw [Nat.mul_comm, BitVec.ofNat_add, BitVec.ofNat_mul]

/-- A position's key block, in the words the kernel computes it with. -/
def blkWord (a : BitVec 32) : BitVec 32 :=
  let v5 := Scalar.divsi a 256#32
  let v12 : BitVec 32 := Scalar.subi (Scalar.extui (Scalar.cmpi .sgt a 0#32)) (Scalar.extui (Scalar.cmpi .slt a 0#32))
  let v18 : BitVec 32 := Scalar.subi (Scalar.extui (Scalar.cmpi .sgt 256#32 0#32)) (Scalar.extui (Scalar.cmpi .slt 256#32 0#32))
  Scalar.select (Scalar.andi (Scalar.cmpi .ne v12 v18) (Scalar.cmpi .ne (Scalar.remsi a 256#32) 0#32)) (Scalar.subi v5 1#32) v5

/-- The block word of a position is the position divided by 256. -/
theorem blkWord_eq : ∀ n : Fin 4096, blkWord (BitVec.ofNat 32 n.val) = BitVec.ofNat 32 (n.val / 256) := by
  decide +kernel

/-- The block a column of the query tile stands in. -/
theorem blk_at (i : grid0.Coords) (c : Fin 512) : k0_pay50 i (ix2 0 c) = BitVec.ofNat 32 (2 * (i 2).val + c.val / 256) := by
  have hi : (i 2).val < 8 := (i 2).isLt
  have hc := c.isLt
  have e : k0_pay50 i (ix2 0 c) = blkWord (k0_pay49 i (ix2 0 c)) := by
    unfold k0_pay50
    generalize k0_pay49 i = a
    rfl
  rw [e, pos_at, blkWord_eq ⟨512 * (i 2).val + c.val, by omega⟩]
  congr 1
  show (512 * (i 2).val + c.val) / 256 = _
  omega

/-- Whether a block is the column's own. -/
theorem own_at (i : grid0.Coords) (j : Fin 16) (c : Fin 512) :
    k0_pay59 (k0_pay50 i) rows (ix2 j c) = BitVec.ofBool (decide (j.val = 2 * (i 2).val + c.val / 256)) := by
  have hi : (i 2).val < 8 := (i 2).isLt
  have hc := c.isLt
  have hj := j.isLt
  unfold k0_pay59
  pointwise []
  rw [blk_at]
  exact WordCmp.cmpi_eq_ofNat (w := 32) (a := j.val) (b := 2 * (i 2).val + c.val / 256) (by norm_num; omega) (by norm_num; omega)

/-- The mask of the blocks before the column's own. -/
theorem before_at (i : grid0.Coords) (j : Fin 16) (c : Fin 512) :
    Scalar.cmpi .slt (rows (ix2 j c)) (k0_pay50 i (ix2 0 c)) = BitVec.ofBool (decide (j.val < 2 * (i 2).val + c.val / 256)) := by
  have hi : (i 2).val < 8 := (i 2).isLt
  have hc := c.isLt
  have hj := j.isLt
  have hr : rows (ix2 j c) = BitVec.ofNat 32 j.val := by pointwise [rows]
  rw [blk_at, hr]
  exact WordCmp.cmpi_slt_ofNat (w := 32) (a := j.val) (b := 2 * (i 2).val + c.val / 256) (by norm_num; omega) (by norm_num; omega)

/-- Of a finite number, what is left of it after itself is nothing. -/
theorem sub_self' {x : EReal} (h : x ≠ ⊥) (h' : x ≠ ⊤) : x - x = 0 := EReal.sub_self h' h

/-- The gate's score of a block: the mean key times the query, minus infinity from the column's own block on. -/
theorem gate_at (i : grid0.Coords) (km : Vec Ideal S1x16x128 .f32) (hkm : ∀ y, km y ≠ ⊥ ∧ km y ≠ ⊤) (qp : FVec Ideal S128x512 .bf16) (j : Fin 16) (c : Fin 512) :
    gateA i km qp (ix2 j c) = if j.val < 2 * (i 2).val + c.val / 256 then ∑ d : Fin 128, (show EReal from km (ix3 0 j d)) * (show EReal from qp (ix2 d c)) else ⊥ := by
  have hz : ∀ d : Fin 128, (show EReal from km (ix3 0 j d)) - (show EReal from km (ix3 0 j d)) = 0 := fun d => sub_self' (hkm _).1 (hkm _).2
  have e : gateA i km qp (ix2 j c) = Scalar.select (Scalar.cmpi .slt (rows (ix2 j c)) (k0_pay50 i (ix2 0 c)))
      (((∑ d : Fin 128, (show EReal from km (ix3 0 j d)) * (show EReal from qp (ix2 d c)))
        + ∑ d : Fin 128, ((show EReal from km (ix3 0 j d)) - (show EReal from km (ix3 0 j d))) * (show EReal from qp (ix2 d c)))
        + ∑ d : Fin 128, (((show EReal from km (ix3 0 j d)) - (show EReal from km (ix3 0 j d))) - ((show EReal from km (ix3 0 j d)) - (show EReal from km (ix3 0 j d)))) * (show EReal from qp (ix2 d c))) ⊥ := by
    unfold gateA k0_pay58
    generalize k0_pay50 i = a
    pointwise [k0_pay51, k0_pay52, k0_pay53, k0_pay54, k0_pay55]
    rw [ninf]
    rfl
  rw [e, before_at, WordCmp.select_ofBool]
  simp only [hz, sub_zero, zero_mul, Finset.sum_const_zero, add_zero, decide_eq_true_eq]

end Cert.MobaIdeal.Col

end
-- ==== Proof.MobaSpec.lean ====
/- The attention of one query over the key blocks its gate picks, as a function of the query, the keys, the mean keys and
   the values: what kernel and reference are both shown to compute. -/
module

public import proofs.«01_k».proof.Proof.MobaGate

@[expose] public section

noncomputable section

namespace Cert.MobaIdeal.Spec

open Cert.MobaIdeal.Gate Cert.Online Idealize.ShloMosaic

open Classical in
/-- The gate's score of a block for the query at a position: minus infinity unless the block lies before the query's own. -/
def gate (km : Fin 16 → Fin 64 → EReal) (q : Fin 64 → EReal) (pos : ℕ) (j : Fin 16) : EReal :=
  if j.val < pos / 256 then ∑ d : Fin 64, km j d * q d else ⊥

open Classical in
/-- The score of key `r` of block `t`: minus infinity unless the block is the query's own or picked and the key not later
    than the query. -/
def score (kx : ℕ → Fin 256 → Fin 64 → EReal) (km : Fin 16 → Fin 64 → EReal) (q : Fin 64 → EReal) (pos : ℕ) (t : ℕ) (r : Fin 256) : EReal :=
  if (∃ j : Fin 16, j.val = t ∧ (j.val = pos / 256 ∨ Pick.picked big (gate km q pos) j)) ∧ 256 * t + r.val ≤ pos
  then ∑ d : Fin 64, kx t r d * q d else ⊥

/-- The least total a weight is divided by. -/
def eps : EReal := Ideal.ofBits .f32 0x0DA24260#32

/-- The floor of the divisor is above zero. -/
theorem eps_pos : 0 < eps := by
  unfold eps
  simp [Ideal.ofBits, Ideal.ieee]
  try positivity

/-- The values weighted by the softmax, in base two, of the scores. -/
def attend (s v : ℕ → Fin 256 → EReal) : EReal :=
  ∑ t ∈ Finset.range 16, ∑ r, Ideal.div (Ideal.exp2 (s t r - peak s 16)) (max (gather s (fun _ _ => 1) (peak s 16) 16) eps) * v t r

/-- A number that is neither infinity. -/
def Fin' (x : EReal) : Prop := x ≠ ⊥ ∧ x ≠ ⊤

/-- A product of finite numbers is finite. -/
theorem fin_mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

/-- A sum of finite numbers is finite. -/
theorem fin_add {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

/-- A sum of products of finite numbers is finite. -/
theorem fin_dot {n : ℕ} {a b : Fin n → EReal} (ha : ∀ d, Fin' (a d)) (hb : ∀ d, Fin' (b d)) : Fin' (∑ d, a d * b d) := by
  refine Finset.sum_induction _ Fin' (fun _ _ => fin_add) ⟨EReal.zero_ne_bot, EReal.zero_ne_top⟩ fun d _ => fin_mul (ha d) (hb d)

/-- No score is plus infinity where queries and keys are finite. -/
theorem score_ne_top {kx : ℕ → Fin 256 → Fin 64 → EReal} {km : Fin 16 → Fin 64 → EReal} {q : Fin 64 → EReal} {pos : ℕ}
    (hk : ∀ t r d, Fin' (kx t r d)) (hq : ∀ d, Fin' (q d)) (t : ℕ) (r : Fin 256) : score kx km q pos t r ≠ ⊤ := by
  unfold score
  split_ifs
  · exact (fin_dot (hk t r) hq).2
  · exact bot_ne_top

/-- The tiles after the query's own are masked whole. -/
theorem score_late {kx : ℕ → Fin 256 → Fin 64 → EReal} {km : Fin 16 → Fin 64 → EReal} {q : Fin 64 → EReal} {pos N : ℕ}
    (hN : pos < 256 * N) (t : ℕ) (r : Fin 256) (h : N ≤ t) : score kx km q pos t r = ⊥ := by
  unfold score
  rw [if_neg]
  rintro ⟨_, h'⟩
  omega

/-- The query's own key is scored, so the greatest score is finite. -/
theorem peak_fin {kx : ℕ → Fin 256 → Fin 64 → EReal} {km : Fin 16 → Fin 64 → EReal} {q : Fin 64 → EReal} {pos : ℕ} (hp : pos < 4096)
    (hk : ∀ t r d, Fin' (kx t r d)) (hq : ∀ d, Fin' (q d)) : Fin' (peak (score kx km q pos) 16) := by
  refine ⟨fun h => ?_, peak_ne_top (score_ne_top hk hq) 16⟩
  have hle := le_peak (score kx km q pos) (t := pos / 256) (n := 16) (by omega) ⟨pos % 256, Nat.mod_lt _ (by norm_num)⟩
  rw [h, le_bot_iff] at hle
  unfold score at hle
  rw [if_pos] at hle
  · exact (fin_dot (hk _ _) hq).1 hle
  · exact ⟨⟨⟨pos / 256, by omega⟩, rfl, Or.inl rfl⟩, by show 256 * (pos / 256) + pos % 256 ≤ pos; omega⟩

/-- The weighted sum of the first tiles over its total, once every later tile is masked, is the whole attention. -/
theorem attend_eq {s : ℕ → Fin 256 → EReal} (v : ℕ → Fin 256 → EReal) {N : ℕ} (hN : N ≤ 16) (h : ∀ t r, N ≤ t → s t r = ⊥) :
    gather s v (peak s N) N * Ideal.div 1 (max (gather s (fun _ _ => 1) (peak s N) N) eps) = attend s v := by
  unfold attend
  rw [← peak_more hN h, ← gather_more (v := v) _ hN h, ← gather_more (v := fun _ _ => 1) _ hN h]
  exact gather_div _ _ (lt_of_lt_of_le eps_pos (le_max_right _ _)) 16

end Cert.MobaIdeal.Spec

end
-- ==== Proof.MobaHead.lean ====
/- One head's sums in the attention kernel's block are the attention of the head's queries, column by column. -/
module

public import proofs.«01_k».proof.Proof.MobaCol
public import proofs.«01_k».proof.Proof.MobaSpec

@[expose] public section

set_option maxRecDepth 16384

noncomputable section

namespace Cert.MobaIdeal.Head

open Cert.MobaIdeal Cert.MobaIdeal.Gen Cert.MobaIdeal.Tile Cert.MobaIdeal.Gate Cert.MobaIdeal.Loop Cert.MobaIdeal.Out Cert.MobaIdeal.Col Cert.MobaIdeal.Spec Cert.Online Idealize.ShloMosaic Idealize.ShloMosaic.TcCoe Idealize.SL.Sem

/-- The causal mask's term of a tile at an index. -/
theorem bias_at (i : grid0.Coords) (t : ℕ) (ht : t < 18) (r : Fin 256) (c : Fin 512) :
    biasA i (BitVec.ofNat 32 (256 * t)) (ix2 r c) = (if 256 * t + r.val ≤ 512 * (i 2).val + c.val then (0 : EReal) else ⊥) := by
  have hi : (i 2).val < 8 := (i 2).isLt
  have hc := c.isLt
  have hr := r.isLt
  have hw : IntOp.cmpi .sle (BitVec.ofNat 32 (256 * t) + BitVec.ofNat 32 r.val) (k0_pay49 i (ix2 0 c)) = BitVec.ofBool (decide (256 * t + r.val ≤ 512 * (i 2).val + c.val)) := by
    rw [pos_at, ← BitVec.ofNat_add]
    exact WordCmp.cmpi_sle_ofNat (w := 32) (by norm_num; omega) (by norm_num; omega)
  have e : biasA i (BitVec.ofNat 32 (256 * t)) (ix2 r c) = Scalar.select (IntOp.cmpi .sle (BitVec.ofNat 32 (256 * t) + BitVec.ofNat 32 r.val) (k0_pay49 i (ix2 0 c))) (0 : EReal) ⊥ := by
    unfold biasA k0_pay104
    generalize k0_pay49 i = a
    pointwise []
    rw [mask_eq]
    rfl
  rw [e, hw, WordCmp.select_ofBool]
  simp only [decide_eq_true_eq]

/-- A tile's scores under the causal mask. -/
def tileB (i : grid0.Coords) (x1 : Vec Ideal S1x4096x128 .bf16) (q : FVec Ideal S256x512 .bf16) (t : ℕ) : FVec Ideal S256x512 .f32 :=
  addf (scoreOf x1 q t) (biasA i (BitVec.ofNat 32 (256 * t)))

/-- Before the query block's first tile the causal mask changes nothing. -/
theorem tileB_before (i : grid0.Coords) (x1 : Vec Ideal S1x4096x128 .bf16) (q : FVec Ideal S256x512 .bf16) (t : ℕ) (h : t < 2 * (i 2).val) :
    tileB i x1 q t = scoreOf x1 q t := by
  have hi : (i 2).val < 8 := (i 2).isLt
  funext y
  idx_vars y
  have hr : y0.val < 256 := y0.isLt
  show scoreOf x1 q t (ix2 y0 y1) + biasA i (BitVec.ofNat 32 (256 * t)) (ix2 y0 y1) = _
  rw [bias_at i t (by omega), if_pos (by omega), add_zero]

/-- The running maxima depend on the tiles read so far only. -/
theorem mAt_congr {S S' : ℕ → FVec Ideal S256x512 .f32} (n : ℕ) (h : ∀ t, t < n → S t = S' t) : mAt S n = mAt S' n := by
  induction n with
  | zero => rfl
  | succ n ih => show newM (mAt S n) (S n) = newM (mAt S' n) (S' n); rw [ih fun t ht => h t (by omega), h n (by omega)]

/-- The accumulators depend on the tiles read so far only. -/
theorem aAt_congr {S S' : ℕ → FVec Ideal S256x512 .f32} (V : ℕ → FVec Ideal S64x256 .bf16) (n : ℕ) (h : ∀ t, t < n → S t = S' t) : aAt S V n = aAt S' V n := by
  induction n with
  | zero => rfl
  | succ n ih =>
    show newA (mAt S n) (aAt S V n) (S n) (V n) = newA (mAt S' n) (aAt S' V n) (S' n) (V n)
    rw [ih fun t ht => h t (by omega), h n (by omega), mAt_congr n fun t ht => h t (by omega)]

/-- The kernel's sums are the running softmax over every tile under the causal mask. -/
theorem sums_eq (i : grid0.Coords) (x1 : Vec Ideal S1x4096x128 .bf16) (x2 : Vec Ideal S16x128x256 .bf16) (h : Fin 2) (q : FVec Ideal S256x512 .bf16) :
    sums i x1 x2 h q = aAt (tileB i x1 q) (valsOf x2 h) (2 * (i 2).val + 2) := by
  have hm := mAt_congr (S := tileB i x1 q) (S' := scoreOf x1 q) (2 * (i 2).val) fun t ht => tileB_before i x1 q t ht
  have ha := aAt_congr (S := tileB i x1 q) (S' := scoreOf x1 q) (valsOf x2 h) (2 * (i 2).val) fun t ht => tileB_before i x1 q t ht
  have w0 : Scalar.muli (tileWord i) 256#32 = BitVec.ofNat 32 (256 * (2 * (i 2).val)) := by
    rw [tileWord_eq, Nat.mul_comm 256, BitVec.ofNat_mul (2 * (i 2).val) 256]; rfl
  have w1 : Scalar.muli (Scalar.addi (tileWord i) 1#32) 256#32 = BitVec.ofNat 32 (256 * (2 * (i 2).val + 1)) := by
    rw [tileWord_succ, Nat.mul_comm 256, BitVec.ofNat_mul (2 * (i 2).val + 1) 256]; rfl
  unfold sums lastF
  rw [w0, w1, ← hm, ← ha]
  rfl

section

variable {S : ℕ → FVec Ideal S256x512 .f32} {c : Fin 512} {s : ℕ → Fin 256 → EReal}

/-- The running greatest score of a column. -/
theorem mAt_at (hs : ∀ t r, t < 16 → S t (ix2 r c) = s t r) (n : ℕ) (hn : n ≤ 16) : mAt S n (ix2 0 c) = peak s n := by
  induction n with
  | zero =>
    show Named.named (F := Ideal) κ "mask" (φ := .f32) 0xF149F2CA#32 = (⊥ : EReal)
    exact mask_eq
  | succ n ih =>
    show newM (mAt S n) (S n) (ix2 0 c) = max (peak s n) (Finset.univ.fold max ⊥ (s n))
    rw [newM_at, ih (by omega)]
    congr 2
    funext r
    exact hs n r (by omega)

/-- The running weighted sums of a column. -/
theorem aAt_at (V : ℕ → FVec Ideal S64x256 .bf16) (hs : ∀ t r, t < 16 → S t (ix2 r c) = s t r) (ht : ∀ t r, s t r ≠ ⊤) (p : Fin 80) (n : ℕ) (hn : n ≤ 16) :
    aAt S V n (ix2 p c) = gather s (fun t => vrow (V t) p) (peak s n) n := by
  induction n with
  | zero =>
    show Ideal.ofBits .f32 0x00000000#32 = _
    rw [gather_zero]
    simp [Ideal.ofBits, Ideal.ieee]
  | succ n ih =>
    have hM : newM (mAt S n) (S n) (ix2 0 c) = peak s (n + 1) := mAt_at hs (n + 1) hn
    show newA (mAt S n) (aAt S V n) (S n) (V n) (ix2 p c) = _
    rw [newA_at, hM, ih (by omega), mAt_at hs n (by omega), ← gather_step ht]
    congr 1
    refine Finset.sum_congr rfl fun r _ => ?_
    rw [hs n r (by omega)]

end

/-- What a head stores at an index, of its sums. -/
theorem pay1_at (A : FVec Ideal S80x512 .f32) (d : Fin 64) (c : Fin 512) :
    k0_pay1 (F := Ideal) A (ix2 d c) = A (ix2 ⟨d.val, by have := d.isLt; omega⟩ c) * Ideal.div 1 (max (A (ix2 ⟨64, by norm_num⟩ c)) eps) := by
  pointwise [k0_pay1]
  rfl

/-- A head's output at an index. -/
theorem head_at (i : grid0.Coords) (x1 : Vec Ideal S1x4096x128 .bf16) (x2 : Vec Ideal S16x128x256 .bf16) (h : Fin 2) (q : FVec Ideal S256x512 .bf16)
    (d : Fin 64) (c : Fin 512) {s : ℕ → Fin 256 → EReal} (hs : ∀ t r, t < 16 → tileB i x1 q t (ix2 r c) = s t r) (ht : ∀ t r, s t r ≠ ⊤)
    (hl : ∀ t r, 2 * (i 2).val + 2 ≤ t → s t r = ⊥) :
    k0_pay1 (F := Ideal) (sums i x1 x2 h q) (ix2 d c) = attend s fun t r => valsOf x2 h t (ix2 d r) := by
  have hi : (i 2).val < 8 := (i 2).isLt
  rw [pay1_at, sums_eq, aAt_at _ hs ht _ _ (by omega), aAt_at _ hs ht _ _ (by omega), ← attend_eq _ (N := 2 * (i 2).val + 2) (by omega) hl]
  congr 1
  congr 1
  funext t r
  exact dif_pos d.isLt

/-- Queries of one head beside zeros for the other. -/
def Padded (h : Fin 2) (x0 : Vec Ideal S128x512 .bf16) (qp : FVec Ideal S128x512 .bf16) : Prop :=
  ∀ (d : Fin 128) (c : Fin 512), qp (ix2 d c) = if d.val / 64 = h.val then (show FVec Ideal S128x512 .bf16 from x0) (ix2 d c) else 0

/-- The first head of a pair stands in the upper half, above zeros. -/
theorem padded0 (x0 : Vec Ideal S128x512 .bf16) : Padded 0 x0 (k0_pay56 (headOf x0 0)) := by
  intro d c
  have hd := d.isLt
  have hv : ∀ (y : Fin 64), headOf x0 0 (ix2 y c) = (show FVec Ideal S128x512 .bf16 from x0) (ix2 ⟨64 * 0 + y.val, by omega⟩ c) := fun _ => rfl
  have hv' : ∀ (h : d.val < 64), headOf x0 0 (ix2 ⟨d.val, h⟩ c) = (show FVec Ideal S128x512 .bf16 from x0) (ix2 d c) := fun h =>
    (hv _).trans (congrArg (fun e => (show FVec Ideal S128x512 .bf16 from x0) (ix2 e c)) (Fin.ext (by show 64 * 0 + d.val = d.val; omega)))
  generalize headOf x0 0 = v at hv'
  show _ = if d.val / 64 = 0 then _ else _
  pointwise [k0_pay56]
  split_ifs <;> first | exact hv' _ | rfl | (exfalso; omega)

/-- The second head of a pair stands in the lower half, below zeros. -/
theorem padded1 (x0 : Vec Ideal S128x512 .bf16) : Padded 1 x0 (k0_pay69 (headOf x0 1)) := by
  intro d c
  have hd := d.isLt
  have hv : ∀ (y : Fin 64), headOf x0 1 (ix2 y c) = (show FVec Ideal S128x512 .bf16 from x0) (ix2 ⟨64 * 1 + y.val, by omega⟩ c) := fun _ => rfl
  have hv' : ∀ (h : d.val - 64 < 64), ¬ d.val < 64 → headOf x0 1 (ix2 ⟨d.val - 64, h⟩ c) = (show FVec Ideal S128x512 .bf16 from x0) (ix2 d c) := fun h h' =>
    (hv _).trans (congrArg (fun e => (show FVec Ideal S128x512 .bf16 from x0) (ix2 e c)) (Fin.ext (by show 64 * 1 + (d.val - 64) = d.val; omega)))
  generalize headOf x0 1 = v at hv'
  by_cases hb : d.val < 64
  · refine Eq.trans (b := 0) ?_ (if_neg (show ¬ d.val / 64 = 1 by omega)).symm
    pointwise [k0_pay69]
    exact dif_pos hb
  · refine Eq.trans ?_ (if_pos (show d.val / 64 = 1 by omega)).symm
    pointwise [k0_pay69]
    exact (dif_neg hb).trans (hv' _ hb)

/-- A product with padded queries is the product over the head's own 64 entries. -/
theorem padded_dot {h : Fin 2} {x0 : Vec Ideal S128x512 .bf16} {qp : FVec Ideal S128x512 .bf16} (hp : Padded h x0 qp) (f : Fin 128 → EReal) (c : Fin 512) :
    (∑ d : Fin 128, f d * qp (ix2 d c))
      = ∑ d : Fin 64, f ⟨64 * h.val + d.val, by omega⟩ * (show FVec Ideal S128x512 .bf16 from x0) (ix2 ⟨64 * h.val + d.val, by omega⟩ c) := by
  have e : (∑ d : Fin 64, f ⟨64 * h.val + d.val, by omega⟩ * (show FVec Ideal S128x512 .bf16 from x0) (ix2 ⟨64 * h.val + d.val, by omega⟩ c))
      = ∑ d : Fin 64, f ⟨64 * h.val + d.val, by omega⟩ * qp (ix2 ⟨64 * h.val + d.val, by omega⟩ c) := by
    refine Finset.sum_congr rfl fun d _ => ?_
    rw [hp, if_pos (show (64 * h.val + d.val) / 64 = h.val by omega)]
  rw [e]
  symm
  let emb : Fin 64 → Fin 128 := fun d => ⟨64 * h.val + d.val, by omega⟩
  have hinj : Function.Injective emb := fun a b hab => Fin.ext (by have := congrArg Fin.val hab; dsimp only [emb] at this; omega)
  refine (Finset.sum_map Finset.univ ⟨emb, hinj⟩ fun d => f d * qp (ix2 d c)).symm.trans ?_
  refine Finset.sum_subset (Finset.subset_univ _) fun d _ hd => ?_
  rw [hp, if_neg, mul_zero]
  intro hdiv
  refine hd (Finset.mem_map.mpr ⟨⟨d.val - 64 * h.val, by omega⟩, Finset.mem_univ _, Fin.ext ?_⟩)
  show 64 * h.val + (d.val - 64 * h.val) = d.val
  omega

section

variable (i : grid0.Coords) (x0 : Vec Ideal S128x512 .bf16) (x1 : Vec Ideal S1x4096x128 .bf16) (x2 : Vec Ideal S16x128x256 .bf16) (x3 : Vec Ideal S1x16x128 .f32) (h : Fin 2)

/-- The keys of a head, of their block. -/
def keyB (t : ℕ) (r : Fin 256) (d : Fin 64) : EReal :=
  (show FVec Ideal S1x4096x128 .bf16 from x1) (ix3 0 ⟨(256 * t + r.val) % 4096, Nat.mod_lt _ (by norm_num)⟩ ⟨64 * h.val + d.val, by omega⟩)

/-- The mean keys of a head, of their block. -/
def meanB (j : Fin 16) (d : Fin 64) : EReal := (show FVec Ideal S1x16x128 .f32 from x3) (ix3 0 j ⟨64 * h.val + d.val, by omega⟩)

/-- A head's query at a column, of its block. -/
def queryB (c : Fin 512) (d : Fin 64) : EReal := (show FVec Ideal S128x512 .bf16 from x0) (ix2 ⟨64 * h.val + d.val, by omega⟩ c)

/-- The kernel's gate. -/
theorem gate_col (hkm : ∀ y, x3 y ≠ (⊥ : EReal) ∧ x3 y ≠ (⊤ : EReal)) {qp : FVec Ideal S128x512 .bf16} (hp : Padded h x0 qp) (c : Fin 512) :
    (fun j : Fin 16 => gateA i x3 qp (ix2 j c)) = Spec.gate (meanB x3 h) (queryB x0 h c) (512 * (i 2).val + c.val) := by
  have hc := c.isLt
  funext j
  rw [gate_at i x3 hkm, padded_dot hp]
  unfold Spec.gate
  have e : (512 * (i 2).val + c.val) / 256 = 2 * (i 2).val + c.val / 256 := by omega
  rw [e]
  by_cases hj : j.val < 2 * (i 2).val + c.val / 256
  · rw [if_pos hj, if_pos hj]; rfl
  · rw [if_neg hj, if_neg hj]

/-- The kernel's scores. -/
theorem tile_col (hkm : ∀ y, x3 y ≠ (⊥ : EReal) ∧ x3 y ≠ (⊤ : EReal)) {qp : FVec Ideal S128x512 .bf16} (hp : Padded h x0 qp) (c : Fin 512) (t : ℕ) (r : Fin 256) (ht : t < 16) :
    tileB i x1 (wide i x3 qp) t (ix2 r c) = Spec.score (keyB x1 h) (meanB x3 h) (queryB x0 h c) (512 * (i 2).val + c.val) t r := by
  have hc := c.isLt
  have e : (512 * (i 2).val + c.val) / 256 = 2 * (i 2).val + c.val / 256 := by omega
  show scoreOf x1 (wide i x3 qp) t (ix2 r c) + biasA i (BitVec.ofNat 32 (256 * t)) (ix2 r c) = _
  rw [bias_at i t (by omega)]
  have hsc : scoreOf x1 (wide i x3 qp) t (ix2 r c) = _ := score_at ⟨t, by omega⟩ (keysOf x1 t) (wide i x3 qp) r c
  rw [hsc]
  have hb := augA_block qp (k0_pay59 (k0_pay50 i) rows) (gateA i x3 qp) ⟨t, ht⟩ c (own_at i ⟨t, ht⟩ c)
  rw [gate_col i x0 x3 h hkm hp c] at hb
  have hq : ∀ d : Fin 128, wide i x3 qp (ix2 ⟨d.val, by omega⟩ c) = qp (ix2 d c) := fun d => augA_query qp _ _ d c
  have hb' : wide i x3 qp (ix2 ⟨128 + t, by omega⟩ c) = _ := hb
  simp only [hq]
  rw [hb', padded_dot hp (fun d => keysOf x1 t (ix2 r d)) c]
  unfold Spec.score
  rw [e]
  have hex : (∃ j : Fin 16, j.val = t ∧ (j.val = 2 * (i 2).val + c.val / 256 ∨ Pick.picked big (Spec.gate (meanB x3 h) (queryB x0 h c) (512 * (i 2).val + c.val)) j))
      ↔ (t = 2 * (i 2).val + c.val / 256 ∨ Pick.picked big (Spec.gate (meanB x3 h) (queryB x0 h c) (512 * (i 2).val + c.val)) ⟨t, ht⟩) := by
    constructor
    · rintro ⟨j, rfl, hj⟩; exact hj
    · intro hj; exact ⟨⟨t, ht⟩, rfl, hj⟩
  by_cases h1 : t = 2 * (i 2).val + c.val / 256 ∨ Pick.picked big (Spec.gate (meanB x3 h) (queryB x0 h c) (512 * (i 2).val + c.val)) ⟨t, ht⟩
  · rw [if_pos h1, add_zero]
    by_cases h2 : 256 * t + r.val ≤ 512 * (i 2).val + c.val
    · rw [if_pos h2, add_zero, if_pos ⟨hex.mpr h1, h2⟩]; rfl
    · rw [if_neg h2, EReal.add_bot, if_neg fun h => h2 h.2]
  · rw [if_neg h1, EReal.add_bot, EReal.bot_add, if_neg fun h => h1 (hex.mp h.1)]

/-- A head's output in a block. -/
theorem head_out (h0 : ∀ y, x0 y ≠ (⊥ : EReal) ∧ x0 y ≠ (⊤ : EReal)) (h1 : ∀ y, x1 y ≠ (⊥ : EReal) ∧ x1 y ≠ (⊤ : EReal)) (hkm : ∀ y, x3 y ≠ (⊥ : EReal) ∧ x3 y ≠ (⊤ : EReal))
    {qp : FVec Ideal S128x512 .bf16} (hp : Padded h x0 qp) (d : Fin 64) (c : Fin 512) :
    k0_pay1 (F := Ideal) (sums i x1 x2 h (wide i x3 qp)) (ix2 d c)
      = attend (Spec.score (keyB x1 h) (meanB x3 h) (queryB x0 h c) (512 * (i 2).val + c.val)) fun t r => valsOf x2 h t (ix2 d r) := by
  have hc := c.isLt
  exact head_at i x1 x2 h _ d c (fun t r ht => tile_col i x0 x1 x3 h hkm hp c t r ht)
    (score_ne_top (fun _ _ _ => h1 _) (fun _ => h0 _)) (fun t r ht => score_late (N := 2 * (i 2).val + 2) (by omega) t r ht)

end

end Cert.MobaIdeal.Head

end
-- ==== Proof.MobaPoint.lean ====
/- The attention kernel's result: every grid point's block, and the whole array. -/
module

public import proofs.«01_k».proof.Proof.MobaHead
public import proofs.«01_k».proof.Proof.MobaIdealFrame
public import Idealize.ShloMosaic.Lib.WritesUnit

@[expose] public section

set_option maxRecDepth 16384

noncomputable section

namespace Cert.MobaIdeal.Point

open Cert.MobaIdeal Cert.MobaIdeal.Gen Cert.MobaIdeal.Out Cert.MobaIdeal.Loop Cert.MobaIdeal.Head Cert.MobaIdeal.Spec Idealize.ShloMosaic Idealize.ShloMosaic.TcCoe Idealize.SL.Sem

variable (m : (ℓ : Loc nD τ sig) → Buf (Elt Ideal) ℓ)

/-- Which block every window shows at a grid point, and the point's own number along the queries. -/
theorem idx : ∀ t : Fin cfg0.N, win0_0.index t = ![t.val / 8 % 8, t.val / 64 * 8 + t.val % 8] ∧ win0_1.index t = ![t.val / 64, 0, t.val / 8 % 8]
    ∧ win0_2.index t = ![t.val / 64, t.val / 8 % 8, 0] ∧ win0_3.index t = ![t.val / 64, 0, t.val / 8 % 8] ∧ win0_4.index t = ![t.val / 8 % 8, t.val / 64 * 8 + t.val % 8]
    ∧ (grid0.coords t 2).val = t.val % 8 :=
  (by decide +kernel : ∀ t : Fin grid0.N, _)

/-- The two heads' stores, read back. -/
theorem outs_at (A B : FVec Ideal S80x512 .f32) (p : Fin 128) (q : Fin 512) :
    VO0_4.read (Elt Ideal) (VO0_4.writes (Elt Ideal) VO0_4.junk (outs A B)) (ix2 p q)
      = if h : p.val < 64 then k0_pay1 (F := Ideal) A (ix2 ⟨p.val, h⟩ q) else k0_pay1 (F := Ideal) B (ix2 ⟨p.val - 64, by omega⟩ q) := by
  by_cases h : p.val < 64
  · rw [dif_pos h]
    refine (View.read_writes_cons_rows_of_not_mem (Val := Elt Ideal) (e := .bf16) (d := ![128, 512]) (o := 64) (W := 64) VO0_4 _ _ (k0_pay1 (F := Ideal) B) _ (ix2 p q) rfl rfl (Or.inl h)).trans ?_
    exact View.read_writes_cons_rows_of_mem (Val := Elt Ideal) (e := .bf16) (d := ![128, 512]) (o := 0) VO0_4 _ _ (k0_pay1 (F := Ideal) A) _ (ix2 p q) (ix2 ⟨p.val, h⟩ q) rfl (show p.val = 0 + p.val by omega) rfl
  · rw [dif_neg h]
    exact View.read_writes_cons_rows_of_mem (Val := Elt Ideal) (e := .bf16) (d := ![128, 512]) (o := 64) VO0_4 _ _ (k0_pay1 (F := Ideal) B) _ (ix2 p q) (ix2 ⟨p.val - 64, by omega⟩ q) rfl (show p.val = 64 + (p.val - 64) by omega) rfl

/-- The attention at row `R` (a channel of a head) and column `Q` (a position of a sequence), of the whole arrays. -/
def out (X0 : FVec Ideal S1024x16384 .bf16) (X1 : FVec Ideal S16384x1024 .bf16) (X2 : FVec Ideal S64x1024x256 .bf16) (X3 : FVec Ideal S4x16x1024 .f32)
    (R : Fin 1024) (Q : Fin 16384) : EReal :=
  attend
    (Spec.score
      (fun t r d => X1 (ix2 ⟨Q.val / 4096 * 4096 + (256 * t + r.val) % 4096, by omega⟩ ⟨R.val / 64 * 64 + d.val, by omega⟩))
      (fun j d => X3 (ix3 ⟨Q.val / 4096, by omega⟩ j ⟨R.val / 64 * 64 + d.val, by omega⟩))
      (fun d => X0 (ix2 ⟨R.val / 64 * 64 + d.val, by omega⟩ Q)) (Q.val % 4096))
    fun t r => X2 (ix3 ⟨Q.val / 4096 * 16 + t % 16, by omega⟩ R r)

/-- The result array. -/
def G (X0 : FVec Ideal S1024x16384 .bf16) (X1 : FVec Ideal S16384x1024 .bf16) (X2 : FVec Ideal S64x1024x256 .bf16) (X3 : FVec Ideal S4x16x1024 .f32) : FVec Ideal S1024x16384 .bf16 :=
  fun y => out X0 X1 X2 X3 (y 0) (y 1)

/-- A block's queries. -/
theorem q_blk (c : Dev nD) (t : Fin cfg0.N) (ht : t.val < 256) (p : Fin 128) (q : Fin 512) :
    (iblk m c 0 t : FVec Ideal S128x512 .bf16) (ix2 p q) = (m ((c : Thread nD τ).loc main_arg0) : FVec Ideal S1024x16384 .bf16)
      (ix2 ⟨t.val / 8 % 8 * 128 + p.val, by omega⟩ ⟨(t.val / 64 * 8 + t.val % 8) * 512 + q.val, by omega⟩) := by
  blk_point [iblk, V, idx t]

/-- A block's keys. -/
theorem k_blk (c : Dev nD) (t : Fin cfg0.N) (ht : t.val < 256) (z : Fin 1) (n : Fin 4096) (p : Fin 128) :
    (iblk m c 1 t : FVec Ideal S1x4096x128 .bf16) (ix3 z n p) = (m ((c : Thread nD τ).loc main_arg1) : FVec Ideal S16384x1024 .bf16)
      (ix2 ⟨t.val / 64 * 4096 + n.val, by omega⟩ ⟨t.val / 8 % 8 * 128 + p.val, by omega⟩) := by
  blk_point [iblk, V, idx t]

/-- A block's values. -/
theorem v_blk (c : Dev nD) (t : Fin cfg0.N) (ht : t.val < 256) (j : Fin 16) (p : Fin 128) (r : Fin 256) :
    (iblk m c 2 t : FVec Ideal S16x128x256 .bf16) (ix3 j p r) = (m ((c : Thread nD τ).loc main_arg2) : FVec Ideal S64x1024x256 .bf16)
      (ix3 ⟨t.val / 64 * 16 + j.val, by omega⟩ ⟨t.val / 8 % 8 * 128 + p.val, by omega⟩ r) := by
  blk_point [iblk, V, idx t]

/-- A block's mean keys. -/
theorem km_blk (c : Dev nD) (t : Fin cfg0.N) (ht : t.val < 256) (z : Fin 1) (j : Fin 16) (p : Fin 128) :
    (iblk m c 3 t : FVec Ideal S1x16x128 .f32) (ix3 z j p) = (m ((c : Thread nD τ).loc main_arg3) : FVec Ideal S4x16x1024 .f32)
      (ix3 ⟨t.val / 64, by omega⟩ j ⟨t.val / 8 % 8 * 128 + p.val, by omega⟩) := by
  blk_point [iblk, V, idx t]

/-- Every number of an array is finite. -/
def AllFin {s : Shape} (X : s.Idx → EReal) : Prop := ∀ y, X y ≠ (⊥ : EReal) ∧ X y ≠ (⊤ : EReal)

/-- The queries a grid point reads are finite when all queries are. -/
theorem q_fin (c : Dev nD) (t : Fin cfg0.N) (ht : t.val < 256) (h : AllFin (s := S1024x16384) (m ((c : Thread nD τ).loc main_arg0))) : ∀ y, (iblk m c 0 t : FVec Ideal S128x512 .bf16) y ≠ (⊥ : EReal) ∧ (iblk m c 0 t : FVec Ideal S128x512 .bf16) y ≠ (⊤ : EReal) := fun y => by
  idx_vars y
  rw [q_blk m c t ht]
  exact h _

/-- The keys a grid point reads are finite when all keys are. -/
theorem k_fin (c : Dev nD) (t : Fin cfg0.N) (ht : t.val < 256) (h : AllFin (s := S16384x1024) (m ((c : Thread nD τ).loc main_arg1))) : ∀ y, (iblk m c 1 t : FVec Ideal S1x4096x128 .bf16) y ≠ (⊥ : EReal) ∧ (iblk m c 1 t : FVec Ideal S1x4096x128 .bf16) y ≠ (⊤ : EReal) := fun y => by
  idx_vars y
  rw [k_blk m c t ht]
  exact h _

/-- The mean keys a grid point reads are finite when all mean keys are. -/
theorem km_fin (c : Dev nD) (t : Fin cfg0.N) (ht : t.val < 256) (h : AllFin (s := S4x16x1024) (m ((c : Thread nD τ).loc main_arg3))) : ∀ y, (iblk m c 3 t : FVec Ideal S1x16x128 .f32) y ≠ (⊥ : EReal) ∧ (iblk m c 3 t : FVec Ideal S1x16x128 .f32) y ≠ (⊤ : EReal) := fun y => by
  idx_vars y
  rw [km_blk m c t ht]
  exact h _

/-- The attention over a block's arrays is the attention over the whole arrays. -/
theorem block_out (c : Dev nD) (t : Fin cfg0.N) (ht : t.val < 256) (h : Fin 2) (d : Fin 64) (q : Fin 512) :
    attend (Spec.score (keyB (iblk m c 1 t) h) (meanB (iblk m c 3 t) h) (queryB (iblk m c 0 t) h q) (512 * (grid0.coords t 2).val + q.val)) (fun n r => valsOf (iblk m c 2 t) h n (ix2 d r))
      = out (m ((c : Thread nD τ).loc main_arg0)) (m ((c : Thread nD τ).loc main_arg1)) (m ((c : Thread nD τ).loc main_arg2)) (m ((c : Thread nD τ).loc main_arg3))
        ⟨t.val / 8 % 8 * 128 + (64 * h.val + d.val), by omega⟩ ⟨(t.val / 64 * 8 + t.val % 8) * 512 + q.val, by omega⟩ := by
  have hd := d.isLt
  have hh := h.isLt
  have hq := q.isLt
  have eb : ((t.val / 64 * 8 + t.val % 8) * 512 + q.val) / 4096 = t.val / 64 := by omega
  have eh : (t.val / 8 % 8 * 128 + (64 * h.val + d.val)) / 64 * 64 = t.val / 8 % 8 * 128 + 64 * h.val := by omega
  unfold out
  refine congrArg₂ attend ?_ ?_
  · have e1 : keyB (iblk m c 1 t) h = _ := funext fun n => funext fun r => funext fun d => k_blk m c t ht 0 _ _
    have e2 : meanB (iblk m c 3 t) h = _ := funext fun j => funext fun d => km_blk m c t ht 0 _ _
    have e3 : queryB (iblk m c 0 t) h q = _ := funext fun d => q_blk m c t ht _ _
    have e4 : 512 * (grid0.coords t 2).val + q.val = ((t.val / 64 * 8 + t.val % 8) * 512 + q.val) % 4096 := by rw [(idx t).2.2.2.2.2]; omega
    rw [e1, e2, e3, e4]
    congr 1
    · funext n r d
      congr 2 <;> apply Fin.ext <;> dsimp only <;> omega
    · funext j d
      congr 2 <;> apply Fin.ext <;> dsimp only <;> omega
    · funext d
      congr 2
      apply Fin.ext
      dsimp only
      omega
  · funext n r
    refine (v_blk m c t ht _ _ _).trans ?_
    congr 2
    apply Fin.ext
    dsimp only
    omega

/-- The result array after the last grid point. -/
theorem final4 (c : Dev nD) (h0 : AllFin (s := S1024x16384) (m ((c : Thread nD τ).loc main_arg0))) (h1 : AllFin (s := S16384x1024) (m ((c : Thread nD τ).loc main_arg1)))
    (h3 : AllFin (s := S4x16x1024) (m ((c : Thread nD τ).loc main_arg3))) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 256 := lt_of_lt_of_eq t.isLt (by decide +kernel)
  blk_simp
  rw [after0_4]
  idx_vars y
  have hy : ((View.whole main_v1).slice (win0_4.rect t)).emb (ix2 y0 y1) = ix2 ⟨t.val / 8 % 8 * 128 + y0.val, by omega⟩ ⟨(t.val / 64 * 8 + t.val % 8) * 512 + y1.val, by omega⟩ := by
    blk_ext [idx t]
  rw [hy]
  unfold outsAt0 out0_A_4
  rw [run_outs, outs_at]
  show _ = out _ _ _ _ ⟨t.val / 8 % 8 * 128 + y0.val, _⟩ ⟨(t.val / 64 * 8 + t.val % 8) * 512 + y1.val, _⟩
  by_cases h : y0.val < 64
  · rw [dif_pos h, head_out (grid0.coords t) (iblk m c 0 t) (iblk m c 1 t) (iblk m c 2 t) (iblk m c 3 t) 0 (q_fin m c t ht h0) (k_fin m c t ht h1) (km_fin m c t ht h3) (padded0 _), block_out m c t ht]
    congr 1
    apply Fin.ext
    show t.val / 8 % 8 * 128 + (64 * 0 + y0.val) = t.val / 8 % 8 * 128 + y0.val
    omega
  · rw [dif_neg h, head_out (grid0.coords t) (iblk m c 0 t) (iblk m c 1 t) (iblk m c 2 t) (iblk m c 3 t) 1 (q_fin m c t ht h0) (k_fin m c t ht h1) (km_fin m c t ht h3) (padded1 _), block_out m c t ht]
    congr 1
    apply Fin.ext
    show t.val / 8 % 8 * 128 + (64 * 1 + (y0.val - 64)) = t.val / 8 % 8 * 128 + y0.val
    omega

end Cert.MobaIdeal.Point

end
-- ==== Proof.MobaRefGate.lean ====
/- The attention's reference: the queries, keys, values and mean keys of a head, and the blocks its gate picks. -/
module

public import proofs.«01_k».proof.Proof.MobaSpec
public import proofs.«01_k».proof.Proof.Gen.MobaRefIdeal.Read
public import Idealize.ShloMosaic.Lib.Pointwise
public import Idealize.ShloMosaic.Lib.SortFacts
public import Idealize.ShloMosaic.Lib.WordCmp

@[expose] public section

set_option maxRecDepth 16384

noncomputable section

namespace Cert.MobaRefIdeal.Point

open Cert.MobaRefIdeal Cert.MobaRefIdeal.Read Cert.MobaRefIdeal.Gen Idealize.ShloMosaic Idealize.ShloMosaic.TcCoe Idealize.SL.Sem

variable (x0 : FVec Ideal S1024x16384 .bf16) (x1 : FVec Ideal S16384x1024 .bf16) (x2 : FVec Ideal S64x1024x256 .bf16) (x3 : FVec Ideal S4x16x1024 .f32)

/-- A channel of head `h`. -/
def chan (h : Fin 16) (d : Fin 64) : Fin 1024 := ⟨h.val * 64 + d.val, by omega⟩

/-- A row of sequence `b`. -/
def row (b : Fin 4) (n : Fin 4096) : Fin 16384 := ⟨b.val * 4096 + n.val, by omega⟩

/-- The queries by head, channel, sequence and position. -/
theorem q_at (h : Fin 16) (d : Fin 64) (b : Fin 4) (n : Fin 4096) :
    val_main_v1 (F := Ideal) x0 (ix4 h d b n) = x0 (ix2 (chan h d) (row b n)) := by
  pointwise [val_main_v0, val_main_v1]
  congr 2 <;> apply Fin.ext <;> simp only [chan, row] <;> omega

/-- The keys by sequence, position, head and channel. -/
theorem k_at (b : Fin 4) (n : Fin 4096) (h : Fin 16) (d : Fin 64) :
    val_main_v3 (F := Ideal) x1 (ix4 b n h d) = x1 (ix2 (row b n) (chan h d)) := by
  pointwise [val_main_v2, val_main_v3]
  congr 2 <;> apply Fin.ext <;> simp only [chan, row] <;> omega

/-- The mean keys by sequence, block, head and channel. -/
theorem km_at (b : Fin 4) (j : Fin 16) (h : Fin 16) (d : Fin 64) :
    val_main_v6 (F := Ideal) x3 (ix4 b j h d) = x3 (ix3 b j (chan h d)) := by
  pointwise [val_main_v6]
  congr 2 <;> apply Fin.ext <;> simp only [chan, row] <;> omega

/-- The values by sequence, head, channel and position. -/
theorem v_at (b : Fin 4) (h : Fin 16) (d : Fin 64) (n : Fin 4096) :
    val_main_v65 (F := Ideal) x2 (ix4 b h d n)
      = x2 (ix3 ⟨b.val * 16 + n.val / 256, by omega⟩ (chan h d) ⟨n.val % 256, by omega⟩) := by
  pointwise [val_main_v4, val_main_v5, val_main_v64, val_main_v65]
  congr 2 <;> apply Fin.ext <;> simp only [chan, row] <;> omega

/-- The floored quotient of a position by 256, of words. -/
def curWord (a : BitVec 32) : BitVec 32 :=
  Scalar.select
    (IntOp.andi
      (IntOp.cmpi .ne (if a = 0 then 0 else if a.msb = true then -1 else 1 : BitVec 32) (if (256#32) = 0 then 0 else if BitVec.msb (256#32) = true then -1 else 1))
      (IntOp.cmpi .ne (IntOp.remsi .host a 256#32) 0#32))
    (IntOp.subi (IntOp.divsi .host a 256#32) 1#32) (IntOp.divsi .host a 256#32)

/-- The block word of a position is the position divided by 256. -/
theorem curWord_eq : ∀ n : Fin 4096, curWord (BitVec.ofNat 32 n.val) = BitVec.ofNat 32 (n.val / 256) := by
  decide +kernel

/-- The block of a position. -/
theorem cur_at (n : Fin 4096) : val_main_v9 (F := Ideal) (ix1 n) = BitVec.ofNat 32 (n.val / 256) := by
  refine Eq.trans ?_ (curWord_eq n)
  pointwise [val_main_v7, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v9]
  rfl

/-- The gate's score before masking. -/
theorem dot_at (b : Fin 4) (h : Fin 16) (n : Fin 4096) (j : Fin 16) :
    val_main_v10 (F := Ideal) x0 x3 (ix4 b h n j) = ∑ d : Fin 64, x3 (ix3 b j (chan h d)) * x0 (ix2 (chan h d) (row b n)) := by
  pointwise [val_main_v10]
  refine Finset.sum_congr rfl fun d _ => ?_
  rw [q_at, km_at, mul_comm]

/-- The scores of the keys before masking. -/
theorem s_at (b : Fin 4) (h : Fin 16) (n : Fin 4096) (k : Fin 4096) :
    val_main_v36 (F := Ideal) x0 x1 (ix4 b h n k) = ∑ d : Fin 64, x1 (ix2 (row b k) (chan h d)) * x0 (ix2 (chan h d) (row b n)) := by
  pointwise [val_main_v36]
  refine Finset.sum_congr rfl fun d _ => ?_
  rw [q_at, k_at, mul_comm]

/-- The query of head `h` at position `n` of sequence `b`. -/
def qry (b : Fin 4) (h : Fin 16) (n : Fin 4096) : Fin 64 → EReal := fun d => x0 (ix2 (chan h d) (row b n))

/-- The mean keys of head `h` in sequence `b`. -/
def means (b : Fin 4) (h : Fin 16) : Fin 16 → Fin 64 → EReal := fun j d => x3 (ix3 b j (chan h d))

/-- The gate. -/
theorem gate_at (b : Fin 4) (h : Fin 16) (n : Fin 4096) (j : Fin 16) :
    val_main_v16 (F := Ideal) x0 x3 (ix4 b h n j) = MobaIdeal.Spec.gate (means x3 b h) (qry x0 b h n) n.val j := by
  pointwise [val_main_v8, val_main_v11, val_main_v12, val_main_v13, val_main_v14, val_main_v15, val_main_cst, val_main_call1_v0, val_main_call1_v1, val_main_call1_v2, val_main_v16]
  rw [cur_at, dot_at]
  have hj := j.isLt
  have hn := n.isLt
  have e := WordCmp.cmpi_slt_ofNat (w := 32) (a := j.val) (b := n.val / 256) (by norm_num; omega) (by norm_num; omega)
  rw [e, WordCmp.select_ofBool]
  unfold MobaIdeal.Spec.gate
  have hb : (id (constant (F := Ideal) S_ .f32 0xFF800000#32) ix0 : EReal) = ⊥ := by
    show Ideal.ofBits .f32 0xFF800000#32 = ⊥
    simp [Ideal.ofBits, Ideal.ieee]
  rw [hb]
  simp only [decide_eq_true_eq]
  rfl

/-- Another place along the last axis. -/
theorem along_at (b : Fin 4) (h : Fin 16) (n : Fin 4096) (a k : Fin 16) :
    Shape.Idx.along (s := S4x16x4096x16) (ix4 b h n a) 3 k = ix4 b h n k := by
  funext i
  fin_cases i <;> rfl

/-- A decided bit is one where the statement holds. -/
theorem bit_iff (p : Prop) [Decidable p] : BitVec.ofBool (decide p) = 1#1 ↔ p := by
  by_cases h : p <;> simp [h]

/-- A conjunction of bits is one where both are. -/
theorem and_iff (a b : BitVec 1) : IntOp.andi a b = 1#1 ↔ a = 1#1 ∧ b = 1#1 := by
  revert a b; decide

/-- A disjunction of bits is one where one of them is. -/
theorem or_iff (a b : BitVec 1) : IntOp.ori a b = 1#1 ↔ a = 1#1 ∨ b = 1#1 := by
  revert a b; decide

/-- A disjunction over an index is one where one of the bits is. -/
theorem any_iff {n : ℕ} (s : Finset (Fin n)) (f : Fin n → BitVec 1) : s.fold IntOp.ori (0#1) f = 1#1 ↔ ∃ x ∈ s, f x = 1#1 := by
  induction s using Finset.induction_on with
  | empty => simp
  | insert a s ha ih => rw [Finset.fold_insert ha, or_iff, ih, Finset.exists_mem_insert]

/-- The order of the sort along the last axis. -/
def ord (g : FVec Ideal S4x16x4096x16 .f32) (b : Fin 4) (h : Fin 16) (n : Fin 4096) (a c : Fin 16) : Bool :=
  FloatOps.cmpfTotal (F := Ideal) (φ := .f32) .gt (g (ix4 b h n a)) (g (ix4 b h n c)) == 1#1

/-- The order of the sort is the order of the numbers. -/
theorem ord_iff (g : FVec Ideal S4x16x4096x16 .f32) (b : Fin 4) (h : Fin 16) (n : Fin 4096) (a c : Fin 16) :
    ord g b h n a c = true ↔ (g (ix4 b h n c) : EReal) < g (ix4 b h n a) := by
  unfold ord
  show (Ideal.cmpTotal .gt (g (ix4 b h n a)) (g (ix4 b h n c)) == 1#1) = true ↔ _
  unfold Ideal.cmpTotal
  simp only [Ideal.cmp, CmpDirection.ordered, beq_iff_eq]
  exact bit_iff _

/-- The place in the operand a place of the sort is read from. -/
theorem place (g : FVec Ideal S4x16x4096x16 .f32) (b : Fin 4) (h : Fin 16) (n : Fin 4096) (r : Fin 16) (J : S4x16x4096x16.Idx) (hJ : J = ix4 b h n r) :
    J.along 3 (sortedFrom (fun k k' => FloatOps.cmpfTotal (F := Ideal) (φ := .f32) .gt (g (J.along 3 k)) (g (J.along 3 k')) == 1#1) (J 3))
      = ix4 b h n (sortedFrom (ord g b h n) r) := by
  have ha : ∀ k : Fin 16, J.along 3 k = ix4 b h n k := by rw [hJ]; exact along_at b h n r
  have h3 : J 3 = r := by rw [hJ]; rfl
  have e : (fun k k' : Fin 16 => FloatOps.cmpfTotal (F := Ideal) (φ := .f32) .gt (g (J.along 3 k)) (g (J.along 3 k')) == 1#1) = ord g b h n := by
    funext k k'
    rw [ha k, ha k']
    rfl
  refine (ha _).trans (congrArg (ix4 b h n) ?_)
  exact congr (congrArg sortedFrom e) h3

/-- The first places of the sort: the scores. -/
theorem topK_at (g : FVec Ideal S4x16x4096x16 .f32) (b : Fin 4) (h : Fin 16) (n : Fin 4096) (r : Fin 3) :
    (Host.topK S4x16x4096x3 3 (FloatOps.cmpfTotal .gt) g sliceFits_S4x16x4096x16_S4x16x4096x3).1 (ix4 b h n r)
      = g (ix4 b h n (sortedFrom (ord g b h n) ⟨r.val, by omega⟩)) := by
  unfold Host.topK Host.sort2
  dsimp only
  simp only [show 3 < S4x16x4096x16.rank by decide, dite_true]
  refine congrArg g (place g b h n _ _ ?_)
  funext i
  fin_cases i <;> apply Fin.ext <;> simp

/-- The first places of the sort: the blocks' numbers. -/
theorem topK_idx_at (g : FVec Ideal S4x16x4096x16 .f32) (b : Fin 4) (h : Fin 16) (n : Fin 4096) (r : Fin 3) :
    (Host.topK S4x16x4096x3 3 (FloatOps.cmpfTotal .gt) g sliceFits_S4x16x4096x16_S4x16x4096x3).2 (ix4 b h n r)
      = BitVec.ofNat 32 (sortedFrom (ord g b h n) ⟨r.val, by omega⟩).val := by
  unfold Host.topK Host.sort2
  dsimp only
  simp only [show 3 < S4x16x4096x16.rank by decide, dite_true]
  have e : ∀ x : Fin 16, (fun i : S4x16x4096x16.Idx => BitVec.ofNat 32 (i 3).val) (ix4 b h n x) = BitVec.ofNat 32 x.val := fun x => rfl
  refine (congrArg (fun i : S4x16x4096x16.Idx => BitVec.ofNat 32 (i 3).val) (place g b h n ⟨r.val, by omega⟩ _ ?_)).trans (e _)
  funext i
  fin_cases i <;> apply Fin.ext <;> simp

/-- Whether one of the first three places of the sort is a block, scored above minus infinity. -/
theorem taken_at (b : Fin 4) (h : Fin 16) (n : Fin 4096) (j : Fin 16) :
    val_main_v27 (F := Ideal) x0 x3 (ix4 b h n j) = 1#1
      ↔ Pick.picked MobaIdeal.Gate.big (MobaIdeal.Spec.gate (means x3 b h) (qry x0 b h n) n.val) j := by
  pointwise [val_main_v8, val_main_values, val_main_indices, val_main_v17, val_main_v18, val_main_v19, val_main_v20, val_main_v21, val_main_cst_0, val_main_v22, val_main_v23, val_main_v24, val_main_v25, val_main_v26, val_main_c_1, val_main_v27]
  have hg : (fun k : Fin 16 => (val_main_v16 (F := Ideal) x0 x3 (ix4 b h n k) : EReal)) = MobaIdeal.Spec.gate (means x3 b h) (qry x0 b h n) n.val :=
    funext fun k => gate_at x0 x3 b h n k
  have hn : Ideal.ofBits .f32 0xFF800000#32 = ⊥ := by simp [Ideal.ofBits, Ideal.ieee]
  generalize val_main_v16 (F := Ideal) x0 x3 = g at hg ⊢
  rw [any_iff, ← hg, Pick.picked_iff MobaIdeal.Gate.num_le_big (by norm_num) (Pick.sorted_before _ (ord g b h n) (ord_iff g b h n)) (sortedFrom_surjective _)]
  simp only [Finset.mem_univ, true_and, and_iff, bit_iff, hn]
  refine exists_congr fun r => and_congr ?_ ?_
  · rw [topK_idx_at]
    have hs := (sortedFrom (ord g b h n) ⟨r.val, by omega⟩).isLt
    have hj := j.isLt
    refine (WordCmp.cmpi_eq_ofNat_eq_one_iff (w := 32) (by norm_num; omega) (by norm_num; omega)).trans ?_
    exact Fin.ext_iff.symm
  · rw [topK_at]

end Cert.MobaRefIdeal.Point

end
-- ==== Proof.MobaRefPoint.lean ====
/- The attention's reference: masked scores, softmax and weighted values. -/
module

public import proofs.«01_k».proof.Proof.MobaRefGate
public import proofs.«01_k».proof.Proof.MobaPoint
public import proofs.«01_k».proof.Proof.Gen.Pre_finite_scores
public import Idealize.ShloMosaic.Lib.ReduceAll

@[expose] public section

set_option maxRecDepth 16384

noncomputable section

namespace Cert.MobaRefIdeal.Point

open Cert.MobaRefIdeal Cert.MobaRefIdeal.Read Cert.MobaRefIdeal.Gen Cert.Online Idealize.ShloMosaic Idealize.ShloMosaic.TcCoe Idealize.SL.Sem

variable (x0 : FVec Ideal S1024x16384 .bf16) (x1 : FVec Ideal S16384x1024 .bf16) (x2 : FVec Ideal S64x1024x256 .bf16) (x3 : FVec Ideal S4x16x1024 .f32)

/-- The keys of head `h` in sequence `b`, by block and place in it. -/
def keys (b : Fin 4) (h : Fin 16) : ℕ → Fin 256 → Fin 64 → EReal :=
  fun t r d => x1 (ix2 (row b ⟨(256 * t + r.val) % 4096, Nat.mod_lt _ (by norm_num)⟩) (chan h d))

/-- The score of every key for the query of head `h` at position `n` of sequence `b`. -/
def scores (b : Fin 4) (h : Fin 16) (n : Fin 4096) : ℕ → Fin 256 → EReal :=
  MobaIdeal.Spec.score (keys x1 b h) (means x3 b h) (qry x0 b h n) n.val

/-- A block is open to a query when it is the query's own or picked. -/
theorem allow_at (b : Fin 4) (h : Fin 16) (n : Fin 4096) (j : Fin 16) :
    val_main_v35 (F := Ideal) x0 x3 (ix4 b h n j) = 1#1
      ↔ (j.val = n.val / 256 ∨ Pick.picked MobaIdeal.Gate.big (MobaIdeal.Spec.gate (means x3 b h) (qry x0 b h n) n.val) j) := by
  pointwise [val_main_v8, val_main_v28, val_main_v29, val_main_v30, val_main_v31, val_main_v32, val_main_v33, val_main_v34, val_main_v35]
  rw [or_iff, taken_at, cur_at]
  have hj := j.isLt
  have hn := n.isLt
  rw [WordCmp.cmpi_eq_ofNat_eq_one_iff (w := 32) (by norm_num; omega) (by norm_num; omega)]
  exact or_comm

/-- The masked scores. -/
theorem masked_at (b : Fin 4) (h : Fin 16) (n k : Fin 4096) :
    val_main_v47 (F := Ideal) x0 x1 x3 (ix4 b h n k) = scores x0 x1 x3 b h n (k.val / 256) ⟨k.val % 256, Nat.mod_lt _ (by norm_num)⟩ := by
  have hk := k.isLt
  have hn := n.isLt
  have hm : val_main_v46 (F := Ideal) x0 x3 (ix4 b h n k) = 1#1 ↔
      ((∃ j : Fin 16, j.val = k.val / 256 ∧ (j.val = n.val / 256 ∨ Pick.picked MobaIdeal.Gate.big (MobaIdeal.Spec.gate (means x3 b h) (qry x0 b h n) n.val) j))
        ∧ 256 * (k.val / 256) + k.val % 256 ≤ n.val) := by
    pointwise [val_main_v7, val_main_v37, val_main_v38, val_main_v39, val_main_v40, val_main_v41, val_main_v42, val_main_v43, val_main_v44, val_main_v45, val_main_v46]
    rw [and_iff, allow_at, WordCmp.cmpi_sle_ofNat_eq_one_iff (w := 32) (by norm_num; omega) (by norm_num; omega)]
    have hK : k.val / 256 < 16 := by omega
    refine and_congr ⟨fun H => ⟨⟨k.val / 256, hK⟩, rfl, H⟩, fun ⟨j, hj, H⟩ => ?_⟩ (by omega)
    obtain rfl : j = ⟨k.val / 256, hK⟩ := Fin.ext hj
    exact H
  have hs := s_at x0 x1 b h n k
  unfold val_main_v47
  generalize val_main_v46 (F := Ideal) x0 x3 = c at hm ⊢
  generalize val_main_v36 (F := Ideal) x0 x1 = s at hs ⊢
  pointwise [val_main_cst_2, val_main_call2_v0, val_main_call2_v1]
  rw [hs]
  unfold scores MobaIdeal.Spec.score
  by_cases H : c (ix4 b h n k) = 1#1
  · rw [if_pos (hm.mp H), WordCmp.select_of_eq_one H]
    refine Finset.sum_congr rfl fun d _ => ?_
    unfold keys qry
    congr 3
    unfold row
    apply Fin.ext
    show b.val * 4096 + k.val = b.val * 4096 + (256 * (k.val / 256) + k.val % 256) % 4096
    omega
  · rw [if_neg fun h' => H (hm.mpr h'), WordCmp.select_of_eq_zero (by revert H; generalize c (ix4 b h n k) = w; revert w; decide)]
    show Ideal.ofBits .f32 0xFF800000#32 = ⊥
    simp [Ideal.ofBits, Ideal.ieee]

/-- A key by its number among all of the sequence's. -/
theorem tile_eq (f : ℕ → Fin 256 → EReal) (t : ℕ) (r : Fin 256) :
    f ((256 * t + r.val) / 256) ⟨(256 * t + r.val) % 256, Nat.mod_lt _ (by norm_num)⟩ = f t r := by
  have h1 : (256 * t + r.val) / 256 = t := by omega
  have h2 : (⟨(256 * t + r.val) % 256, Nat.mod_lt _ (by norm_num)⟩ : Fin 256) = r := Fin.ext (by show (256 * t + r.val) % 256 = r.val; omega)
  rw [h1, h2]

/-- A sum over all keys, block by block. -/
theorem sum_tiles (f : ℕ → Fin 256 → EReal) :
    ∑ k : Fin 4096, f (k.val / 256) ⟨k.val % 256, Nat.mod_lt _ (by norm_num)⟩ = ∑ t ∈ Finset.range 16, ∑ r, f t r := by
  rw [Finset.sum_range (fun t => ∑ r, f t r), ← Fintype.sum_prod_type' (fun (t : Fin 16) r => f t.val r)]
  refine (Fintype.sum_equiv (finProdFinEquiv (m := 16) (n := 256)) _ _ fun x => ?_).symm
  obtain ⟨t, r⟩ := x
  show f t.val r = f ((finProdFinEquiv (t, r)).val / 256) ⟨(finProdFinEquiv (t, r)).val % 256, _⟩
  have e : (finProdFinEquiv (t, r) : Fin (16 * 256)).val = 256 * t.val + r.val := by
    simp [finProdFinEquiv]; omega
  simp only [e]
  exact (tile_eq f t.val r).symm

/-- The greatest masked score. -/
theorem max_at (b : Fin 4) (h : Fin 16) (n : Fin 4096) :
    val_main_v48 (F := Ideal) x0 x1 x3 (ix3 b h n) = peak (scores x0 x1 x3 b h n) 16 := by
  have hm := fun k => masked_at x0 x1 x3 b h n k
  unfold val_main_v48
  generalize val_main_v47 (F := Ideal) x0 x1 x3 = s at hm ⊢
  pointwise [val_main_cst_3]
  simp only [hm]
  have hb : Ideal.ofBits .f32 0xFF800000#32 = ⊥ := by simp [Ideal.ofBits, Ideal.ieee]
  rw [hb]
  apply le_antisymm
  · refine (Finset.fold_max_le _).mpr ⟨bot_le, fun k _ => le_peak _ (by have := k.isLt; omega) _⟩
  · refine peak_le fun t r ht => (Finset.le_fold_max _).mpr (Or.inr ⟨⟨256 * t + r.val, by omega⟩, Finset.mem_univ _, le_of_eq ?_⟩)
    exact (tile_eq (scores x0 x1 x3 b h n) t r).symm

/-- Two to the power of a number. -/
theorem pow_two (x : EReal) : Ideal.pow (Ideal.ofBits .f32 0x40000000#32) x = Ideal.exp2 x := by
  have h : Ideal.ofBits .f32 0x40000000#32 = ((2 : ℝ) : EReal) := by
    simp [Ideal.ofBits, Ideal.ieee, -EReal.coe_mul]; norm_num
  rw [h]
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-- A finite number's magnitude is less than plus infinity. -/
theorem abs_lt {x : EReal} (hx : MobaIdeal.Spec.Fin' x) : (FloatOps.absf (F := Ideal) (φ := .f32) x : EReal) < Ideal.ofBits .f32 0x7F800000#32 := by
  have h : Ideal.ofBits .f32 0x7F800000#32 = ⊤ := by simp [Ideal.ofBits, Ideal.ieee]
  rw [h]
  obtain ⟨h1, h2⟩ := hx
  lift x to ℝ using ⟨h2, h1⟩
  show max (x : EReal) (-x) < ⊤
  rw [← EReal.coe_neg]
  exact max_lt (EReal.coe_lt_top _) (EReal.coe_lt_top _)

/-- One score's reading of the greatest. -/
theorem one_at (b : Fin 4) (h : Fin 16) (n k : Fin 4096) : idx_main_v49 (idx_main_v55 (ix4 b h n k)) = ix3 b h n := by
  funext a
  fin_cases a <;> rfl

/-- One score's reading of the total. -/
theorem total_idx (b : Fin 4) (h : Fin 16) (n k : Fin 4096) : idx_main_v59 (idx_main_v62 (ix4 b h n k)) = ix3 b h n := by
  funext a
  fin_cases a <;> rfl

/-- The keys a total is over. -/
theorem sum_idx (b : Fin 4) (h : Fin 16) (n k : Fin 4096) : idx_main_v58 (ix3 b h n) k = ix4 b h n k := by
  funext a
  fin_cases a <;> rfl

/-- The value a weight goes with. -/
theorem val_idx (b : Fin 4) (h : Fin 16) (d : Fin 64) (n k : Fin 4096) : lidx_main_v66 (ix4 h b d n) k = ix4 b h d k := by
  funext a
  fin_cases a <;> rfl

/-- The weight of a key. -/
theorem wt_idx (b : Fin 4) (h : Fin 16) (d : Fin 64) (n k : Fin 4096) : ridx_main_v66 (ix4 h b d n) k = ix4 b h n k := by
  funext a
  fin_cases a <;> rfl

/-- The subtracted score: the greatest, being finite. -/
theorem base_at (b : Fin 4) (h : Fin 16) (n k : Fin 4096) (hf : MobaIdeal.Spec.Fin' (peak (scores x0 x1 x3 b h n) 16)) :
    val_main_v55 (F := Ideal) x0 x1 x3 (ix4 b h n k) = peak (scores x0 x1 x3 b h n) 16 := by
  have hm := max_at x0 x1 x3 b h n
  rw [val_main_v55_apply, val_main_v53_apply, val_main_v52_apply, val_main_v50_apply, val_main_v49_apply, val_main_v51_apply, val_main_cst_4_apply, one_at, hm]
  generalize peak (scores x0 x1 x3 b h n) 16 = M at hf ⊢
  refine WordCmp.select_of_eq_one ?_ _ _
  exact (bit_iff _).mpr (abs_lt hf)

/-- The weight of a key before it is divided by the total. -/
theorem weight_at (b : Fin 4) (h : Fin 16) (n k : Fin 4096) (hf : MobaIdeal.Spec.Fin' (peak (scores x0 x1 x3 b h n) 16)) :
    val_main_v57 (F := Ideal) x0 x1 x3 (ix4 b h n k)
      = Ideal.exp2 (scores x0 x1 x3 b h n (k.val / 256) ⟨k.val % 256, Nat.mod_lt _ (by norm_num)⟩ - peak (scores x0 x1 x3 b h n) 16) := by
  rw [val_main_v57_apply, val_main_v54_apply, val_main_cst_6_apply, val_main_v56_apply, base_at x0 x1 x3 b h n k hf, masked_at]
  exact pow_two _

/-- The total of the weights, at least the small constant. -/
theorem total_at (b : Fin 4) (h : Fin 16) (n k : Fin 4096) (hf : MobaIdeal.Spec.Fin' (peak (scores x0 x1 x3 b h n) 16)) :
    val_main_v62 (F := Ideal) x0 x1 x3 (ix4 b h n k)
      = max (gather (scores x0 x1 x3 b h n) (fun _ _ => 1) (peak (scores x0 x1 x3 b h n) 16) 16) MobaIdeal.Spec.eps := by
  rw [val_main_v62_apply, val_main_v61_apply, val_main_v60_apply, val_main_cst_8_apply, val_main_v59_apply, total_idx, val_main_v58_apply, val_main_cst_7_apply]
  simp only [sum_idx, weight_at x0 x1 x3 b h n _ hf]
  generalize scores x0 x1 x3 b h n = s
  unfold gather
  rw [← sum_tiles (fun t r => 1 * Ideal.exp2 (s t r - peak s 16))]
  simp only [one_mul]
  have hz : (FloatOps.ofBits (F := Ideal) .f32 0x00000000#32 : EReal) = 0 := Ideal.ofBits_zero_f32
  rw [hz, zero_add]
  rfl

/-- The result of head `h`. -/
theorem ref_at (b : Fin 4) (h : Fin 16) (d : Fin 64) (n : Fin 4096) (hf : MobaIdeal.Spec.Fin' (peak (scores x0 x1 x3 b h n) 16)) :
    val_main_v66 (F := Ideal) x0 x1 x2 x3 (ix4 h b d n)
      = MobaIdeal.Spec.attend (scores x0 x1 x3 b h n) fun t r => x2 (ix3 ⟨b.val * 16 + t % 16, by omega⟩ (chan h d) r) := by
  rw [val_main_v66_apply]
  simp only [val_idx, wt_idx, val_main_v63_apply, v_at, weight_at x0 x1 x3 b h n _ hf, total_at x0 x1 x3 b h n _ hf]
  generalize scores x0 x1 x3 b h n = s
  unfold MobaIdeal.Spec.attend
  rw [← sum_tiles]
  refine Finset.sum_congr rfl fun k _ => ?_
  rw [mul_comm]
  refine congrArg _ (congrArg (fun z => x2 (ix3 z (chan h d) _)) (Fin.ext ?_))
  show b.val * 16 + k.val / 256 = b.val * 16 + k.val / 256 % 16
  have := k.isLt
  omega

/-- The result array's rows and columns are heads' channels and sequences' positions. -/
theorem res_at (R : Fin 1024) (Q : Fin 16384) :
    val_main_v69 (F := Ideal) x0 x1 x2 x3 (ix2 R Q) = val_main_v66 (F := Ideal) x0 x1 x2 x3 (ix4 ⟨R.val / 64, by omega⟩ ⟨Q.val / 4096, by omega⟩ ⟨R.val % 64, by omega⟩ ⟨Q.val % 4096, by omega⟩) := by
  pointwise [val_main_v67, val_main_v68, val_main_v69]

/-- A channel by its head and its place in it. -/
theorem chan_eq (R : Fin 1024) : chan ⟨R.val / 64, by omega⟩ ⟨R.val % 64, by omega⟩ = R := by
  unfold chan
  apply Fin.ext
  dsimp only
  omega

/-- A row by its sequence and its position. -/
theorem row_eq (Q : Fin 16384) : row ⟨Q.val / 4096, by omega⟩ ⟨Q.val % 4096, by omega⟩ = Q := by
  unfold row
  apply Fin.ext
  dsimp only
  omega

/-- The reference's result is the attention, where queries and keys are finite. -/
theorem ref_eq (h0 : MobaIdeal.Point.AllFin x0) (h1 : MobaIdeal.Point.AllFin x1) :
    val_main_v69 (F := Ideal) x0 x1 x2 x3 = MobaIdeal.Point.G x0 x1 x2 x3 := by
  funext y
  idx_vars y
  show val_main_v69 (F := Ideal) x0 x1 x2 x3 (ix2 y0 y1) = MobaIdeal.Point.out x0 x1 x2 x3 y0 y1
  have hq : qry x0 ⟨y1.val / 4096, by omega⟩ ⟨y0.val / 64, by omega⟩ ⟨y1.val % 4096, by omega⟩ = fun d => x0 (ix2 (chan ⟨y0.val / 64, by omega⟩ d) y1) := by
    unfold qry
    rw [row_eq]
  rw [res_at, ref_at, chan_eq]
  · unfold scores
    rw [hq]
    rfl
  · unfold scores
    exact MobaIdeal.Spec.peak_fin (by show y1.val % 4096 < 4096; omega) (fun t r d => h1 _) fun d => h0 _

/-- An array every entry of which has a magnitude below plus infinity is finite. -/
theorem fin_of_all {s : Shape} {axes : List (Fin s.rank)} (X : FVec Ideal s .f32) (init : IVec S_ 1) (hb : S_.BroadcastsInDim s (![] : Fin 0 → Fin s.rank))
    (h : s.ReducesTo axes S_)
    (e : Host.reduce IntOp.andi (cmpf .olt (Host.absf X) (broadcastInDim s ![] hb (constant S_ .f32 0x7F800000#32))) init h h_S_ ix0 = 1#1) :
    ∀ y, (X y : EReal) ≠ ⊥ ∧ (X y : EReal) ≠ ⊤ := by
  intro y
  haveI : Subsingleton S_.Idx := ⟨fun a b => funext fun i => i.elim0⟩
  have h1 := Host.reduce_andi_all _ _ h h_S_ ix0 e y
  have h2 : (max (X y : EReal) (-X y)) < Ideal.ofBits .f32 0x7F800000#32 := (bit_iff _).mp h1
  have ht : Ideal.ofBits .f32 0x7F800000#32 = ⊤ := by simp [Ideal.ofBits, Ideal.ieee]
  rw [ht] at h2
  refine ⟨fun hx => ?_, fun hx => ?_⟩
  · rw [hx] at h2; simp at h2
  · rw [hx] at h2; simp at h2

/-- What the precondition says. -/
theorem pre_fin (h : Cert.Pre_finite_scores.fn (F := Ideal) x0 x1 x2 x3 = fun _ => 1#1) :
    MobaIdeal.Point.AllFin x0 ∧ MobaIdeal.Point.AllFin x1 ∧ MobaIdeal.Point.AllFin x3 := by
  have e := congrFun h ix0
  unfold Cert.Pre_finite_scores.fn at e
  dsimp only at e
  obtain ⟨e1, e3⟩ := (and_iff _ _).mp e
  obtain ⟨e0, e1⟩ := (and_iff _ _).mp e1
  exact ⟨fin_of_all (extf .f32 x0 (by decide)) _ _ _ e0, fin_of_all (extf .f32 x1 (by decide)) _ _ _ e1, fin_of_all x3 _ _ _ e3⟩

end Cert.MobaRefIdeal.Point

end
-- ==== Proof.ProjPoint.lean ====
/- The output projection: what a grid point stores, the array the call leaves, and the reference, each at one row and
   one channel. The kernel multiplies the transposed weights by the transposed rows and transposes the product. -/
module

public import proofs.«01_k».proof.Proof.Gen.ProjIdeal.Frame
public import proofs.«01_k».proof.Proof.Gen.ProjRefIdeal.Read
public import proofs.«01_k».proof.Proof.Rows
public import Idealize.ShloMosaic.Lib.Pipeline.ValueKit

@[expose] public section

set_option maxRecDepth 16384

noncomputable section

namespace Cert.ProjIdeal.Point

open Cert.ProjIdeal Cert.ProjIdeal.Gen Idealize.ShloMosaic Idealize.ShloMosaic.TcCoe Idealize.SL.Sem

/-- The value a grid point writes, at one place. -/
theorem out_at (x0 : FVec Ideal S1024x512 .bf16) (x1 : FVec Ideal S1024x1024 .bf16) (x2 : FVec Ideal S512x1024 .f32)
    (r : Fin 512) (q : Fin 1024) :
    out0_3 (F := Ideal) x0 x1 x2 (ix2 r q) = (x2 (ix2 r q) : EReal) + ∑ k : Fin 1024, (x1 (ix2 q k) : EReal) * x0 (ix2 k r) := by
  unfold out0_3
  rw [View.canon_unit_zero (h := by funext a; fin_cases a <;> rfl)]
  pointwise [k0_pay1]

variable (m : (ℓ : Loc nD τ sig) → Buf (Elt Ideal) ℓ)

/-- The result array: the residual and the product of a row with the weights. -/
def G (X : FVec Ideal S1024x16384 .bf16) (w : FVec Ideal S1024x1024 .f32) (h : FVec Ideal S16384x1024 .f32) : FVec Ideal S16384x1024 .f32 := fun i =>
  (h (ix2 (i 0) (i 1)) : EReal) + ∑ k : Fin 1024, (w (ix2 k (i 1)) : EReal) * X (ix2 k (i 0))

/-- Which block of every array a grid point works on. -/
theorem idx : ∀ t : Fin cfg0.N, win0_0.index t = ![0, t.val] ∧ win0_1.index t = ![0, 0] ∧ win0_2.index t = ![t.val, 0]
    ∧ win0_3.index t = ![t.val, 0] :=
  (by decide +kernel : ∀ t : Fin grid0.N, _)

/-- The array the call leaves is `G` of its arguments. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [out_at]
  simp only [G]
  blk_point [iblk, V, idx t]

end Cert.ProjIdeal.Point

namespace Cert.ProjRefIdeal.Point

open Cert.ProjRefIdeal Cert.ProjRefIdeal.Read Cert.ProjRefIdeal.Gen Idealize.ShloMosaic Idealize.ShloMosaic.TcCoe Idealize.SL.Sem

/-- The reference at one place is the same sum, the factors of every product the other way round. -/
theorem ref_at (x0 : FVec Ideal S1024x16384 .bf16) (x1 : FVec Ideal S1024x1024 .f32) (x2 : FVec Ideal S16384x1024 .f32)
    (r : Fin 16384) (q : Fin 1024) :
    val_main_v3 (F := Ideal) x0 x1 x2 (ix2 r q) = ProjIdeal.Point.G x0 x1 x2 (ix2 r q) := by
  pointwise [val_main_v3, val_main_v2, val_main_v1, val_main_v0]
  simp only [ProjIdeal.Point.G]
  refine congrArg₂ (· + ·) rfl (Finset.sum_congr rfl fun k _ => mul_comm _ _)

end Cert.ProjRefIdeal.Point

end
-- ==== Proof.FfnLastSPoint.lean ====
/- The feed-forward call with the last norm for the sample rows: one grid point, all 32 rows. -/
module

public import proofs.«01_k».proof.Proof.Gen.FfnLastSIdeal.Frame
public import proofs.«01_k».proof.Proof.Gen.FfnLastSRefIdeal.Read
public import proofs.«01_k».proof.Proof.Rows
public import Idealize.ShloMosaic.Lib.Pipeline.ValueKit

@[expose] public section

set_option maxRecDepth 16384

noncomputable section

namespace Cert.FfnLastSIdeal.Point

open Cert.FfnLastSIdeal Cert.FfnLastSIdeal.Gen Idealize.ShloMosaic Idealize.ShloMosaic.TcCoe Idealize.SL.Sem

/-- A block's rows of the feed-forward before the last norm: the body's sum of eight runs of 512 hidden channels. -/
theorem sum_at (x0 : FVec Ideal S32x1024 .f32) (x1 : FVec Ideal S1x1024 .f32) (x2 : FVec Ideal S1024x4096 .bf16) (x3 : FVec Ideal S4096x1024 .bf16)
    (x4 : FVec Ideal S1x1024 .f32) (r : Fin 32) (q : Fin 1024) :
    k0_pay6 (F := Ideal) (k0_pay8 x0 x1 x2 x3 x4) (k0_pay9 x0 x1 x2 x3 x4) (k0_pay10 x0 x1 x2 x3 x4) (Scalar.ofBits .f32 0x00000000#32) (View.ld x3 r0_13) (View.ld x2 r0_14) (View.ld x3 r0_15) (View.ld x2 r0_16) (View.ld x3 r0_17) (ix2 r q)
      = Rows.ffn (fun k => x0 (ix2 r k)) (fun k => x1 (ix2 0 k)) (fun k f => x2 (ix2 k f)) (fun f c => x3 (ix2 f c)) q := by
  rw [Rows.ffn, Rows.add_sum_runs]
  pointwise [k0_pay2, k0_pay3, k0_pay4, k0_pay5, k0_pay6, k0_pay8, k0_pay9, k0_pay10]
  rfl

/-- The value a grid point writes, at one place. -/
theorem out_at (x0 : FVec Ideal S32x1024 .f32) (x1 : FVec Ideal S1x1024 .f32) (x2 : FVec Ideal S1024x4096 .bf16) (x3 : FVec Ideal S4096x1024 .bf16)
    (x4 : FVec Ideal S1x1024 .f32) (r : Fin 32) (q : Fin 1024) :
    out0_5 (F := Ideal) x0 x1 x2 x3 x4 (ix2 r q) = Rows.ffnLast (fun k => x0 (ix2 r k)) (fun k => x1 (ix2 0 k))
      (fun k f => x2 (ix2 k f)) (fun f c => x3 (ix2 f c)) (fun k => x4 (ix2 0 k)) q := by
  have h := sum_at x0 x1 x2 x3 x4
  unfold out0_5 k0_pay7
  rw [View.canon_unit_zero (h := by funext a; fin_cases a <;> rfl)]
  generalize k0_pay6 (F := Ideal) (k0_pay8 x0 x1 x2 x3 x4) _ _ _ _ _ _ _ _ = T at h ⊢
  pointwise [k0_pay1]
  simp only [h]
  rfl

variable (m : (ℓ : Loc nD τ sig) → Buf (Elt Ideal) ℓ)

/-- The result array: entry `i` is the feed-forward of row `i 0` at channel `i 1`. -/
def G (X : FVec Ideal S32x1024 .f32) (g : FVec Ideal S1x1024 .f32) (wu : FVec Ideal S1024x4096 .f32)
    (wd : FVec Ideal S4096x1024 .f32) (gf : FVec Ideal S1x1024 .f32) : FVec Ideal S32x1024 .f32 := fun i =>
  Rows.ffnLast (fun k => X (ix2 (i 0) k)) (fun k => g (ix2 0 k)) (fun k f => wu (ix2 k f)) (fun f c => wd (ix2 f c)) (fun k => gf (ix2 0 k)) (i 1)

/-- Which block of every array a grid point works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array the call leaves is `G` of its arguments. -/
theorem final (c : Dev nD) : (dats m 0 c).arrAt 5 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [out_at]
  simp only [G, Rows.ffnLast, Rows.ffn, Rows.mat, Rows.rms]
  blk_point [iblk, V, idx t]

end Cert.FfnLastSIdeal.Point

namespace Cert.FfnLastSRefIdeal.Point

open Cert.FfnLastSRefIdeal Cert.FfnLastSRefIdeal.Read Cert.FfnLastSRefIdeal.Gen Idealize.ShloMosaic Idealize.ShloMosaic.TcCoe Idealize.SL.Sem

/-- The reference's rows before the last norm. -/
theorem sum_at (x0 : FVec Ideal S32x1024 .f32) (x1 : FVec Ideal S1x1024 .f32) (x2 : FVec Ideal S1024x4096 .f32) (x3 : FVec Ideal S4096x1024 .f32)
    (r : Fin 32) (q : Fin 1024) :
    val_main_v18 (F := Ideal) x0 x1 x2 x3 (ix2 r q) = Rows.ffn (fun k => x0 (ix2 r k)) (fun k => x1 (ix2 0 k))
      (fun k f => x2 (ix2 k f)) (fun f c => x3 (ix2 f c)) q := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  rfl

/-- The reference's result: the feed-forward of the row and its norm. -/
theorem ref_at (x0 : FVec Ideal S32x1024 .f32) (x1 : FVec Ideal S1x1024 .f32) (x2 : FVec Ideal S1024x4096 .f32) (x3 : FVec Ideal S4096x1024 .f32)
    (x4 : FVec Ideal S1x1024 .f32) (r : Fin 32) (q : Fin 1024) :
    val_main_v32 (F := Ideal) x0 x1 x2 x3 x4 (ix2 r q) = Rows.ffnLast (fun k => x0 (ix2 r k)) (fun k => x1 (ix2 0 k))
      (fun k f => x2 (ix2 k f)) (fun f c => x3 (ix2 f c)) (fun k => x4 (ix2 0 k)) q := by
  pointwise [val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  simp only [sum_at]
  rfl

end Cert.FfnLastSRefIdeal.Point

end
-- ==== Proof.SconvSPoint.lean ====
/- The gated short convolution for the sample rows: one grid point, all 32 rows, each with its own two rows of state. -/
module

public import proofs.«01_k».proof.Proof.Gen.SconvSIdeal.Frame
public import proofs.«01_k».proof.Proof.Gen.SconvSRefIdeal.Read
public import proofs.«01_k».proof.Proof.Rows
public import Idealize.ShloMosaic.Lib.Pipeline.ValueKit

@[expose] public section

set_option maxRecDepth 16384

noncomputable section

namespace Cert.SconvSIdeal.Point

open Cert.SconvSIdeal Cert.SconvSIdeal.Gen Idealize.ShloMosaic Idealize.ShloMosaic.TcCoe Idealize.SL.Sem

/-- The hidden rows the call writes, at one place. -/
theorem out_at (x0 : FVec Ideal S32x1024 .f32) (x1 : FVec Ideal S1x1024 .f32) (x2 : FVec Ideal S1024x3072 .bf16) (x3 : FVec Ideal S3x1024 .f32)
    (x4 : FVec Ideal S1024x1024 .bf16) (x5 x6 : FVec Ideal S32x1024 .f32) (r : Fin 32) (q : Fin 1024) :
    out0_7 (F := Ideal) x0 x1 x2 x3 x4 x5 x6 (ix2 r q) = Rows.sconv (fun k => x0 (ix2 r k)) (fun k => x1 (ix2 0 k))
      (fun k f => x2 (ix2 k f)) (fun j k => x3 (ix2 j k)) (fun k f => x4 (ix2 k f)) (fun k => x5 (ix2 r k)) (fun k => x6 (ix2 r k)) q := by
  unfold out0_7
  rw [View.canon_unit_zero (h := by funext a; fin_cases a <;> rfl)]
  pointwise [k0_pay1, k0_pay2, k0_pay3, k0_pay4, k0_pay5, k0_pay6, k0_pay7]
  rfl

/-- The gated products the call writes, at one place. -/
theorem pre_at (x0 : FVec Ideal S32x1024 .f32) (x1 : FVec Ideal S1x1024 .f32) (x2 : FVec Ideal S1024x3072 .bf16) (x3 : FVec Ideal S3x1024 .f32)
    (x4 : FVec Ideal S1024x1024 .bf16) (x5 x6 : FVec Ideal S32x1024 .f32) (r : Fin 32) (q : Fin 1024) :
    out0_8 (F := Ideal) x0 x1 x2 x3 x4 x5 x6 (ix2 r q) = Rows.pre (fun k => x0 (ix2 r k)) (fun k => x1 (ix2 0 k))
      (fun k f => x2 (ix2 k f)) q := by
  unfold out0_8
  rw [View.canon_unit_zero (h := by funext a; fin_cases a <;> rfl)]
  pointwise [k0_pay2, k0_pay3, k0_pay4, k0_pay7]
  rfl

variable (m : (ℓ : Loc nD τ sig) → Buf (Elt Ideal) ℓ)

/-- The hidden rows, from the call's arguments. -/
def G7 (X : FVec Ideal S32x1024 .f32) (g : FVec Ideal S1x1024 .f32) (w : FVec Ideal S1024x3072 .f32) (wc : FVec Ideal S3x1024 .f32)
    (wo : FVec Ideal S1024x1024 .f32) (st : FVec Ideal S32x2x1024 .f32) : FVec Ideal S32x1024 .f32 := fun i =>
  Rows.sconv (fun k => X (ix2 (i 0) k)) (fun k => g (ix2 0 k)) (fun k f => w (ix2 k f)) (fun j k => wc (ix2 j k)) (fun k f => wo (ix2 k f))
    (fun k => st (ix3 (i 0) 0 k)) (fun k => st (ix3 (i 0) 1 k)) (i 1)

/-- The gated products, from the call's arguments. -/
def G8 (X : FVec Ideal S32x1024 .f32) (g : FVec Ideal S1x1024 .f32) (w : FVec Ideal S1024x3072 .f32) : FVec Ideal S32x1024 .f32 := fun i =>
  Rows.pre (fun k => X (ix2 (i 0) k)) (fun k => g (ix2 0 k)) (fun k f => w (ix2 k f)) (i 1)

/-- Every array is one block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The hidden rows the call leaves. -/
theorem final7 (c : Dev nD) : (dats m 0 c).arrAt 7 (cfgs 0).N
    = G7 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  rw [out_at]
  simp only [G7, Rows.sconv, Rows.pre, Rows.mat, Rows.rms]
  blk_point [iblk, V, idx t]

/-- The gated products the call leaves. -/
theorem final8 (c : Dev nD) : (dats m 0 c).arrAt 8 (cfgs 0).N
    = G8 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  rw [pre_at]
  simp only [G8, Rows.pre, Rows.mat, Rows.rms]
  blk_point [iblk, V, idx t]

end Cert.SconvSIdeal.Point

namespace Cert.SconvSRefIdeal.Point

open Cert.SconvSRefIdeal Cert.SconvSRefIdeal.Read Cert.SconvSRefIdeal.Gen Idealize.ShloMosaic Idealize.ShloMosaic.TcCoe Idealize.SL.Sem

variable (x0 : FVec Ideal S32x1024 .f32) (x1 : FVec Ideal S1x1024 .f32) (x2 : FVec Ideal S1024x3072 .f32) (x3 : FVec Ideal S3x1024 .f32)
  (x4 : FVec Ideal S1024x1024 .f32) (x5 : FVec Ideal S32x2x1024 .f32)

/-- The three projections of the reference side by side. -/
theorem proj_at (r : Fin 32) (f : Fin 3072) :
    val_main_v14 (F := Ideal) x0 x1 x2 (ix2 r f) = Rows.mat (Rows.rms (fun k => x0 (ix2 r k)) (fun k => x1 (ix2 0 k))) (fun k f => x2 (ix2 k f)) f := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gated products of the reference. -/
theorem ref_at8 (r : Fin 32) (q : Fin 1024) :
    val_main_v18 (F := Ideal) x0 x1 x2 (ix2 r q) = SconvSIdeal.Point.G8 x0 x1 x2 (ix2 r q) := by
  pointwise [val_main_v18, val_main_v17, val_main_v16]
  simp only [proj_at]
  rfl

/-- The convolution of the reference: two rows of state and the row itself. -/
theorem conv_at (r : Fin 32) (q : Fin 1024) :
    val_main_v24 (F := Ideal) x0 x1 x2 x3 x5 (ix2 r q) = (x5 (ix3 r 0 q) : EReal) * x3 (ix2 0 q) + x5 (ix3 r 1 q) * x3 (ix2 1 q)
      + val_main_v18 (F := Ideal) x0 x1 x2 (ix2 r q) * x3 (ix2 2 q) := by
  pointwise [val_main_v24, val_main_v23, val_main_v22, val_main_v21, val_main_v20, val_main_v19, val_main_cst_2]
  rw [Fin.sum_univ_two, Fin.sum_univ_one]
  rfl

/-- The hidden rows of the reference. -/
theorem ref_at7 (r : Fin 32) (q : Fin 1024) :
    val_main_v27 (F := Ideal) x0 x1 x2 x3 x4 x5 (ix2 r q) = SconvSIdeal.Point.G7 x0 x1 x2 x3 x4 x5 (ix2 r q) := by
  pointwise [val_main_v27, val_main_v26, val_main_v25, val_main_v15]
  simp only [conv_at, proj_at, ref_at8]
  rfl

end Cert.SconvSRefIdeal.Point

end
-- ==== Proof.ConfSPoint.lean ====
/- The convolution module for the sample rows: one grid point, all 32 rows, each with its own 30 rows of state. -/
module

public import proofs.«01_k».proof.Proof.Gen.ConfSIdeal.Frame
public import proofs.«01_k».proof.Proof.Gen.ConfSRefIdeal.Read
public import proofs.«01_k».proof.Proof.Rows
public import Idealize.ShloMosaic.Lib.Pipeline.ValueKit

@[expose] public section

set_option maxRecDepth 16384

noncomputable section

namespace Cert.ConfSIdeal.Point

open Cert.ConfSIdeal Cert.ConfSIdeal.Gen Idealize.ShloMosaic Idealize.ShloMosaic.TcCoe Idealize.SL.Sem

/-- The 31 rows a sample row convolves: its 30 rows of state and its own gated linear units. -/
def hist (st : Fin 30 → Fin 1024 → EReal) (u : Fin 1024 → EReal) (k : Fin 31) (q : Fin 1024) : EReal :=
  if h : k.val < 30 then st ⟨k.val, h⟩ q else u q

/-- A sum over the 31 rows is the sum over the state and the row's own term. -/
theorem sum_hist (st : Fin 30 → Fin 1024 → EReal) (u : Fin 1024 → EReal) (w : Fin 31 → Fin 1024 → EReal) (q : Fin 1024) :
    ∑ k, hist st u k q * w k q = (∑ k : Fin 30, st k q * w ⟨k.val, by omega⟩ q) + u q * w 30 q := by
  rw [Fin.sum_univ_castSucc]
  refine congrArg₂ (· + ·) (Finset.sum_congr rfl fun k _ => ?_) rfl
  unfold hist
  rw [dif_pos (show (Fin.castSucc k).val < 30 from k.isLt)]
  rfl

/-- The convolution of a row with its bias, summed from the bias on in the order of the taps. -/
theorem taps_eq (b : Fin 1024 → EReal) (w : Fin 31 → Fin 1024 → EReal) (st : Fin 30 → Fin 1024 → EReal) (u : Fin 1024 → EReal) (q : Fin 1024) :
    Rows.taps b w (hist st u) q = b q + st 0 q * w 0 q + st 1 q * w 1 q + st 2 q * w 2 q + st 3 q * w 3 q + st 4 q * w 4 q
      + st 5 q * w 5 q + st 6 q * w 6 q + st 7 q * w 7 q + st 8 q * w 8 q + st 9 q * w 9 q + st 10 q * w 10 q + st 11 q * w 11 q
      + st 12 q * w 12 q + st 13 q * w 13 q + st 14 q * w 14 q + st 15 q * w 15 q + st 16 q * w 16 q + st 17 q * w 17 q
      + st 18 q * w 18 q + st 19 q * w 19 q + st 20 q * w 20 q + st 21 q * w 21 q + st 22 q * w 22 q + st 23 q * w 23 q
      + st 24 q * w 24 q + st 25 q * w 25 q + st 26 q * w 26 q + st 27 q * w 27 q + st 28 q * w 28 q + st 29 q * w 29 q
      + u q * w 30 q := by
  rw [Rows.taps, Rows.sum_taps]
  simp only [← add_assoc]
  rfl

/-- The gated linear units the call writes, at one place. -/
theorem glu_at (x0 : FVec Ideal S32x1024 .f32) (x1 : FVec Ideal S1x1024 .f32) (x2 : FVec Ideal S1024x2048 .bf16) (x3 : FVec Ideal S31x1024 .f32)
    (x4 x5 x6 : FVec Ideal S1x1024 .f32) (x7 : FVec Ideal S1024x1024 .bf16) (x8 : FVec Ideal S30x32x1024 .f32) (r : Fin 32) (q : Fin 1024) :
    k0_pay15 (F := Ideal) x0 x1 x2 x3 x4 x5 x6 x7 x8 (ix2 r q) = Rows.glu (fun k => x0 (ix2 r k)) (fun k => x1 (ix2 0 k)) (fun k f => x2 (ix2 k f)) q := by
  unfold k0_pay15
  pointwise [k0_pay2]
  rfl

/-- The gated linear units the call leaves of its arguments, at one place. -/
theorem pre_at (x0 : FVec Ideal S32x1024 .f32) (x1 : FVec Ideal S1x1024 .f32) (x2 : FVec Ideal S1024x2048 .bf16) (x3 : FVec Ideal S31x1024 .f32)
    (x4 x5 x6 : FVec Ideal S1x1024 .f32) (x7 : FVec Ideal S1024x1024 .bf16) (x8 : FVec Ideal S30x32x1024 .f32) (r : Fin 32) (q : Fin 1024) :
    out0_10 (F := Ideal) x0 x1 x2 x3 x4 x5 x6 x7 x8 (ix2 r q) = Rows.glu (fun k => x0 (ix2 r k)) (fun k => x1 (ix2 0 k)) (fun k f => x2 (ix2 k f)) q := by
  unfold out0_10
  rw [View.canon_unit_zero (h := by funext a; fin_cases a <;> rfl)]
  exact glu_at x0 x1 x2 x3 x4 x5 x6 x7 x8 r q

/-- The layer norm the call takes, from the sum of the taps before the last three. -/
theorem norm_at (U A : FVec Ideal S32x1024 .f32) (s t : FVec Ideal S1x32x1024 .f32) (a b d : FVec Ideal S1x1024 .f32) (x5 x6 : FVec Ideal S1x1024 .f32)
    (Y : Fin 1024 → EReal) (r : Fin 32)
    (hY : ∀ q, (A (ix2 r q) : EReal) + s (ix3 0 r q) * a (ix2 0 q) + t (ix3 0 r q) * b (ix2 0 q) + U (ix2 r q) * d (ix2 0 q) = Y q) (q : Fin 1024) :
    k0_pay13 (F := Ideal) U A s a t b d x5 x6 (ix2 r q) = Rows.lnorm Y (fun k => x5 (ix2 0 k)) (fun k => x6 (ix2 0 k)) q := by
  pointwise [k0_pay13]
  simp only [hY]
  rfl

/-- The tail of a row, from its layer norm. -/
theorem tail_at (x0 U A : FVec Ideal S32x1024 .f32) (s t : FVec Ideal S1x32x1024 .f32) (a b d x5 x6 : FVec Ideal S1x1024 .f32)
    (x7 : FVec Ideal S1024x1024 .bf16) (Y : Fin 1024 → EReal) (r : Fin 32)
    (hY : ∀ q, (A (ix2 r q) : EReal) + s (ix3 0 r q) * a (ix2 0 q) + t (ix3 0 r q) * b (ix2 0 q) + U (ix2 r q) * d (ix2 0 q) = Y q) (q : Fin 1024) :
    k0_pay1 (F := Ideal) x0 (k0_pay13 U A s a t b d x5 x6) (k0_pay14 U A s a t b d x5 x6) x7 (ix2 r q)
      = Rows.tail (fun k => x0 (ix2 r k)) Y (fun k => x5 (ix2 0 k)) (fun k => x6 (ix2 0 k)) (fun k f => x7 (ix2 k f)) q := by
  pointwise [k0_pay1, k0_pay14]
  simp only [norm_at U A s t a b d x5 x6 Y r hY]
  rfl

/-- The sum of the first 28 taps, at one place. -/
theorem sum_at (x0 : FVec Ideal S32x1024 .f32) (x1 : FVec Ideal S1x1024 .f32) (x2 : FVec Ideal S1024x2048 .bf16) (x3 : FVec Ideal S31x1024 .f32)
    (x4 x5 x6 : FVec Ideal S1x1024 .f32) (x7 : FVec Ideal S1024x1024 .bf16) (x8 : FVec Ideal S30x32x1024 .f32) (r : Fin 32) (q : Fin 1024) :
    k0_pay16 (F := Ideal) x0 x1 x2 x3 x4 x5 x6 x7 x8 (ix2 r q) = (x4 (ix2 0 q) : EReal) + x8 (ix3 0 r q) * x3 (ix2 0 q) + x8 (ix3 1 r q) * x3 (ix2 1 q)
      + x8 (ix3 2 r q) * x3 (ix2 2 q) + x8 (ix3 3 r q) * x3 (ix2 3 q) + x8 (ix3 4 r q) * x3 (ix2 4 q) + x8 (ix3 5 r q) * x3 (ix2 5 q)
      + x8 (ix3 6 r q) * x3 (ix2 6 q) + x8 (ix3 7 r q) * x3 (ix2 7 q) + x8 (ix3 8 r q) * x3 (ix2 8 q) + x8 (ix3 9 r q) * x3 (ix2 9 q)
      + x8 (ix3 10 r q) * x3 (ix2 10 q) + x8 (ix3 11 r q) * x3 (ix2 11 q) + x8 (ix3 12 r q) * x3 (ix2 12 q) + x8 (ix3 13 r q) * x3 (ix2 13 q)
      + x8 (ix3 14 r q) * x3 (ix2 14 q) + x8 (ix3 15 r q) * x3 (ix2 15 q) + x8 (ix3 16 r q) * x3 (ix2 16 q) + x8 (ix3 17 r q) * x3 (ix2 17 q)
      + x8 (ix3 18 r q) * x3 (ix2 18 q) + x8 (ix3 19 r q) * x3 (ix2 19 q) + x8 (ix3 20 r q) * x3 (ix2 20 q) + x8 (ix3 21 r q) * x3 (ix2 21 q)
      + x8 (ix3 22 r q) * x3 (ix2 22 q) + x8 (ix3 23 r q) * x3 (ix2 23 q) + x8 (ix3 24 r q) * x3 (ix2 24 q) + x8 (ix3 25 r q) * x3 (ix2 25 q)
      + x8 (ix3 26 r q) * x3 (ix2 26 q) + x8 (ix3 27 r q) * x3 (ix2 27 q) := by
  unfold k0_pay16
  pointwise [k0_pay3, k0_pay4, k0_pay5, k0_pay6, k0_pay7, k0_pay8, k0_pay9, k0_pay10, k0_pay11, k0_pay12]

/-- The hidden rows the call writes, at one place. -/
theorem out_at (x0 : FVec Ideal S32x1024 .f32) (x1 : FVec Ideal S1x1024 .f32) (x2 : FVec Ideal S1024x2048 .bf16) (x3 : FVec Ideal S31x1024 .f32)
    (x4 x5 x6 : FVec Ideal S1x1024 .f32) (x7 : FVec Ideal S1024x1024 .bf16) (x8 : FVec Ideal S30x32x1024 .f32) (r : Fin 32) (q : Fin 1024) :
    out0_9 (F := Ideal) x0 x1 x2 x3 x4 x5 x6 x7 x8 (ix2 r q) = Rows.tail (fun k => x0 (ix2 r k))
      (Rows.taps (fun k => x4 (ix2 0 k)) (fun j k => x3 (ix2 j k)) (hist (fun j k => x8 (ix3 j r k))
        (Rows.glu (fun k => x0 (ix2 r k)) (fun k => x1 (ix2 0 k)) (fun k f => x2 (ix2 k f)))))
      (fun k => x5 (ix2 0 k)) (fun k => x6 (ix2 0 k)) (fun k f => x7 (ix2 k f)) q := by
  unfold out0_9
  rw [View.canon_unit_zero (h := by funext a; fin_cases a <;> rfl)]
  have h := tail_at x0 (k0_pay15 (F := Ideal) x0 x1 x2 x3 x4 x5 x6 x7 x8) (k0_pay16 (F := Ideal) x0 x1 x2 x3 x4 x5 x6 x7 x8) (View.ld (Val := Elt Ideal) (e' := .f32) x8 r0_60)
    (View.ld (Val := Elt Ideal) (e' := .f32) x8 r0_62) (View.ld (Val := Elt Ideal) (e' := .f32) x3 r0_61) (View.ld (Val := Elt Ideal) (e' := .f32) x3 r0_63) (View.ld (Val := Elt Ideal) (e' := .f32) x3 r0_64) x5 x6 x7
    (Rows.taps (fun k => x4 (ix2 0 k)) (fun j k => x3 (ix2 j k)) (hist (fun j k => x8 (ix3 j r k))
      (Rows.glu (fun k => x0 (ix2 r k)) (fun k => x1 (ix2 0 k)) (fun k f => x2 (ix2 k f))))) r (fun k => ?_) q
  · have e0 : View.ld (Val := Elt Ideal) (e' := .f32) x0 r0_0 = x0 := View.ld_unit_zero (by funext a; fin_cases a <;> rfl) _ _
    have e5 : View.ld (Val := Elt Ideal) (e' := .f32) x5 r0_1 = x5 := View.ld_unit_zero (by funext a; fin_cases a <;> rfl) _ _
    have e6 : View.ld (Val := Elt Ideal) (e' := .f32) x6 r0_1 = x6 := View.ld_unit_zero (by funext a; fin_cases a <;> rfl) _ _
    have e7 : View.ld (Val := Elt Ideal) (e' := .bf16) x7 r0_65 = x7 := View.ld_unit_zero (by funext a; fin_cases a <;> rfl) _ _
    rw [e0, e5, e6, e7]
    exact h
  · rw [glu_at, sum_at, taps_eq]
    pointwise

variable (m : (ℓ : Loc nD τ sig) → Buf (Elt Ideal) ℓ)

/-- The hidden rows, from the call's arguments. -/
def G9 (X : FVec Ideal S32x1024 .f32) (g : FVec Ideal S1x1024 .f32) (w : FVec Ideal S1024x2048 .f32) (wc : FVec Ideal S31x1024 .f32)
    (b lg lb : FVec Ideal S1x1024 .f32) (wo : FVec Ideal S1024x1024 .f32) (st : FVec Ideal S32x30x1024 .f32) : FVec Ideal S32x1024 .f32 := fun i =>
  Rows.tail (fun k => X (ix2 (i 0) k))
    (Rows.taps (fun k => b (ix2 0 k)) (fun j k => wc (ix2 j k)) (hist (fun j k => st (ix3 (i 0) j k))
      (Rows.glu (fun k => X (ix2 (i 0) k)) (fun k => g (ix2 0 k)) (fun k f => w (ix2 k f)))))
    (fun k => lg (ix2 0 k)) (fun k => lb (ix2 0 k)) (fun k f => wo (ix2 k f)) (i 1)

/-- The gated linear units, from the call's arguments. -/
def G10 (X : FVec Ideal S32x1024 .f32) (g : FVec Ideal S1x1024 .f32) (w : FVec Ideal S1024x2048 .f32) : FVec Ideal S32x1024 .f32 := fun i =>
  Rows.glu (fun k => X (ix2 (i 0) k)) (fun k => g (ix2 0 k)) (fun k f => w (ix2 k f)) (i 1)

/-- Every array is one block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![0, 0] ∧ win0_10.index t = ![0, 0] :=
  (by decide +kernel : ∀ t : Fin grid0.N, _)

/-- The hidden rows the call leaves. -/
theorem final9 (c : Dev nD) : (dats m 0 c).arrAt 9 (cfgs 0).N
    = G9 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  idx_vars y
  rw [out_at]
  simp only [G9, Rows.tail, Rows.lnorm, Rows.centred, Rows.taps, sum_hist, Rows.glu, Rows.mat, Rows.rms]
  blk_point [iblk, V, idx t]

/-- The gated linear units the call leaves. -/
theorem final10 (c : Dev nD) : (dats m 0 c).arrAt 10 (cfgs 0).N
    = G10 (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  idx_vars y
  rw [pre_at]
  simp only [G10, Rows.glu, Rows.mat, Rows.rms]
  blk_point [iblk, V, idx t]

end Cert.ConfSIdeal.Point

namespace Cert.ConfSRefIdeal.Point

open Cert.ConfSRefIdeal Cert.ConfSRefIdeal.Read Cert.ConfSRefIdeal.Gen Idealize.ShloMosaic Idealize.ShloMosaic.TcCoe Idealize.SL.Sem

variable (x0 : FVec Ideal S32x1024 .f32) (x1 : FVec Ideal S1x1024 .f32) (x2 : FVec Ideal S1024x2048 .f32) (x3 : FVec Ideal S31x1024 .f32)
  (x4 x5 x6 : FVec Ideal S1x1024 .f32) (x7 : FVec Ideal S1024x1024 .f32) (x8 : FVec Ideal S32x30x1024 .f32)

/-- The gated linear units of the reference. -/
theorem ref_at10 (r : Fin 32) (q : Fin 1024) :
    val_main_v23 (F := Ideal) x0 x1 x2 (ix2 r q) = ConfSIdeal.Point.G10 x0 x1 x2 (ix2 r q) := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23]
  unfold ConfSIdeal.Point.G10 Rows.glu Rows.mat
  simp only [zero_sub]
  rfl

/-- The convolution of the reference with its bias. -/
theorem conv_at (r : Fin 32) (q : Fin 1024) :
    val_main_v33 (F := Ideal) x0 x1 x2 x3 x4 x8 (ix2 r q) = Rows.taps (fun k => x4 (ix2 0 k)) (fun j k => x3 (ix2 j k))
      (ConfSIdeal.Point.hist (fun j k => x8 (ix3 r j k)) (fun k => ConfSIdeal.Point.G10 x0 x1 x2 (ix2 r k))) q := by
  pointwise [val_main_v24, val_main_v25, val_main_v26, val_main_v27, val_main_v28, val_main_cst_4, val_main_v29, val_main_v30, val_main_v31, val_main_v32, val_main_v33]
  rw [Rows.taps, Fin.sum_univ_one, ref_at10]
  refine (add_comm _ _).trans (congrArg _ ?_)
  exact (ConfSIdeal.Point.sum_hist (fun j k => x8 (ix3 r j k)) (fun k => ConfSIdeal.Point.G10 x0 x1 x2 (ix2 r k)) (fun j k => x3 (ix2 j k)) q).symm

/-- The hidden rows of the reference. -/
theorem ref_at9 (r : Fin 32) (q : Fin 1024) :
    val_main_v60 (F := Ideal) x0 x1 x2 x3 x4 x5 x6 x7 x8 (ix2 r q) = ConfSIdeal.Point.G9 x0 x1 x2 x3 x4 x5 x6 x7 x8 (ix2 r q) := by
  pointwise [val_main_v34, val_main_v35, val_main_cst_5, val_main_v36, val_main_v37, val_main_cst_6, val_main_v38, val_main_v39, val_main_v40, val_main_v41, val_main_v42, val_main_cst_7, val_main_v43, val_main_v44, val_main_cst_8, val_main_v45, val_main_v46, val_main_cst_9, val_main_v47, val_main_v48, val_main_v49, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60]
  simp only [conv_at]
  unfold ConfSIdeal.Point.G9 Rows.tail Rows.lnorm Rows.centred
  simp only [zero_sub]
  rfl

end Cert.ConfSRefIdeal.Point

end
-- ==== Proof.lean ====
module

public import proofs.«01_k».proof.Defs
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastRefIdeal
public import proofs.«01_k».proof.Proof.Gen.Conf
public import proofs.«01_k».proof.Proof.Gen.Conf.Skeleton
public import proofs.«01_k».proof.Proof.Gen.Conf.Launch
public import proofs.«01_k».proof.Proof.Gen.Conf.Points
public import proofs.«01_k».proof.Proof.Gen.Conf.Frame
public import proofs.«01_k».proof.Proof.Gen.ConfIdeal
public import proofs.«01_k».proof.Proof.Gen.ConfIdeal.Skeleton
public import proofs.«01_k».proof.Proof.Gen.ConfIdeal.Launch
public import proofs.«01_k».proof.Proof.Gen.ConfIdeal.Points
public import proofs.«01_k».proof.Proof.Gen.ConfIdeal.Frame
public import proofs.«01_k».proof.Proof.Gen.ConfRefIdeal
public import proofs.«01_k».proof.Proof.Gen.Moba
public import proofs.«01_k».proof.Proof.Gen.Moba.Skeleton
public import proofs.«01_k».proof.Proof.Gen.Moba.Loops
public import proofs.«01_k».proof.Proof.Gen.Moba.Launch
public import proofs.«01_k».proof.Proof.Gen.Moba.Points
public import proofs.«01_k».proof.Proof.Gen.MobaIdeal
public import proofs.«01_k».proof.Proof.Gen.MobaIdeal.Skeleton
public import proofs.«01_k».proof.Proof.Gen.MobaIdeal.Loops
public import proofs.«01_k».proof.Proof.Gen.MobaIdeal.Launch
public import proofs.«01_k».proof.Proof.Gen.MobaIdeal.Points
public import proofs.«01_k».proof.Proof.Gen.MobaRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_finite_scores
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.FfnLastS
public import proofs.«01_k».proof.Proof.Gen.FfnLastS.Skeleton
public import proofs.«01_k».proof.Proof.Gen.FfnLastS.Launch
public import proofs.«01_k».proof.Proof.Gen.FfnLastS.Points
public import proofs.«01_k».proof.Proof.Gen.FfnLastS.Frame
public import proofs.«01_k».proof.Proof.Gen.FfnLastSIdeal
public import proofs.«01_k».proof.Proof.Gen.FfnLastSIdeal.Skeleton
public import proofs.«01_k».proof.Proof.Gen.FfnLastSIdeal.Launch
public import proofs.«01_k».proof.Proof.Gen.FfnLastSIdeal.Points
public import proofs.«01_k».proof.Proof.Gen.FfnLastSIdeal.Frame
public import proofs.«01_k».proof.Proof.Gen.FfnLastSRefIdeal
public import proofs.«01_k».proof.Proof.Gen.FfnLastSIdeal.Value
public import proofs.«01_k».proof.Proof.Gen.FfnLastSRefIdeal.Run
public import proofs.«01_k».proof.Proof.Gen.FfnLastSRefIdeal.Read
public import proofs.«01_k».proof.Proof.Gen.SconvS
public import proofs.«01_k».proof.Proof.Gen.SconvS.Skeleton
public import proofs.«01_k».proof.Proof.Gen.SconvS.Launch
public import proofs.«01_k».proof.Proof.Gen.SconvS.Points
public import proofs.«01_k».proof.Proof.Gen.SconvS.Frame
public import proofs.«01_k».proof.Proof.Gen.SconvSIdeal
public import proofs.«01_k».proof.Proof.Gen.SconvSIdeal.Skeleton
public import proofs.«01_k».proof.Proof.Gen.SconvSIdeal.Launch
public import proofs.«01_k».proof.Proof.Gen.SconvSIdeal.Points
public import proofs.«01_k».proof.Proof.Gen.SconvSIdeal.Frame
public import proofs.«01_k».proof.Proof.Gen.SconvSRefIdeal
public import proofs.«01_k».proof.Proof.Gen.SconvSIdeal.Value
public import proofs.«01_k».proof.Proof.Gen.SconvSRefIdeal.Run
public import proofs.«01_k».proof.Proof.Gen.SconvSRefIdeal.Read
public import proofs.«01_k».proof.Proof.Gen.ConfS
public import proofs.«01_k».proof.Proof.Gen.ConfS.Skeleton
public import proofs.«01_k».proof.Proof.Gen.ConfS.Launch
public import proofs.«01_k».proof.Proof.Gen.ConfS.Points
public import proofs.«01_k».proof.Proof.Gen.ConfS.Frame
public import proofs.«01_k».proof.Proof.Gen.ConfSIdeal
public import proofs.«01_k».proof.Proof.Gen.ConfSIdeal.Skeleton
public import proofs.«01_k».proof.Proof.Gen.ConfSIdeal.Launch
public import proofs.«01_k».proof.Proof.Gen.ConfSIdeal.Points
public import proofs.«01_k».proof.Proof.Gen.ConfSIdeal.Frame
public import proofs.«01_k».proof.Proof.Gen.ConfSRefIdeal
public import proofs.«01_k».proof.Proof.Gen.ConfSIdeal.Value
public import proofs.«01_k».proof.Proof.Gen.ConfSRefIdeal.Run
public import proofs.«01_k».proof.Proof.Gen.ConfSRefIdeal.Read
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnLastIdeal.Value
public import proofs.«01_k».proof.Proof.Gen.FfnLastRefIdeal.Run
public import proofs.«01_k».proof.Proof.Gen.FfnLastRefIdeal.Read
public import proofs.«01_k».proof.Proof.Gen.ConfIdeal.Value
public import proofs.«01_k».proof.Proof.Gen.ConfRefIdeal.Run
public import proofs.«01_k».proof.Proof.Gen.ConfRefIdeal.Read
public import proofs.«01_k».proof.Proof.Gen.MobaRefIdeal.Run
public import proofs.«01_k».proof.Proof.Gen.MobaRefIdeal.Read
public import proofs.«01_k».proof.Proof.SconvPoint
public import proofs.«01_k».proof.Proof.FfnPoint
public import proofs.«01_k».proof.Proof.FfnLastPoint
public import proofs.«01_k».proof.Proof.ConfPoint
public import proofs.«01_k».proof.Proof.ConfRefPoint
public import proofs.«01_k».proof.Proof.MobaFrame
public import proofs.«01_k».proof.Proof.MobaIdealFrame
public import proofs.«01_k».proof.Proof.MobaPoint
public import proofs.«01_k».proof.Proof.MobaRefPoint
public import proofs.«01_k».proof.Proof.ProjPoint
public import proofs.«01_k».proof.Proof.FfnLastSPoint
public import proofs.«01_k».proof.Proof.SconvSPoint
public import proofs.«01_k».proof.Proof.ConfSPoint
public import Idealize.ShloMosaic.Lib.Claim
public import Idealize.ShloMosaic.Adequacy
public import Idealize.ShloMosaic.Init

@[expose] public section

noncomputable section

namespace Cert.Proof

open Idealize.ShloMosaic Idealize.SL.Sem Cert.Sconv

set_option maxHeartbeats 4000000 in
theorem claim : Cert.Claim := ⟨Cert.Sconv.Gen.facts, Cert.SconvIdeal.Gen.facts, Cert.SconvRefIdeal.Gen.facts, Cert.Ffn.Gen.facts, Cert.FfnIdeal.Gen.facts, Cert.FfnRefIdeal.Gen.facts, Cert.FfnLast.Gen.facts, Cert.FfnLastIdeal.Gen.facts, Cert.FfnLastRefIdeal.Gen.facts, Cert.Conf.Gen.facts, Cert.ConfIdeal.Gen.facts, Cert.ConfRefIdeal.Gen.facts, Cert.Moba.Gen.facts, Cert.MobaIdeal.Gen.facts, Cert.MobaRefIdeal.Gen.facts, Cert.Proj.Gen.facts, Cert.ProjIdeal.Gen.facts, Cert.ProjRefIdeal.Gen.facts, Cert.FfnLastS.Gen.facts, Cert.FfnLastSIdeal.Gen.facts, Cert.FfnLastSRefIdeal.Gen.facts, Cert.SconvS.Gen.facts, Cert.SconvSIdeal.Gen.facts, Cert.SconvSRefIdeal.Gen.facts, Cert.ConfS.Gen.facts, Cert.ConfSIdeal.Gen.facts, Cert.ConfSRefIdeal.Gen.facts, Cert.Pre_finite_scores.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Sconv.Gen.frame m g
  · exact fun m g _ => Cert.SconvIdeal.Gen.frame m g
  · exact fun m g _ => (θ_run Cert.SconvRefIdeal.defs _ _).mono (fun r h => ⟨fun c => (h c).2.2,
      Idealize.ShloMosaic.sem_eq_zero_of_no_sems (by decide) r.2⟩) (Cert.SconvRefIdeal.Value.run (F := Ideal) m g)
  · exact fun m g _ => Cert.Ffn.Gen.frame m g
  · exact fun m g _ => Cert.FfnIdeal.Gen.frame m g
  · exact fun m g _ => (θ_run Cert.FfnRefIdeal.defs _ _).mono (fun r h => ⟨fun c => (h c).2,
      Idealize.ShloMosaic.sem_eq_zero_of_no_sems (by decide) r.2⟩) (Cert.FfnRefIdeal.Value.run (F := Ideal) m g)
  · exact fun m g _ => Cert.FfnLast.Gen.frame m g
  · exact fun m g _ => Cert.FfnLastIdeal.Gen.frame m g
  · exact fun m g _ => (θ_run Cert.FfnLastRefIdeal.defs _ _).mono (fun r h => ⟨fun c => (h c).2,
      Idealize.ShloMosaic.sem_eq_zero_of_no_sems (by decide) r.2⟩) (Cert.FfnLastRefIdeal.Value.run (F := Ideal) m g)
  · exact fun m g _ => Cert.Conf.Gen.frame m g
  · exact fun m g _ => Cert.ConfIdeal.Gen.frame m g
  · exact fun m g _ => (θ_run Cert.ConfRefIdeal.defs _ _).mono (fun r h => ⟨fun c => (h c).2.2,
      Idealize.ShloMosaic.sem_eq_zero_of_no_sems (by decide) r.2⟩) (Cert.ConfRefIdeal.Value.run (F := Ideal) m g)
  · exact fun m g _ => Cert.Moba.Gen.frame m g
  · exact fun m g _ => Cert.MobaIdeal.Gen.frame m g
  · exact fun m g _ => Cert.MobaIdeal.Gen.frame m g
  · exact fun m g _ => (θ_run Cert.MobaRefIdeal.defs _ _).mono (fun r h => ⟨fun c => (h c).2,
      Idealize.ShloMosaic.sem_eq_zero_of_no_sems (by decide) r.2⟩) (Cert.MobaRefIdeal.Value.run (F := Ideal) m g)
  · exact fun m g _ => (θ_run Cert.MobaRefIdeal.defs _ _).mono (fun r h => ⟨fun c => (h c).2,
      Idealize.ShloMosaic.sem_eq_zero_of_no_sems (by decide) r.2⟩) (Cert.MobaRefIdeal.Value.run (F := Ideal) m g)
  · exact fun m g _ => Cert.Proj.Gen.frame m g
  · exact fun m g _ => Cert.ProjIdeal.Gen.frame m g
  · exact fun m g _ => (θ_run Cert.ProjRefIdeal.defs _ _).mono (fun r h => ⟨fun c => (h c).2,
      Idealize.ShloMosaic.sem_eq_zero_of_no_sems (by decide) r.2⟩) (Cert.ProjRefIdeal.Value.run (F := Ideal) m g)
  · exact fun m g _ => Cert.FfnLastS.Gen.frame m g
  · exact fun m g _ => Cert.FfnLastSIdeal.Gen.frame m g
  · exact fun m g _ => (θ_run Cert.FfnLastSRefIdeal.defs _ _).mono (fun r h => ⟨fun c => (h c).2,
      Idealize.ShloMosaic.sem_eq_zero_of_no_sems (by decide) r.2⟩) (Cert.FfnLastSRefIdeal.Value.run (F := Ideal) m g)
  · exact fun m g _ => Cert.SconvS.Gen.frame m g
  · exact fun m g _ => Cert.SconvSIdeal.Gen.frame m g
  · exact fun m g _ => (θ_run Cert.SconvSRefIdeal.defs _ _).mono (fun r h => ⟨fun c => (h c).2.2,
      Idealize.ShloMosaic.sem_eq_zero_of_no_sems (by decide) r.2⟩) (Cert.SconvSRefIdeal.Value.run (F := Ideal) m g)
  · exact fun m g _ => Cert.ConfS.Gen.frame m g
  · exact fun m g _ => Cert.ConfSIdeal.Gen.frame m g
  · exact fun m g _ => (θ_run Cert.ConfSRefIdeal.defs _ _).mono (fun r h => ⟨fun c => (h c).2.2,
      Idealize.ShloMosaic.sem_eq_zero_of_no_sems (by decide) r.2⟩) (Cert.ConfSRefIdeal.Value.run (F := Ideal) m g)
  · trivial
  · pair_intro
    · run_from Cert.SconvIdeal.Gen.run_main m g
    · run_from Cert.SconvRefIdeal.Value.run m' g'
      · obtain ⟨h0, h1, h2, h3, h4⟩ := hagree c
        rw [Cert.SconvRefIdeal.Read.val_main_v45_eq, h0, h1, h2, h3, h4]
        refine Eq.trans ?_ (Cert.SconvIdeal.Point.final5 m c).symm
        funext i
        idx_vars i
        exact Cert.SconvRefIdeal.Point.ref_at5 _ _ _ _ _ _ _
      · refine (Cert.SconvRefIdeal.Read.val_main_v46_eq _ _ _).trans (Eq.trans ?_ (Cert.SconvIdeal.Point.final6 m c).symm)
        funext i
        idx_vars i
        exact Cert.SconvRefIdeal.Point.ref_at6 _ _ _ _ _ _
  · trivial
  · pair_intro
    · run_from Cert.FfnIdeal.Gen.run_main m g
    · run_from Cert.FfnRefIdeal.Value.run m' g'
      refine (Cert.FfnRefIdeal.Read.val_main_v18_eq _ _ _ _).trans (Eq.trans ?_ (Cert.FfnIdeal.Point.final m c).symm)
      funext i
      idx_vars i
      exact Cert.FfnRefIdeal.Point.ref_at _ _ _ _ _ _
  · trivial
  · pair_intro
    · run_from Cert.FfnLastIdeal.Gen.run_main m g
    · run_from Cert.FfnLastRefIdeal.Value.run m' g'
      obtain ⟨h0, h1, h2, h3, h4⟩ := hagree c
      rw [Cert.FfnLastRefIdeal.Read.val_main_v32_eq, h0, h1, h2, h3, h4]
      refine Eq.trans ?_ (Cert.FfnLastIdeal.Point.final m c).symm
      funext i
      idx_vars i
      exact Cert.FfnLastRefIdeal.Point.ref_at _ _ _ _ _ _ _
  · trivial
  · pair_intro
    · run_from Cert.ConfIdeal.Gen.run_main m g
    · run_from Cert.ConfRefIdeal.Point.run m' g'
      · exact (Cert.ConfIdeal.Point.final8 m c).symm
      · exact (Cert.ConfIdeal.Point.final9 m c).symm
  · exact IdealRules.named_const.statement Cert.MobaIdeal.κ "mask" .f32 0xF149F2CA#32 ⊥ rfl
  · pair_intro
    · run_from Cert.MobaIdeal.Gen.run_main m g
    · run_from Cert.MobaRefIdeal.Value.run m' g'
      obtain ⟨f0, f1, f3⟩ := Cert.MobaRefIdeal.Point.pre_fin _ _ _ _ (hpre c)
      obtain ⟨h0, h1, h2, h3⟩ := hagree c
      rw [Cert.MobaRefIdeal.Read.val_main_v69_eq, h0, h1, h2, h3]
      refine Eq.trans ?_ (Cert.MobaIdeal.Point.final4 m c f0 f1 f3).symm
      exact Cert.MobaRefIdeal.Point.ref_eq _ _ _ _ f0 f1
  · trivial
  · pair_intro
    · run_from Cert.ProjIdeal.Gen.run_main m g
    · run_from Cert.ProjRefIdeal.Value.run m' g'
      refine Eq.trans ?_ (Cert.ProjIdeal.Point.final m c).symm
      funext i
      idx_vars i
      exact Cert.ProjRefIdeal.Point.ref_at _ _ _ _ _
  · trivial
  · pair_intro
    · run_from Cert.FfnLastSIdeal.Gen.run_main m g
    · run_from Cert.FfnLastSRefIdeal.Value.run m' g'
      obtain ⟨h0, h1, h2, h3, h4⟩ := hagree c
      rw [Cert.FfnLastSRefIdeal.Read.val_main_v32_eq, h0, h1, h2, h3, h4]
      refine Eq.trans ?_ (Cert.FfnLastSIdeal.Point.final m c).symm
      funext i
      idx_vars i
      exact Cert.FfnLastSRefIdeal.Point.ref_at _ _ _ _ _ _ _
  · trivial
  · pair_intro
    · run_from Cert.SconvSIdeal.Gen.run_main m g
    · run_from Cert.SconvSRefIdeal.Value.run m' g'
      · refine (Cert.SconvSRefIdeal.Read.val_main_v27_eq _ _ _ _ _ _).trans (Eq.trans ?_ (Cert.SconvSIdeal.Point.final7 m c).symm)
        funext i
        idx_vars i
        rw [(hagree c).2.2.2.2.2]
        exact Cert.SconvSRefIdeal.Point.ref_at7 _ _ _ _ _ _ _ _
      · refine (Cert.SconvSRefIdeal.Read.val_main_v18_eq _ _ _).trans (Eq.trans ?_ (Cert.SconvSIdeal.Point.final8 m c).symm)
        funext i
        idx_vars i
        exact Cert.SconvSRefIdeal.Point.ref_at8 _ _ _ _ _
  · trivial
  · pair_intro
    · run_from Cert.ConfSIdeal.Gen.run_main m g
    · run_from Cert.ConfSRefIdeal.Value.run m' g'
      · obtain ⟨h0, h1, h2, h3, h4, h5, h6, h7, h8⟩ := hagree c
        rw [Cert.ConfSRefIdeal.Read.val_main_v60_eq, h0, h1, h2, h3, h4, h5, h6, h7, h8]
        refine Eq.trans ?_ (Cert.ConfSIdeal.Point.final9 m c).symm
        funext i
        idx_vars i
        exact Cert.ConfSRefIdeal.Point.ref_at9 _ _ _ _ _ _ _ _ _ _ _
      · refine (Cert.ConfSRefIdeal.Read.val_main_v23_eq _ _ _).trans (Eq.trans ?_ (Cert.ConfSIdeal.Point.final10 m c).symm)
        funext i
        idx_vars i
        exact Cert.ConfSRefIdeal.Point.ref_at10 _ _ _ _ _⟩

end Cert.Proof

end
